-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_places_in_range [hPre_places_in_range : Cert.Pre_places_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_places_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_places_in_range [hPre_places_in_range : Cert.Pre_places_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_places_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_places_in_range [hKernel2Ideal : Cert.Kernel2Ideal.Facts] [hPre_places_in_range : Cert.Pre_places_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_places_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_places_in_range [hReference2Ideal : Cert.Reference2Ideal.Facts] [hPre_places_in_range : Cert.Pre_places_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_places_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v63) = v4 c
          ∧ r.2.mem ((c.tc : Thread Cert.ReferenceIdeal.nD Cert.ReferenceIdeal.τ).loc Cert.ReferenceIdeal.main_v64) = v5 c
          ∧ r.2.mem ((c.tc : Thread Cert.ReferenceIdeal.nD Cert.ReferenceIdeal.τ).loc Cert.ReferenceIdeal.main_v65) = v6 c
          ∧ r.2.mem ((c.tc : Thread Cert.ReferenceIdeal.nD Cert.ReferenceIdeal.τ).loc Cert.ReferenceIdeal.main_v66) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_places_in_range [hKernel2Ideal : Cert.Kernel2Ideal.Facts] [hReference2Ideal : Cert.Reference2Ideal.Facts] [hPre_places_in_range : Cert.Pre_places_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_places_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v145) = v0 c
          ∧ r.2.mem ((c.tc : Thread Cert.Reference2Ideal.nD Cert.Reference2Ideal.τ).loc Cert.Reference2Ideal.main_v148) = v1 c
          ∧ r.2.mem ((c.tc : Thread Cert.Reference2Ideal.nD Cert.Reference2Ideal.τ).loc Cert.Reference2Ideal.main_v151) = v2 c
          ∧ r.2.mem ((c.tc : Thread Cert.Reference2Ideal.nD Cert.Reference2Ideal.τ).loc Cert.Reference2Ideal.main_v154) = v3 c
          ∧ r.2.mem ((c.tc : Thread Cert.Reference2Ideal.nD Cert.Reference2Ideal.τ).loc Cert.Reference2Ideal.main_v161) = v4 c
          ∧ r.2.mem ((c.tc : Thread Cert.Reference2Ideal.nD Cert.Reference2Ideal.τ).loc Cert.Reference2Ideal.main_v164) = v5 c
          ∧ r.2.mem ((c.tc : Thread Cert.Reference2Ideal.nD Cert.Reference2Ideal.τ).loc Cert.Reference2Ideal.main_v171) = v6 c
          ∧ r.2.mem ((c.tc : Thread Cert.Reference2Ideal.nD Cert.Reference2Ideal.τ).loc Cert.Reference2Ideal.main_v174) = v7 c
          ∧ r.2.mem ((c.tc : Thread Cert.Reference2Ideal.nD Cert.Reference2Ideal.τ).loc Cert.Reference2Ideal.main_v142) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_in_range : Cert.Pre_in_range.Facts) (hPre_places_in_range : Cert.Pre_places_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Kernel2Ideal_pre_places_in_range (hKernel2Ideal := hKernel2Ideal) (hPre_places_in_range := hPre_places_in_range)
    ∧ quiescent_Reference2Ideal (hReference2Ideal := hReference2Ideal)
    ∧ quiescent_Reference2Ideal_pre_places_in_range (hReference2Ideal := hReference2Ideal) (hPre_places_in_range := hPre_places_in_range)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_Kernel2_Kernel2Ideal
    ∧ algebraic_Kernel2Ideal_Reference2Ideal_pre_places_in_range (hKernel2Ideal := hKernel2Ideal) (hReference2Ideal := hReference2Ideal) (hPre_places_in_range := hPre_places_in_range)
-- ==== Pre_in_range.lean ====
abbrev S2x32x64x96 : Shape := ⟨4, ![2, 32, 64, 96]⟩
abbrev S2x6144 : Shape := ⟨2, ![2, 6144]⟩
abbrev S_ : Shape := ⟨0, ![]⟩

class Facts : Prop where
  bcast_S_S2x6144 : S_.BroadcastsInDim S2x6144 (![] : Fin 0 → Fin S2x6144.rank)
  reducesTo_S2x6144_S_d0_1 : S2x6144.ReducesTo [0, 1] S_
  h_S_ : 0 < S_.numel

variable [Facts]

def fn {F : FTy → Type} [FloatOps F] (main_arg0 : FVec F S2x32x64x96 .f32) (main_arg1 : FVec F S2x32x64x96 .f32) (main_arg2 : IVec S2x6144 32) (main_arg3 : IVec S2x6144 32) : IVec S_ 1 :=
  let main_c : IVec S_ 32 := constantI S_ 32 0#32
  let main_v0 : IVec S2x6144 32 := broadcastInDim S2x6144 ![] bcast_S_S2x6144 main_c
  let main_v1 : IVec S2x6144 1 := cmpi .sge main_arg2 main_v0
  let main_c_0 : IVec S_ 32 := constantI S_ 32 6144#32
  let main_v2 : IVec S2x6144 32 := broadcastInDim S2x6144 ![] bcast_S_S2x6144 main_c_0
  let main_v3 : IVec S2x6144 1 := cmpi .slt main_arg2 main_v2
  let main_v4 : IVec S2x6144 1 := andi main_v1 main_v3
  let main_c_1 : IVec S_ 32 := constantI S_ 32 0#32
  let main_v5 : IVec S2x6144 32 := broadcastInDim S2x6144 ![] bcast_S_S2x6144 main_c_1
  let main_v6 : IVec S2x6144 1 := cmpi .sge main_arg3 main_v5
  let main_v7 : IVec S2x6144 1 := andi main_v4 main_v6
  let main_c_2 : IVec S_ 32 := constantI S_ 32 6144#32
  let main_v8 : IVec S2x6144 32 := broadcastInDim S2x6144 ![] bcast_S_S2x6144 main_c_2
  let main_v9 : IVec S2x6144 1 := cmpi .slt main_arg3 main_v8
  let main_v10 : IVec S2x6144 1 := andi main_v7 main_v9
  let main_c_3 : IVec S_ 1 := constantI S_ 1 1#1
  let main_v11 : IVec S_ 1 := (fun x v => Host.reduce IntOp.andi x v reducesTo_S2x6144_S_d0_1 h_S_) main_v10 main_c_3
  main_v11
-- ==== Pre_places_in_range.lean ====
abbrev S2x1x6144 : Shape := ⟨3, ![2, 1, 6144]⟩
abbrev S_ : Shape := ⟨0, ![]⟩

class Facts : Prop where
  bcast_S_S2x1x6144 : S_.BroadcastsInDim S2x1x6144 (![] : Fin 0 → Fin S2x1x6144.rank)
  reducesTo_S2x1x6144_S_d0_1_2 : S2x1x6144.ReducesTo [0, 1, 2] S_
  h_S_ : 0 < S_.numel

variable [Facts]

def fn_part1 {F : FTy → Type} [FloatOps F] (main_arg9 : IVec S2x1x6144 32) (main_v16 : IVec S2x1x6144 1) (main_c_5 : IVec S_ 32) : IVec S_ 1 :=
  let main_v17 : IVec S2x1x6144 32 := broadcastInDim S2x1x6144 ![] bcast_S_S2x1x6144 main_c_5
  let main_v18 : IVec S2x1x6144 1 := cmpi .sge main_arg9 main_v17
  let main_v19 : IVec S2x1x6144 1 := andi main_v16 main_v18
  let main_c_6 : IVec S_ 32 := constantI S_ 32 6144#32
  let main_v20 : IVec S2x1x6144 32 := broadcastInDim S2x1x6144 ![] bcast_S_S2x1x6144 main_c_6
  let main_v21 : IVec S2x1x6144 1 := cmpi .slt main_arg9 main_v20
  let main_v22 : IVec S2x1x6144 1 := andi main_v19 main_v21
  let main_c_7 : IVec S_ 1 := constantI S_ 1 1#1
  let main_v23 : IVec S_ 1 := (fun x v => Host.reduce IntOp.andi x v reducesTo_S2x1x6144_S_d0_1_2 h_S_) main_v22 main_c_7
  main_v23

def fn {F : FTy → Type} [FloatOps F] (main_arg0 : FVec F S2x1x6144 .f32) (main_arg1 : FVec F S2x1x6144 .f32) (main_arg2 : IVec S2x1x6144 32) (main_arg3 : FVec F S2x1x6144 .f32) (main_arg4 : FVec F S2x1x6144 .f32) (main_arg5 : FVec F S2x1x6144 .f32) (main_arg6 : IVec S2x1x6144 32) (main_arg7 : FVec F S2x1x6144 .f32) (main_arg8 : IVec S2x1x6144 32) (main_arg9 : IVec S2x1x6144 32) (main_arg10 : FVec F S2x1x6144 .f32) (main_arg11 : FVec F S2x1x6144 .f32) : IVec S_ 1 :=
  let main_c : IVec S_ 32 := constantI S_ 32 0#32
  let main_v0 : IVec S2x1x6144 32 := broadcastInDim S2x1x6144 ![] bcast_S_S2x1x6144 main_c
  let main_v1 : IVec S2x1x6144 1 := cmpi .sge main_arg2 main_v0
  let main_c_0 : IVec S_ 32 := constantI S_ 32 6144#32
  let main_v2 : IVec S2x1x6144 32 := broadcastInDim S2x1x6144 ![] bcast_S_S2x1x6144 main_c_0
  let main_v3 : IVec S2x1x6144 1 := cmpi .slt main_arg2 main_v2
  let main_v4 : IVec S2x1x6144 1 := andi main_v1 main_v3
  let main_c_1 : IVec S_ 32 := constantI S_ 32 0#32
  let main_v5 : IVec S2x1x6144 32 := broadcastInDim S2x1x6144 ![] bcast_S_S2x1x6144 main_c_1
  let main_v6 : IVec S2x1x6144 1 := cmpi .sge main_arg6 main_v5
  let main_v7 : IVec S2x1x6144 1 := andi main_v4 main_v6
  let main_c_2 : IVec S_ 32 := constantI S_ 32 6144#32
  let main_v8 : IVec S2x1x6144 32 := broadcastInDim S2x1x6144 ![] bcast_S_S2x1x6144 main_c_2
  let main_v9 : IVec S2x1x6144 1 := cmpi .slt main_arg6 main_v8
  let main_v10 : IVec S2x1x6144 1 := andi main_v7 main_v9
  let main_c_3 : IVec S_ 32 := constantI S_ 32 0#32
  let main_v11 : IVec S2x1x6144 32 := broadcastInDim S2x1x6144 ![] bcast_S_S2x1x6144 main_c_3
  let main_v12 : IVec S2x1x6144 1 := cmpi .sge main_arg8 main_v11
  let main_v13 : IVec S2x1x6144 1 := andi main_v10 main_v12
  let main_c_4 : IVec S_ 32 := constantI S_ 32 6144#32
  let main_v14 : IVec S2x1x6144 32 := broadcastInDim S2x1x6144 ![] bcast_S_S2x1x6144 main_c_4
  let main_v15 : IVec S2x1x6144 1 := cmpi .slt main_arg8 main_v14
  let main_v16 : IVec S2x1x6144 1 := andi main_v13 main_v15
  let main_c_5 : IVec S_ 32 := constantI S_ 32 0#32
  fn_part1 (F := F) main_arg9 main_v16 main_c_5
-- ==== Kernel.lean ====
abbrev S2x32x64x96 : Shape := ⟨4, ![2, 32, 64, 96]⟩
abbrev S2x6144 : Shape := ⟨2, ![2, 6144]⟩
abbrev S2x32x6144 : Shape := ⟨3, ![2, 32, 6144]⟩
abbrev S2x1x6144 : Shape := ⟨3, ![2, 1, 6144]⟩
abbrev S1x32x512 : Shape := ⟨3, ![1, 32, 512]⟩
abbrev S1x32x6144 : Shape := ⟨3, ![1, 32, 6144]⟩
abbrev S1x1x6144 : Shape := ⟨3, ![1, 1, 6144]⟩
abbrev S32x512 : Shape := ⟨2, ![32, 512]⟩
abbrev S32x6144 : Shape := ⟨2, ![32, 6144]⟩
abbrev S512x6144 : Shape := ⟨2, ![512, 6144]⟩
abbrev S512 : Shape := ⟨1, ![512]⟩
abbrev S512x1 : Shape := ⟨2, ![512, 1]⟩
abbrev S1x1x512 : Shape := ⟨3, ![1, 1, 512]⟩
abbrev S6144 : Shape := ⟨1, ![6144]⟩
abbrev S1x6144 : Shape := ⟨2, ![1, 6144]⟩

abbrev nBuf : Space → Nat
  | .hbm => 16
  | .vmem => 24
  | .smem => 0
  | _ => 0

abbrev bufTy : (tb : Table) → Fin (tcTables nBuf tb) → BufTy
  | .hbm, ⟨0, _⟩ => ⟨S2x32x64x96, .f32⟩
  | .hbm, ⟨1, _⟩ => ⟨S2x32x64x96, .f32⟩
  | .hbm, ⟨2, _⟩ => ⟨S2x6144, .i32⟩
  | .hbm, ⟨3, _⟩ => ⟨S2x6144, .i32⟩
  | .hbm, ⟨4, _⟩ => ⟨S2x32x6144, .f32⟩
  | .hbm, ⟨5, _⟩ => ⟨S2x32x6144, .f32⟩
  | .hbm, ⟨6, _⟩ => ⟨S2x1x6144, .i32⟩
  | .hbm, ⟨7, _⟩ => ⟨S2x1x6144, .i32⟩
  | .hbm, ⟨8, _⟩ => ⟨S2x1x6144, .f32⟩
  | .hbm, ⟨9, _⟩ => ⟨S2x1x6144, .f32⟩
  | .hbm, ⟨10, _⟩ => ⟨S2x1x6144, .i32⟩
  | .hbm, ⟨11, _⟩ => ⟨S2x1x6144, .f32⟩
  | .hbm, ⟨12, _⟩ => ⟨S2x1x6144, .f32⟩
  | .hbm, ⟨13, _⟩ => ⟨S2x1x6144, .f32⟩
  | .hbm, ⟨14, _⟩ => ⟨S2x1x6144, .i32⟩
  | .hbm, ⟨15, _⟩ => ⟨S2x1x6144, .f32⟩
  | .local _ .vmem, ⟨0, _⟩ => ⟨S1x32x512, .f32⟩
  | .local _ .vmem, ⟨1, _⟩ => ⟨S1x32x512, .f32⟩
  | .local _ .vmem, ⟨2, _⟩ => ⟨S1x32x6144, .f32⟩
  | .local _ .vmem, ⟨3, _⟩ => ⟨S1x32x6144, .f32⟩
  | .local _ .vmem, ⟨4, _⟩ => ⟨S1x1x6144, .i32⟩
  | .local _ .vmem, ⟨5, _⟩ => ⟨S1x1x6144, .i32⟩
  | .local _ .vmem, ⟨6, _⟩ => ⟨S1x1x6144, .i32⟩
  | .local _ .vmem, ⟨7, _⟩ => ⟨S1x1x6144, .i32⟩
  | .local _ .vmem, ⟨8, _⟩ => ⟨S1x1x6144, .f32⟩
  | .local _ .vmem, ⟨9, _⟩ => ⟨S1x1x6144, .f32⟩
  | .local _ .vmem, ⟨10, _⟩ => ⟨S1x1x6144, .f32⟩
  | .local _ .vmem, ⟨11, _⟩ => ⟨S1x1x6144, .f32⟩
  | .local _ .vmem, ⟨12, _⟩ => ⟨S1x1x6144, .i32⟩
  | .local _ .vmem, ⟨13, _⟩ => ⟨S1x1x6144, .i32⟩
  | .local _ .vmem, ⟨14, _⟩ => ⟨S1x1x6144, .f32⟩
  | .local _ .vmem, ⟨15, _⟩ => ⟨S1x1x6144, .f32⟩
  | .local _ .vmem, ⟨16, _⟩ => ⟨S1x1x6144, .f32⟩
  | .local _ .vmem, ⟨17, _⟩ => ⟨S1x1x6144, .f32⟩
  | .local _ .vmem, ⟨18, _⟩ => ⟨S1x1x6144, .f32⟩
  | .local _ .vmem, ⟨19, _⟩ => ⟨S1x1x6144, .f32⟩
  | .local _ .vmem, ⟨20, _⟩ => ⟨S1x1x6144, .i32⟩
  | .local _ .vmem, ⟨21, _⟩ => ⟨S1x1x6144, .i32⟩
  | .local _ .vmem, ⟨22, _⟩ => ⟨S1x1x6144, .f32⟩
  | .local _ .vmem, ⟨23, _⟩ => ⟨S1x1x6144, .f32⟩
  | _, _ => ⟨S2x32x64x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev main_v4_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 12], ![false, false]⟩

def k0_off1 (i : grid0.Coords) : Fin 3 → Nat :=
  let c0_10 : Index := 0#32
  let c0_11 : Index := 0#32
  let arg1 : BitVec 32 := BitVec.ofNat 32 (i 1).val
  let c512_i32 : BitVec 32 := 512#32
  let v0 : BitVec 32 := Scalar.muli arg1 c512_i32
  let v24 : Index := Scalar.indexCast v0
  ![0, 0, v24.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x6144 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x6144 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x6144 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x6144 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x6144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2x32x64x96 : Shape := ⟨4, ![2, 32, 64, 96]⟩
abbrev S2x6144 : Shape := ⟨2, ![2, 6144]⟩
abbrev S2x32x6144 : Shape := ⟨3, ![2, 32, 6144]⟩
abbrev S2x6144x32 : Shape := ⟨3, ![2, 6144, 32]⟩
abbrev S_ : Shape := ⟨0, ![]⟩
abbrev S2x6144x6144 : Shape := ⟨3, ![2, 6144, 6144]⟩
abbrev S6144 : Shape := ⟨1, ![6144]⟩
abbrev S2x6144x1 : Shape := ⟨3, ![2, 6144, 1]⟩
abbrev S2x1x6144 : Shape := ⟨3, ![2, 1, 6144]⟩
abbrev S6144x1 : Shape := ⟨2, ![6144, 1]⟩
abbrev S2x6144x2 : Shape := ⟨3, ![2, 6144, 2]⟩

abbrev nBuf : Space → Nat
  | .hbm => 109
  | .vmem => 0
  | .smem => 0
  | _ => 0

abbrev bufTy : (tb : Table) → Fin (tcTables nBuf tb) → BufTy
  | .hbm, ⟨0, _⟩ => ⟨S2x32x64x96, .f32⟩
  | .hbm, ⟨1, _⟩ => ⟨S2x32x64x96, .f32⟩
  | .hbm, ⟨2, _⟩ => ⟨S2x6144, .i32⟩
  | .hbm, ⟨3, _⟩ => ⟨S2x6144, .i32⟩
  | .hbm, ⟨4, _⟩ => ⟨S2x32x6144, .f32⟩
  | .hbm, ⟨5, _⟩ => ⟨S2x6144x32, .f32⟩
  | .hbm, ⟨6, _⟩ => ⟨S_, .f32⟩
  | .hbm, ⟨7, _⟩ => ⟨S2x6144x32, .f32⟩
  | .hbm, ⟨8, _⟩ => ⟨S2x6144x32, .f32⟩
  | .hbm, ⟨9, _⟩ => ⟨S2x32x6144, .f32⟩
  | .hbm, ⟨10, _⟩ => ⟨S2x6144x32, .f32⟩
  | .hbm, ⟨11, _⟩ => ⟨S_, .f32⟩
  | .hbm, ⟨12, _⟩ => ⟨S2x6144x32, .f32⟩
  | .hbm, ⟨13, _⟩ => ⟨S2x6144x32, .f32⟩
  | .hbm, ⟨14, _⟩ => ⟨S2x32x6144, .f32⟩
  | .hbm, ⟨15, _⟩ => ⟨S2x6144x6144, .f32⟩
  | .hbm, ⟨16, _⟩ => ⟨S6144, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2x6144, .i32⟩
  | .hbm, ⟨21, _⟩ => ⟨S2x6144, .i32⟩
  | .hbm, ⟨22, _⟩ => ⟨S_, .i32⟩
  | .hbm, ⟨23, _⟩ => ⟨S2x6144, .i32⟩
  | .hbm, ⟨24, _⟩ => ⟨S2x6144, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S2x6144, .i32⟩
  | .hbm, ⟨29, _⟩ => ⟨S2x6144, .i32⟩
  | .hbm, ⟨30, _⟩ => ⟨S_, .i32⟩
  | .hbm, ⟨31, _⟩ => ⟨S2x6144, .i32⟩
  | .hbm, ⟨32, _⟩ => ⟨S2x6144, .i32⟩
  | .hbm, ⟨33, _⟩ => ⟨S_, .f32⟩
  | .hbm, ⟨34, _⟩ => ⟨S2x6144, .f32⟩
  | .hbm, ⟨35, _⟩ => ⟨S_, .f32⟩
  | .hbm, ⟨36, _⟩ => ⟨S2x6144, .f32⟩
  | .hbm, ⟨37, _⟩ => ⟨S2x6144x1, .f32⟩
  | .hbm, ⟨38, _⟩ => ⟨S2x6144x6144, .f32⟩
  | .hbm, ⟨39, _⟩ => ⟨S2x6144x6144, .f32⟩
  | .hbm, ⟨40, _⟩ => ⟨S2x6144x6144, .f32⟩
  | .hbm, ⟨41, _⟩ => ⟨S_, .f32⟩
  | .hbm, ⟨42, _⟩ => ⟨S2x6144, .f32⟩
  | .hbm, ⟨43, _⟩ => ⟨S_, .f32⟩
  | .hbm, ⟨44, _⟩ => ⟨S2x6144, .f32⟩
  | .hbm, ⟨45, _⟩ => ⟨S_, .f32⟩
  | .hbm, ⟨46, _⟩ => ⟨S2x6144, .f32⟩
  | .hbm, ⟨47, _⟩ => ⟨S2x1x6144, .f32⟩
  | .hbm, ⟨48, _⟩ => ⟨S2x6144x6144, .f32⟩
  | .hbm, ⟨49, _⟩ => ⟨S2x6144x6144, .f32⟩
  | .hbm, ⟨50, _⟩ => ⟨S2x6144x6144, .f32⟩
  | .hbm, ⟨51, _⟩ => ⟨S_, .f32⟩
  | .hbm, ⟨52, _⟩ => ⟨S2x6144, .f32⟩
  | .hbm, ⟨53, _⟩ => ⟨S2x6144x6144, .i32⟩
  | .hbm, ⟨54, _⟩ => ⟨S_, .f32⟩
  | .hbm, ⟨55, _⟩ => ⟨S_, .i32⟩
  | .hbm, ⟨56, _⟩ => ⟨S2x6144, .f32⟩
  | .hbm, ⟨57, _⟩ => ⟨S2x6144, .i32⟩
  | .hbm, ⟨58, _⟩ => ⟨S2x6144x6144, .i32⟩
  | .hbm, ⟨59, _⟩ => ⟨S_, .f32⟩
  | .hbm, ⟨60, _⟩ => ⟨S_, .i32⟩
  | .hbm, ⟨61, _⟩ => ⟨S2x6144, .f32⟩
  | .hbm, ⟨62, _⟩ => ⟨S2x6144, .i32⟩
  | .hbm, ⟨63, _⟩ => ⟨S_, .i32⟩
  | .hbm, ⟨64, _⟩ => ⟨S6144, .i32⟩
  | .hbm, ⟨65, _⟩ => ⟨S6144, .i1⟩
  | .hbm, ⟨66, _⟩ => ⟨S_, .i32⟩
  | .hbm, ⟨67, _⟩ => ⟨S6144, .i32⟩
  | .hbm, ⟨68, _⟩ => ⟨S6144, .i32⟩
  | .hbm, ⟨69, _⟩ => ⟨S6144, .i32⟩
  | .hbm, ⟨70, _⟩ => ⟨S_, .i32⟩
  | .hbm, ⟨71, _⟩ => ⟨S2x6144, .i32⟩
  | .hbm, ⟨72, _⟩ => ⟨S2x6144, .i1⟩
  | .hbm, ⟨73, _⟩ => ⟨S_, .i32⟩
  | .hbm, ⟨74, _⟩ => ⟨S2x6144, .i32⟩
  | .hbm, ⟨75, _⟩ => ⟨S2x6144, .i32⟩
  | .hbm, ⟨76, _⟩ => ⟨S2x6144, .i32⟩
  | .hbm, ⟨77, _⟩ => ⟨S6144x1, .i32⟩
  | .hbm, ⟨78, _⟩ => ⟨S2x6144x1, .i32⟩
  | .hbm, ⟨79, _⟩ => ⟨S2x6144x1, .i32⟩
  | .hbm, ⟨80, _⟩ => ⟨S2x6144x2, .i32⟩
  | .hbm, ⟨81, _⟩ => ⟨S2x6144, .f32⟩
  | .hbm, ⟨82, _⟩ => ⟨S_, .i32⟩
  | .hbm, ⟨83, _⟩ => ⟨S2x6144, .i32⟩
  | .hbm, ⟨84, _⟩ => ⟨S2x6144, .i1⟩
  | .hbm, ⟨85, _⟩ => ⟨S_, .i32⟩
  | .hbm, ⟨86, _⟩ => ⟨S2x6144, .i32⟩
  | .hbm, ⟨87, _⟩ => ⟨S2x6144, .i32⟩
  | .hbm, ⟨88, _⟩ => ⟨S2x6144, .i32⟩
  | .hbm, ⟨89, _⟩ => ⟨S_, .i32⟩
  | .hbm, ⟨90, _⟩ => ⟨S6144, .i32⟩
  | .hbm, ⟨91, _⟩ => ⟨S6144, .i1⟩
  | .hbm, ⟨92, _⟩ => ⟨S_, .i32⟩
  | .hbm, ⟨93, _⟩ => ⟨S6144, .i32⟩
  | .hbm, ⟨94, _⟩ => ⟨S6144, .i32⟩
  | .hbm, ⟨95, _⟩ => ⟨S6144, .i32⟩
  | .hbm, ⟨96, _⟩ => ⟨S2x6144x1, .i32⟩
  | .hbm, ⟨97, _⟩ => ⟨S6144x1, .i32⟩
  | .hbm, ⟨98, _⟩ => ⟨S2x6144x1, .i32⟩
  | .hbm, ⟨99, _⟩ => ⟨S2x6144x2, .i32⟩
  | .hbm, ⟨100, _⟩ => ⟨S2x6144, .f32⟩
  | .hbm, ⟨101, _⟩ => ⟨S2x1x6144, .f32⟩
  | .hbm, ⟨102, _⟩ => ⟨S2x1x6144, .f32⟩
  | .hbm, ⟨103, _⟩ => ⟨S2x1x6144, .i32⟩
  | .hbm, ⟨104, _⟩ => ⟨S2x1x6144, .f32⟩
  | .hbm, ⟨105, _⟩ => ⟨S2x1x6144, .f32⟩
  | .hbm, ⟨106, _⟩ => ⟨S2x1x6144, .f32⟩
  | .hbm, ⟨107, _⟩ => ⟨S2x1x6144, .i32⟩
  | .hbm, ⟨108, _⟩ => ⟨S2x1x6144, .f32⟩
  | _, _ => ⟨S2x32x64x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_c_2 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_cst_8 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_9 : Ref sig .tc := ⟨.hbm, 51, rfl⟩
abbrev main_v26 : Ref sig .tc := ⟨.hbm, 52, rfl⟩
abbrev main_call2_v0 : Ref sig .tc := ⟨.hbm, 53, rfl⟩
abbrev main_call2_cst : Ref sig .tc := ⟨.hbm, 54, rfl⟩
abbrev main_call2_c : Ref sig .tc := ⟨.hbm, 55, rfl⟩
abbrev main_call2_v1_0 : Ref sig .tc := ⟨.hbm, 56, rfl⟩
abbrev main_v27 : Ref sig .tc := ⟨.hbm, 57, rfl⟩
abbrev main_call3_v0 : Ref sig .tc := ⟨.hbm, 58, rfl⟩
abbrev main_call3_cst : Ref sig .tc := ⟨.hbm, 59, rfl⟩
abbrev main_call3_c : Ref sig .tc := ⟨.hbm, 60, rfl⟩
abbrev main_call3_v1_0 : Ref sig .tc := ⟨.hbm, 61, rfl⟩
abbrev main_v28 : Ref sig .tc := ⟨.hbm, 62, rfl⟩
abbrev main_c_10 : Ref sig .tc := ⟨.hbm, 63, rfl⟩
abbrev main_v29 : Ref sig .tc := ⟨.hbm, 64, rfl⟩
abbrev main_v30 : Ref sig .tc := ⟨.hbm, 65, rfl⟩
abbrev main_c_11 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_12 : Ref sig .tc := ⟨.hbm, 70, rfl⟩
abbrev main_v34 : Ref sig .tc := ⟨.hbm, 71, rfl⟩
abbrev main_v35 : Ref sig .tc := ⟨.hbm, 72, rfl⟩
abbrev main_c_13 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_14 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_16 : Ref sig .tc := ⟨.hbm, 89, rfl⟩
abbrev main_v49 : Ref sig .tc := ⟨.hbm, 90, rfl⟩
abbrev main_v50 : Ref sig .tc := ⟨.hbm, 91, rfl⟩
abbrev main_c_17 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩

abbrev nD : Nat := 1
abbrev τ : Topo := Topo.v7x

variable {F : FTy → Type} [FloatOps F]
-- ==== Kernel2.lean ====
abbrev S2x1x6144 : Shape := ⟨3, ![2, 1, 6144]⟩
abbrev S1x1 : Shape := ⟨2, ![1, 1]⟩
abbrev S2x512 : Shape := ⟨2, ![2, 512]⟩
abbrev S2x2x512 : Shape := ⟨3, ![2, 2, 512]⟩
abbrev S512x6144 : Shape := ⟨2, ![512, 6144]⟩
abbrev S1x1x6144 : Shape := ⟨3, ![1, 1, 6144]⟩
abbrev S6144 : Shape := ⟨1, ![6144]⟩
abbrev S1x6144 : Shape := ⟨2, ![1, 6144]⟩
abbrev S1 : Shape := ⟨1, ![1]⟩
abbrev S512 : Shape := ⟨1, ![512]⟩
abbrev S512x1 : Shape := ⟨2, ![512, 1]⟩
abbrev S1x512 : Shape := ⟨2, ![1, 512]⟩
abbrev S1x1x512 : Shape := ⟨3, ![1, 1, 512]⟩

abbrev nBuf : Space → Nat
  | .hbm => 21
  | .vmem => 21
  | .smem => 0
  | _ => 0

abbrev bufTy : (tb : Table) → Fin (tcTables nBuf tb) → BufTy
  | .hbm, ⟨0, _⟩ => ⟨S2x1x6144, .f32⟩
  | .hbm, ⟨1, _⟩ => ⟨S2x1x6144, .f32⟩
  | .hbm, ⟨2, _⟩ => ⟨S2x1x6144, .i32⟩
  | .hbm, ⟨3, _⟩ => ⟨S2x1x6144, .f32⟩
  | .hbm, ⟨4, _⟩ => ⟨S2x1x6144, .f32⟩
  | .hbm, ⟨5, _⟩ => ⟨S2x1x6144, .f32⟩
  | .hbm, ⟨6, _⟩ => ⟨S2x1x6144, .i32⟩
  | .hbm, ⟨7, _⟩ => ⟨S2x1x6144, .f32⟩
  | .hbm, ⟨8, _⟩ => ⟨S2x1x6144, .i32⟩
  | .hbm, ⟨9, _⟩ => ⟨S2x1x6144, .i32⟩
  | .hbm, ⟨10, _⟩ => ⟨S2x1x6144, .f32⟩
  | .hbm, ⟨11, _⟩ => ⟨S2x1x6144, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S2x512, .f32⟩
  | .hbm, ⟨20, _⟩ => ⟨S2x2x512, .f32⟩
  | .local _ .vmem, ⟨0, _⟩ => ⟨S2x1x6144, .f32⟩
  | .local _ .vmem, ⟨1, _⟩ => ⟨S2x1x6144, .f32⟩
  | .local _ .vmem, ⟨2, _⟩ => ⟨S2x1x6144, .i32⟩
  | .local _ .vmem, ⟨3, _⟩ => ⟨S2x1x6144, .f32⟩
  | .local _ .vmem, ⟨4, _⟩ => ⟨S2x1x6144, .f32⟩
  | .local _ .vmem, ⟨5, _⟩ => ⟨S2x1x6144, .f32⟩
  | .local _ .vmem, ⟨6, _⟩ => ⟨S2x1x6144, .i32⟩
  | .local _ .vmem, ⟨7, _⟩ => ⟨S2x1x6144, .f32⟩
  | .local _ .vmem, ⟨8, _⟩ => ⟨S2x1x6144, .i32⟩
  | .local _ .vmem, ⟨9, _⟩ => ⟨S2x1x6144, .i32⟩
  | .local _ .vmem, ⟨10, _⟩ => ⟨S2x1x6144, .f32⟩
  | .local _ .vmem, ⟨11, _⟩ => ⟨S2x1x6144, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S2x512, .f32⟩
  | .local _ .vmem, ⟨17, _⟩ => ⟨S2x512, .f32⟩
  | .local _ .vmem, ⟨18, _⟩ => ⟨S2x512, .f32⟩
  | .local _ .vmem, ⟨19, _⟩ => ⟨S2x512, .f32⟩
  | .local _ .vmem, ⟨20, _⟩ => ⟨S2x2x512, .f32⟩
  | _, _ => ⟨S2x1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x6144 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x6144 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x6144 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1x6144 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference2Ideal.lean ====
abbrev S2x1x6144 : Shape := ⟨3, ![2, 1, 6144]⟩
abbrev S2x6144 : Shape := ⟨2, ![2, 6144]⟩
abbrev S6144 : Shape := ⟨1, ![6144]⟩
abbrev S_ : Shape := ⟨0, ![]⟩
abbrev S2 : Shape := ⟨1, ![2]⟩
abbrev S2x6144x1 : Shape := ⟨3, ![2, 6144, 1]⟩
abbrev S1x6144 : Shape := ⟨2, ![1, 6144]⟩
abbrev S2x512 : Shape := ⟨2, ![2, 512]⟩
abbrev S2x512x1 : Shape := ⟨3, ![2, 512, 1]⟩
abbrev S2x2x512 : Shape := ⟨3, ![2, 2, 512]⟩
abbrev S1x1 : Shape := ⟨2, ![1, 1]⟩

abbrev nBuf : Space → Nat
  | .hbm => 323
  | .vmem => 0
  | .smem => 0
  | _ => 0

abbrev hbmTy0_0 (i : Nat) : BufTy := match i % 128 with
  | 0 => ⟨S2x1x6144, .f32⟩
  | 1 => ⟨S2x1x6144, .f32⟩
  | 2 => ⟨S2x1x6144, .i32⟩
  | 3 => ⟨S2x1x6144, .f32⟩
  | 4 => ⟨S2x1x6144, .f32⟩
  | 5 => ⟨S2x1x6144, .f32⟩
  | 6 => ⟨S2x1x6144, .i32⟩
  | 7 => ⟨S2x1x6144, .f32⟩
  | 8 => ⟨S2x1x6144, .i32⟩
  | 9 => ⟨S2x1x6144, .i32⟩
  | 10 => ⟨S2x1x6144, .f32⟩
  | 11 => ⟨S2x1x6144, .f32⟩
  | 12 => ⟨S2x6144, .f32⟩
  | 13 => ⟨S2x6144, .f32⟩
  | 14 => ⟨S2x6144, .i32⟩
  | 15 => ⟨S2x6144, .f32⟩
  | 16 => ⟨S2x6144, .f32⟩
  | 17 => ⟨S2x6144, .f32⟩
  | 18 => ⟨S2x6144, .i32⟩
  | 19 => ⟨S2x6144, .f32⟩
  | 20 => ⟨S2x6144, .i32⟩
  | 21 => ⟨S2x6144, .i32⟩
  | 22 => ⟨S2x6144, .f32⟩
  | 23 => ⟨S2x6144, .f32⟩
  | 24 => ⟨S6144, .i32⟩
  | 25 => ⟨S_, .i32⟩
  | 26 => ⟨S2x6144, .i32⟩
  | 27 => ⟨S2x6144, .i1⟩
  | 28 => ⟨S_, .i32⟩
  | 29 => ⟨S2x6144, .i32⟩
  | 30 => ⟨S2x6144, .i1⟩
  | 31 => ⟨S2x6144, .f32⟩
  | 32 => ⟨S2x6144, .f32⟩
  | 33 => ⟨S2x6144, .f32⟩
  | 34 => ⟨S2x6144, .f32⟩
  | 35 => ⟨S_, .f32⟩
  | 36 => ⟨S_, .f32⟩
  | 37 => ⟨S6144, .f32⟩
  | 38 => ⟨S2x6144, .f32⟩
  | 39 => ⟨S2x6144, .f32⟩
  | 40 => ⟨S_, .f32⟩
  | 41 => ⟨S2, .f32⟩
  | 42 => ⟨S2x6144, .i32⟩
  | 43 => ⟨S_, .i32⟩
  | 44 => ⟨S2, .i32⟩
  | 45 => ⟨S_, .i32⟩
  | 46 => ⟨S2, .i32⟩
  | 47 => ⟨S2, .i32⟩
  | 48 => ⟨S2, .f32⟩
  | 49 => ⟨S2, .f32⟩
  | 50 => ⟨S2x6144, .f32⟩
  | 51 => ⟨S2x6144, .f32⟩
  | 52 => ⟨S2x6144, .f32⟩
  | 53 => ⟨S2x6144, .f32⟩
  | 54 => ⟨S_, .f32⟩
  | 55 => ⟨S_, .f32⟩
  | 56 => ⟨S6144, .f32⟩
  | 57 => ⟨S2x6144, .f32⟩
  | 58 => ⟨S2x6144, .f32⟩
  | 59 => ⟨S_, .f32⟩
  | 60 => ⟨S2, .f32⟩
  | 61 => ⟨S2x6144, .i32⟩
  | 62 => ⟨S_, .i32⟩
  | 63 => ⟨S2, .i32⟩
  | 64 => ⟨S_, .i32⟩
  | 65 => ⟨S2, .i32⟩
  | 66 => ⟨S2, .i32⟩
  | 67 => ⟨S2, .f32⟩
  | 68 => ⟨S2, .f32⟩
  | 69 => ⟨S2, .f32⟩
  | 70 => ⟨S_, .f32⟩
  | 71 => ⟨S2, .f32⟩
  | 72 => ⟨S2, .f32⟩
  | 73 => ⟨S2x6144, .i1⟩
  | 74 => ⟨S2x6144, .i1⟩
  | 75 => ⟨S2x6144, .i1⟩
  | 76 => ⟨S2x6144, .i1⟩
  | 77 => ⟨S_, .i32⟩
  | 78 => ⟨S2x6144, .i32⟩
  | 79 => ⟨S2x6144, .i1⟩
  | 80 => ⟨S_, .i32⟩
  | 81 => ⟨S2x6144, .i32⟩
  | 82 => ⟨S2x6144, .i32⟩
  | 83 => ⟨S2x6144, .i32⟩
  | 84 => ⟨S2x6144x1, .i32⟩
  | 85 => ⟨S2x6144, .i32⟩
  | 86 => ⟨S1x6144, .i32⟩
  | 87 => ⟨S2x6144, .i32⟩
  | 88 => ⟨S2x6144, .i1⟩
  | 89 => ⟨S2x6144, .i1⟩
  | 90 => ⟨S2x6144, .i32⟩
  | 91 => ⟨S_, .i32⟩
  | 92 => ⟨S2, .i32⟩
  | 93 => ⟨S2x6144, .i32⟩
  | 94 => ⟨S_, .i32⟩
  | 95 => ⟨S2, .i32⟩
  | 96 => ⟨S_, .i32⟩
  | 97 => ⟨S2, .i32⟩
  | 98 => ⟨S2, .i32⟩
  | 99 => ⟨S2, .f32⟩
  | 100 => ⟨S2, .f32⟩
  | 101 => ⟨S2, .f32⟩
  | 102 => ⟨S2x6144, .i32⟩
  | 103 => ⟨S_, .i32⟩
  | 104 => ⟨S2, .i32⟩
  | 105 => ⟨S2x6144, .i32⟩
  | 106 => ⟨S_, .i32⟩
  | 107 => ⟨S2, .i32⟩
  | 108 => ⟨S_, .i32⟩
  | 109 => ⟨S2, .i32⟩
  | 110 => ⟨S2, .i32⟩
  | 111 => ⟨S2, .f32⟩
  | 112 => ⟨S2, .f32⟩
  | 113 => ⟨S2, .f32⟩
  | 114 => ⟨S2x6144, .f32⟩
  | 115 => ⟨S_, .f32⟩
  | 116 => ⟨S2x6144, .f32⟩
  | 117 => ⟨S2x6144, .f32⟩
  | 118 => ⟨S2x6144, .f32⟩
  | 119 => ⟨S2x6144, .f32⟩
  | 120 => ⟨S2x6144, .f32⟩
  | 121 => ⟨S2x6144, .f32⟩
  | 122 => ⟨S2x6144, .f32⟩
  | 123 => ⟨S2x6144, .f32⟩
  | 124 => ⟨S2x6144, .f32⟩
  | 125 => ⟨S_, .f32⟩
  | 126 => ⟨S2, .f32⟩
  | 127 => ⟨S_, .f32⟩
  | _ => ⟨S2x1x6144, .f32⟩

abbrev hbmTy0_1 (i : Nat) : BufTy := match i % 128 with
  | 0 => ⟨S2, .f32⟩
  | 1 => ⟨S2, .f32⟩
  | 2 => ⟨S2x6144, .f32⟩
  | 3 => ⟨S_, .f32⟩
  | 4 => ⟨S2x6144, .f32⟩
  | 5 => ⟨S2x6144, .f32⟩
  | 6 => ⟨S2x6144, .f32⟩
  | 7 => ⟨S2x6144, .f32⟩
  | 8 => ⟨S2x6144, .f32⟩
  | 9 => ⟨S2x6144, .f32⟩
  | 10 => ⟨S2x6144, .f32⟩
  | 11 => ⟨S2x6144, .f32⟩
  | 12 => ⟨S2x6144, .f32⟩
  | 13 => ⟨S_, .f32⟩
  | 14 => ⟨S2, .f32⟩
  | 15 => ⟨S_, .f32⟩
  | 16 => ⟨S2, .f32⟩
  | 17 => ⟨S2, .f32⟩
  | 18 => ⟨S2, .f32⟩
  | 19 => ⟨S_, .f32⟩
  | 20 => ⟨S2, .f32⟩
  | 21 => ⟨S2, .f32⟩
  | 22 => ⟨S_, .f32⟩
  | 23 => ⟨S2x6144, .f32⟩
  | 24 => ⟨S2x6144, .f32⟩
  | 25 => ⟨S_, .f32⟩
  | 26 => ⟨S2x6144, .f32⟩
  | 27 => ⟨S2x6144, .f32⟩
  | 28 => ⟨S2x6144, .i1⟩
  | 29 => ⟨S2x6144, .f32⟩
  | 30 => ⟨S2x6144, .f32⟩
  | 31 => ⟨S2x6144, .f32⟩
  | 32 => ⟨S_, .f32⟩
  | 33 => ⟨S2x6144, .f32⟩
  | 34 => ⟨S2x6144, .f32⟩
  | 35 => ⟨S_, .f32⟩
  | 36 => ⟨S2x6144, .f32⟩
  | 37 => ⟨S2x6144, .f32⟩
  | 38 => ⟨S_, .f32⟩
  | 39 => ⟨S_, .f32⟩
  | 40 => ⟨S2x6144, .f32⟩
  | 41 => ⟨S2x6144, .f32⟩
  | 42 => ⟨S2x6144, .i1⟩
  | 43 => ⟨S2x6144, .f32⟩
  | 44 => ⟨S2x6144, .f32⟩
  | 45 => ⟨S2x6144, .f32⟩
  | 46 => ⟨S_, .f32⟩
  | 47 => ⟨S2x6144, .f32⟩
  | 48 => ⟨S2x6144, .f32⟩
  | 49 => ⟨S_, .f32⟩
  | 50 => ⟨S2x6144, .f32⟩
  | 51 => ⟨S2x6144, .f32⟩
  | 52 => ⟨S_, .f32⟩
  | 53 => ⟨S_, .f32⟩
  | 54 => ⟨S2x6144, .f32⟩
  | 55 => ⟨S2x6144, .f32⟩
  | 56 => ⟨S2x512, .f32⟩
  | 57 => ⟨S2x512, .i32⟩
  | 58 => ⟨S2x512, .f32⟩
  | 59 => ⟨S2x512, .i32⟩
  | 60 => ⟨S_, .i32⟩
  | 61 => ⟨S2x512, .i32⟩
  | 62 => ⟨S2x512, .i1⟩
  | 63 => ⟨S_, .i32⟩
  | 64 => ⟨S2x512, .i32⟩
  | 65 => ⟨S2x512, .i32⟩
  | 66 => ⟨S2x512, .i32⟩
  | 67 => ⟨S2x512x1, .i32⟩
  | 68 => ⟨S2x2x512, .f32⟩
  | 69 => ⟨S_, .i32⟩
  | 70 => ⟨S2x512, .i32⟩
  | 71 => ⟨S2x512, .i1⟩
  | 72 => ⟨S_, .i32⟩
  | 73 => ⟨S2x512, .i32⟩
  | 74 => ⟨S2x512, .i32⟩
  | 75 => ⟨S2x512, .i32⟩
  | 76 => ⟨S2x512x1, .i32⟩
  | 77 => ⟨S2x2x512, .f32⟩
  | 78 => ⟨S2x2x512, .f32⟩
  | 79 => ⟨S_, .f32⟩
  | 80 => ⟨S_, .f32⟩
  | 81 => ⟨S_, .f32⟩
  | 82 => ⟨S_, .f32⟩
  | 83 => ⟨S1x1, .f32⟩
  | 84 => ⟨S_, .f32⟩
  | 85 => ⟨S_, .f32⟩
  | 86 => ⟨S_, .f32⟩
  | 87 => ⟨S_, .f32⟩
  | 88 => ⟨S1x1, .f32⟩
  | 89 => ⟨S_, .f32⟩
  | 90 => ⟨S_, .f32⟩
  | 91 => ⟨S_, .f32⟩
  | 92 => ⟨S_, .f32⟩
  | 93 => ⟨S1x1, .f32⟩
  | 94 => ⟨S_, .f32⟩
  | 95 => ⟨S_, .f32⟩
  | 96 => ⟨S_, .f32⟩
  | 97 => ⟨S_, .f32⟩
  | 98 => ⟨S1x1, .f32⟩
  | 99 => ⟨S_, .i32⟩
  | 100 => ⟨S_, .i32⟩
  | 101 => ⟨S2x512, .i32⟩
  | 102 => ⟨S2x512, .i32⟩
  | 103 => ⟨S2x512, .i32⟩
  | 104 => ⟨S_, .i32⟩
  | 105 => ⟨S2x512, .i32⟩
  | 106 => ⟨S2x512, .i1⟩
  | 107 => ⟨S2x512, .i32⟩
  | 108 => ⟨S2x512, .i32⟩
  | 109 => ⟨S_, .i32⟩
  | 110 => ⟨S2x512, .i32⟩
  | 111 => ⟨S2x512, .i1⟩
  | 112 => ⟨S2x512, .i1⟩
  | 113 => ⟨S_, .i32⟩
  | 114 => ⟨S2x512, .i32⟩
  | 115 => ⟨S2x512, .i32⟩
  | 116 => ⟨S2x512, .i32⟩
  | 117 => ⟨S2x512, .f32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S2x512, .i32⟩
  | 125 => ⟨S2x512, .i32⟩
  | 126 => ⟨S_, .i32⟩
  | 127 => ⟨S2x512, .i32⟩
  | _ => ⟨S2x1x6144, .f32⟩

abbrev hbmTy0_2 (i : Nat) : BufTy := match i % 128 with
  | 0 => ⟨S2x512, .i1⟩
  | 1 => ⟨S_, .i32⟩
  | 2 => ⟨S2x512, .i32⟩
  | 3 => ⟨S2x512, .i1⟩
  | 4 => ⟨S_, .i32⟩
  | 5 => ⟨S_, .i1⟩
  | 6 => ⟨S2x512, .i1⟩
  | 7 => ⟨S2x512, .i1⟩
  | 8 => ⟨S2x512, .i1⟩
  | 9 => ⟨S2x512, .i32⟩
  | 10 => ⟨S2x512, .i32⟩
  | 11 => ⟨S2x512, .i32⟩
  | 12 => ⟨S2x512, .f32⟩
  | 13 => ⟨S2x512, .f32⟩
  | 14 => ⟨S2x512, .i32⟩
  | 15 => ⟨S2x512, .f32⟩
  | 16 => ⟨S2x512, .f32⟩
  | 17 => ⟨S2x512, .i32⟩
  | 18 => ⟨S2x512, .f32⟩
  | 19 => ⟨S_, .i32⟩
  | 20 => ⟨S_, .i32⟩
  | 21 => ⟨S2x512, .i32⟩
  | 22 => ⟨S2x512, .i32⟩
  | 23 => ⟨S2x512, .i32⟩
  | 24 => ⟨S_, .i32⟩
  | 25 => ⟨S2x512, .i32⟩
  | 26 => ⟨S2x512, .i1⟩
  | 27 => ⟨S2x512, .i32⟩
  | 28 => ⟨S2x512, .i32⟩
  | 29 => ⟨S_, .i32⟩
  | 30 => ⟨S2x512, .i32⟩
  | 31 => ⟨S2x512, .i1⟩
  | 32 => ⟨S2x512, .i1⟩
  | 33 => ⟨S_, .i32⟩
  | 34 => ⟨S2x512, .i32⟩
  | 35 => ⟨S2x512, .i32⟩
  | 36 => ⟨S2x512, .i32⟩
  | 37 => ⟨S2x512, .f32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2x512, .i32⟩
  | 45 => ⟨S2x512, .i32⟩
  | 46 => ⟨S_, .i32⟩
  | 47 => ⟨S2x512, .i32⟩
  | 48 => ⟨S2x512, .i1⟩
  | 49 => ⟨S_, .i32⟩
  | 50 => ⟨S2x512, .i32⟩
  | 51 => ⟨S2x512, .i1⟩
  | 52 => ⟨S_, .i32⟩
  | 53 => ⟨S_, .i1⟩
  | 54 => ⟨S2x512, .i1⟩
  | 55 => ⟨S2x512, .i1⟩
  | 56 => ⟨S2x512, .i1⟩
  | 57 => ⟨S2x512, .i32⟩
  | 58 => ⟨S2x512, .i32⟩
  | 59 => ⟨S2x512, .i32⟩
  | 60 => ⟨S2x512, .f32⟩
  | 61 => ⟨S2x512, .f32⟩
  | 62 => ⟨S2x512, .i32⟩
  | 63 => ⟨S2x512, .f32⟩
  | 64 => ⟨S2x512, .f32⟩
  | 65 => ⟨S2x512, .i32⟩
  | 66 => ⟨S2x512, .f32⟩
  | _ => ⟨S2x1x6144, .f32⟩

abbrev hbmTy (i : Nat) : BufTy := match i / 128 with
  | 0 => hbmTy0_0 i
  | 1 => hbmTy0_1 i
  | 2 => hbmTy0_2 i
  | _ => ⟨S2x1x6144, .f32⟩

abbrev bufTy : (tb : Table) → Fin (tcTables nBuf tb) → BufTy
  | .hbm, ⟨i, _⟩ => hbmTy i
  | _, _ => ⟨S2x1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_c_12 : Ref sig .tc := ⟨.hbm, 94, rfl⟩
abbrev main_v62 : Ref sig .tc := ⟨.hbm, 95, rfl⟩
abbrev main_c_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_cst_22 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_cst_24 : Ref sig .tc := ⟨.hbm, 150, rfl⟩
abbrev main_v106 : Ref sig .tc := ⟨.hbm, 151, rfl⟩
abbrev main_v107 : Ref sig .tc := ⟨.hbm, 152, rfl⟩
abbrev main_cst_25 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_26 : Ref sig .tc := ⟨.hbm, 160, rfl⟩
abbrev main_v114 : Ref sig .tc := ⟨.hbm, 161, rfl⟩
abbrev main_v115 : Ref sig .tc := ⟨.hbm, 162, rfl⟩
abbrev main_cst_27 : Ref sig .tc := ⟨.hbm, 163, rfl⟩
abbrev main_v116 : Ref sig .tc := ⟨.hbm, 164, rfl⟩
abbrev main_v117 : Ref sig .tc := ⟨.hbm, 165, rfl⟩
abbrev main_cst_28 : Ref sig .tc := ⟨.hbm, 166, rfl⟩
abbrev main_call2_v0 : Ref sig .tc := ⟨.hbm, 167, rfl⟩
abbrev main_call2_v1 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_29 : Ref sig .tc := ⟨.hbm, 174, rfl⟩
abbrev main_v123 : Ref sig .tc := ⟨.hbm, 175, rfl⟩
abbrev main_v124 : Ref sig .tc := ⟨.hbm, 176, rfl⟩
abbrev main_cst_30 : Ref sig .tc := ⟨.hbm, 177, rfl⟩
abbrev main_v125 : Ref sig .tc := ⟨.hbm, 178, rfl⟩
abbrev main_v126 : Ref sig .tc := ⟨.hbm, 179, rfl⟩
abbrev main_cst_31 : Ref sig .tc := ⟨.hbm, 180, rfl⟩
abbrev main_call3_v0 : Ref sig .tc := ⟨.hbm, 181, rfl⟩
abbrev main_call3_v1 : Ref sig .tc := ⟨.hbm, 182, rfl⟩
abbrev main_v127 : Ref sig .tc := ⟨.hbm, 183, rfl⟩
abbrev main_values : Ref sig .tc := ⟨.hbm, 184, rfl⟩
abbrev main_indices : Ref sig .tc := ⟨.hbm, 185, rfl⟩
abbrev main_values_32 : Ref sig .tc := ⟨.hbm, 186, rfl⟩
abbrev main_indices_33 : Ref sig .tc := ⟨.hbm, 187, rfl⟩
abbrev main_c_34 : Ref sig .tc := ⟨.hbm, 188, rfl⟩
abbrev main_v128 : Ref sig .tc := ⟨.hbm, 189, rfl⟩
abbrev main_v129 : Ref sig .tc := ⟨.hbm, 190, rfl⟩
abbrev main_c_35 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_c_36 : Ref sig .tc := ⟨.hbm, 197, rfl⟩
abbrev main_v135 : Ref sig .tc := ⟨.hbm, 198, rfl⟩
abbrev main_v136 : Ref sig .tc := ⟨.hbm, 199, rfl⟩
abbrev main_c_37 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_38 : Ref sig .tc := ⟨.hbm, 207, rfl⟩
abbrev main_v143 : Ref sig .tc := ⟨.hbm, 208, rfl⟩
abbrev main_cst_39 : Ref sig .tc := ⟨.hbm, 209, rfl⟩
abbrev main_v144 : Ref sig .tc := ⟨.hbm, 210, rfl⟩
abbrev main_v145 : Ref sig .tc := ⟨.hbm, 211, rfl⟩
abbrev main_cst_40 : Ref sig .tc := ⟨.hbm, 212, rfl⟩
abbrev main_v146 : Ref sig .tc := ⟨.hbm, 213, rfl⟩
abbrev main_cst_41 : Ref sig .tc := ⟨.hbm, 214, rfl⟩
abbrev main_v147 : Ref sig .tc := ⟨.hbm, 215, rfl⟩
abbrev main_v148 : Ref sig .tc := ⟨.hbm, 216, rfl⟩
abbrev main_cst_42 : Ref sig .tc := ⟨.hbm, 217, rfl⟩
abbrev main_v149 : Ref sig .tc := ⟨.hbm, 218, rfl⟩
abbrev main_cst_43 : Ref sig .tc := ⟨.hbm, 219, rfl⟩
abbrev main_v150 : Ref sig .tc := ⟨.hbm, 220, rfl⟩
abbrev main_v151 : Ref sig .tc := ⟨.hbm, 221, rfl⟩
abbrev main_cst_44 : Ref sig .tc := ⟨.hbm, 222, rfl⟩
abbrev main_v152 : Ref sig .tc := ⟨.hbm, 223, rfl⟩
abbrev main_cst_45 : Ref sig .tc := ⟨.hbm, 224, rfl⟩
abbrev main_v153 : Ref sig .tc := ⟨.hbm, 225, rfl⟩
abbrev main_v154 : Ref sig .tc := ⟨.hbm, 226, rfl⟩
abbrev main_c_46 : Ref sig .tc := ⟨.hbm, 227, rfl⟩
abbrev main_call4_v0 : Ref sig .tc := ⟨.hbm, 228, rfl⟩
abbrev main_call4_v1 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_v7 : Ref sig .tc := ⟨.hbm, 235, rfl⟩
abbrev main_call4_v8 : Ref sig .tc := ⟨.hbm, 236, rfl⟩
abbrev main_call4_c : Ref sig .tc := ⟨.hbm, 237, rfl⟩
abbrev main_call4_v9 : Ref sig .tc := ⟨.hbm, 238, rfl⟩
abbrev main_call4_v10 : Ref sig .tc := ⟨.hbm, 239, rfl⟩
abbrev main_call4_v11 : Ref sig .tc := ⟨.hbm, 240, rfl⟩
abbrev main_call4_c_0 : Ref sig .tc := ⟨.hbm, 241, rfl⟩
abbrev main_call4_v12 : Ref sig .tc := ⟨.hbm, 242, rfl⟩
abbrev main_call4_v13 : Ref sig .tc := ⟨.hbm, 243, rfl⟩
abbrev main_v155 : Ref sig .tc := ⟨.hbm, 244, rfl⟩
abbrev main_v156 : Ref sig .tc := ⟨.hbm, 245, rfl⟩
abbrev main_c_47 : Ref sig .tc := ⟨.hbm, 246, rfl⟩
abbrev main_call5_v0 : Ref sig .tc := ⟨.hbm, 247, rfl⟩
abbrev main_call5_c : Ref sig .tc := ⟨.hbm, 248, rfl⟩
abbrev main_call5_v1 : Ref sig .tc := ⟨.hbm, 249, rfl⟩
abbrev main_call5_c_0 : Ref sig .tc := ⟨.hbm, 250, rfl⟩
abbrev main_call5_v2 : Ref sig .tc := ⟨.hbm, 251, rfl⟩
abbrev main_call5_v3 : Ref sig .tc := ⟨.hbm, 252, rfl⟩
abbrev main_call5_v4 : Ref sig .tc := ⟨.hbm, 253, rfl⟩
abbrev main_call5_c_1 : Ref sig .tc := ⟨.hbm, 254, rfl⟩
abbrev main_call5_v5 : Ref sig .tc := ⟨.hbm, 255, rfl⟩
abbrev main_call5_v6 : Ref sig .tc := ⟨.hbm, 256, rfl⟩
abbrev main_call5_c_2 : Ref sig .tc := ⟨.hbm, 257, rfl⟩
abbrev main_call5_v7 : Ref sig .tc := ⟨.hbm, 258, rfl⟩
abbrev main_call5_v8 : Ref sig .tc := ⟨.hbm, 259, rfl⟩
abbrev main_call5_c_3 : Ref sig .tc := ⟨.hbm, 260, rfl⟩
abbrev main_call5_v9 : Ref sig .tc := ⟨.hbm, 261, rfl⟩
abbrev main_call5_v10 : Ref sig .tc := ⟨.hbm, 262, rfl⟩
abbrev main_call5_v11 : Ref sig .tc := ⟨.hbm, 263, rfl⟩
abbrev main_call5_v12 : Ref sig .tc := ⟨.hbm, 264, rfl⟩
abbrev main_call5_v13 : Ref sig .tc := ⟨.hbm, 265, rfl⟩
abbrev main_call5_v14 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_c_48 : Ref sig .tc := ⟨.hbm, 275, rfl⟩
abbrev main_call6_v0 : Ref sig .tc := ⟨.hbm, 276, rfl⟩
abbrev main_call6_v1 : Ref sig .tc := ⟨.hbm, 277, rfl⟩
abbrev main_call6_v2 : Ref sig .tc := ⟨.hbm, 278, rfl⟩
abbrev main_call6_v3 : Ref sig .tc := ⟨.hbm, 279, rfl⟩
abbrev main_call6_v4 : Ref sig .tc := ⟨.hbm, 280, rfl⟩
abbrev main_call6_v5 : Ref sig .tc := ⟨.hbm, 281, rfl⟩
abbrev main_call6_v6 : Ref sig .tc := ⟨.hbm, 282, rfl⟩
abbrev main_call6_v7 : Ref sig .tc := ⟨.hbm, 283, rfl⟩
abbrev main_call6_v8 : Ref sig .tc := ⟨.hbm, 284, rfl⟩
abbrev main_call6_c : Ref sig .tc := ⟨.hbm, 285, rfl⟩
abbrev main_call6_v9 : Ref sig .tc := ⟨.hbm, 286, rfl⟩
abbrev main_call6_v10 : Ref sig .tc := ⟨.hbm, 287, rfl⟩
abbrev main_call6_v11 : Ref sig .tc := ⟨.hbm, 288, rfl⟩
abbrev main_call6_c_0 : Ref sig .tc := ⟨.hbm, 289, rfl⟩
abbrev main_call6_v12 : Ref sig .tc := ⟨.hbm, 290, rfl⟩
abbrev main_call6_v13 : Ref sig .tc := ⟨.hbm, 291, rfl⟩
abbrev main_v165 : Ref sig .tc := ⟨.hbm, 292, rfl⟩
abbrev main_v166 : Ref sig .tc := ⟨.hbm, 293, rfl⟩
abbrev main_c_49 : Ref sig .tc := ⟨.hbm, 294, rfl⟩
abbrev main_call7_v0 : Ref sig .tc := ⟨.hbm, 295, rfl⟩
abbrev main_call7_c : Ref sig .tc := ⟨.hbm, 296, rfl⟩
abbrev main_call7_v1 : Ref sig .tc := ⟨.hbm, 297, rfl⟩
abbrev main_call7_c_0 : Ref sig .tc := ⟨.hbm, 298, rfl⟩
abbrev main_call7_v2 : Ref sig .tc := ⟨.hbm, 299, rfl⟩
abbrev main_call7_v3 : Ref sig .tc := ⟨.hbm, 300, rfl⟩
abbrev main_call7_v4 : Ref sig .tc := ⟨.hbm, 301, rfl⟩
abbrev main_call7_c_1 : Ref sig .tc := ⟨.hbm, 302, rfl⟩
abbrev main_call7_v5 : Ref sig .tc := ⟨.hbm, 303, rfl⟩
abbrev main_call7_v6 : Ref sig .tc := ⟨.hbm, 304, rfl⟩
abbrev main_call7_c_2 : Ref sig .tc := ⟨.hbm, 305, rfl⟩
abbrev main_call7_v7 : Ref sig .tc := ⟨.hbm, 306, rfl⟩
abbrev main_call7_v8 : Ref sig .tc := ⟨.hbm, 307, rfl⟩
abbrev main_call7_c_3 : Ref sig .tc := ⟨.hbm, 308, rfl⟩
abbrev main_call7_v9 : Ref sig .tc := ⟨.hbm, 309, rfl⟩
abbrev main_call7_v10 : Ref sig .tc := ⟨.hbm, 310, rfl⟩
abbrev main_call7_v11 : Ref sig .tc := ⟨.hbm, 311, rfl⟩
abbrev main_call7_v12 : Ref sig .tc := ⟨.hbm, 312, rfl⟩
abbrev main_call7_v13 : Ref sig .tc := ⟨.hbm, 313, rfl⟩
abbrev main_call7_v14 : Ref sig .tc := ⟨.hbm, 314, rfl⟩
abbrev main_v167 : Ref sig .tc := ⟨.hbm, 315, rfl⟩
abbrev main_v168 : Ref sig .tc := ⟨.hbm, 316, rfl⟩
abbrev main_v169 : Ref sig .tc := ⟨.hbm, 317, rfl⟩
abbrev main_v170 : Ref sig .tc := ⟨.hbm, 318, rfl⟩
abbrev main_v171 : Ref sig .tc := ⟨.hbm, 319, rfl⟩
abbrev main_v172 : Ref sig .tc := ⟨.hbm, 320, rfl⟩
abbrev main_v173 : Ref sig .tc := ⟨.hbm, 321, rfl⟩
abbrev main_v174 : Ref sig .tc := ⟨.hbm, 322, rfl⟩

abbrev nD : Nat := 1
abbrev τ : Topo := Topo.v7x

variable {F : FTy → Type} [FloatOps F]
-- ==== Proof.KFrame.lean ====
module

public import proofs.«01_k».proof.Proof.Gen.Kernel.Frame
public import proofs.«01_k».proof.Proof.KStepB
public import Idealize.ShloMosaic.Lib.Pipeline.DatRel
public import Idealize.ShloMosaic.Lib.Pipeline.Frame
public import Idealize.ShloMosaic.Lib.Claim
public import Idealize.ShloMosaic.Lib.WordArith

/-! The statistics kernel as it is printed: it runs, leaves its arguments as they were, and ends with every semaphore at zero.
Nothing is said of what the outputs hold. -/

@[expose] public section

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The outputs are held to a relation. -/
def marks : Fin 12 → Bool := fun w => w.val == 4 || w.val == 5 || w.val == 6 || w.val == 7 || w.val == 8 || w.val == 9 || w.val == 10 || w.val == 11

/-- Nothing is asked of what an output is left with. -/
def Holds (w : Fin cfg0.W) (t : Fin cfg0.N) : ((cfg0.win w).block.Idx → Elt F (cfg0.win w).elt) → Prop := fun _ => True

/-- The proof data: the arrays as the region finds them, each input left at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The relational data: `dats` with the outputs held to `Holds`. -/
abbrev rdat (c : Dev nD) : RDat τ (Elt F) Unit ℕ (UR sig nD τ) ℕ cfg0 c := (dats m 0 c).toRRel marks Holds

/-- The data's arrays are the region's. -/
theorem A_eq (c : Dev nD) (w : Fin cfg0.W) : (dats m 0 c).A w = V m c (Pipeline.arrRef spec0 w) := by
  dsimp only [dats]

/-- Input 0 is left at its block. -/
theorem after0 (c : Dev nD) (t : Fin cfg0.N) : (dats m 0 c).after 0 t = iblk m c 0 t := by dsimp only [dats]

/-- Input 1 is left at its block. -/
theorem after1 (c : Dev nD) (t : Fin cfg0.N) : (dats m 0 c).after 1 t = iblk m c 1 t := by dsimp only [dats]

/-- Input 2 is left at its block. -/
theorem after2 (c : Dev nD) (t : Fin cfg0.N) : (dats m 0 c).after 2 t = iblk m c 2 t := by dsimp only [dats]

/-- Input 3 is left at its block. -/
theorem after3 (c : Dev nD) (t : Fin cfg0.N) : (dats m 0 c).after 3 t = iblk m c 3 t := by dsimp only [dats]

/-- Input 0 is found at its block. -/
theorem before0 (c : Dev nD) (t : Fin cfg0.N) (d) : (dats m 0 c).before 0 t d = iblk m c 0 t :=
  before0_0_of m (dats m 0 c) (A_eq m c 0) (after0 m c) t d

/-- Input 1 is found at its block. -/
theorem before1 (c : Dev nD) (t : Fin cfg0.N) (d) : (dats m 0 c).before 1 t d = iblk m c 1 t :=
  before0_1_of m (dats m 0 c) (A_eq m c 1) (after1 m c) t d

/-- Input 2 is found at its block. -/
theorem before2 (c : Dev nD) (t : Fin cfg0.N) (d) : (dats m 0 c).before 2 t d = iblk m c 2 t :=
  before0_2_of m (dats m 0 c) (A_eq m c 2) (after2 m c) t d

/-- Input 3 is found at its block. -/
theorem before3 (c : Dev nD) (t : Fin cfg0.N) (d) : (dats m 0 c).before 3 t d = iblk m c 3 t :=
  before0_3_of m (dats m 0 c) (A_eq m c 3) (after3 m c) t d

/-- The second grid coordinate of a point. -/
theorem coord_one (t : Fin cfg0.N) : (grid0.coords t 1).val = t.val % 12 := by
  have h : ((grid0.coords t) 1).val = t.val / 1 % 12 := Pipeline.Grid.coords_val t 1 (by decide) rfl
  rw [h, Nat.div_one]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y : Vec F S1x1x6144 .f32, ⌜(rdat m c).Finds 4 t Y⌝ ∗ owns (c : Thread nD τ) (st0_4 t) fullShare Y)
    ∗ (∃ Y : Vec F S1x1x6144 .f32, ⌜(rdat m c).Finds 5 t Y⌝ ∗ owns (c : Thread nD τ) (st0_5 t) fullShare Y)
    ∗ (∃ Y : Vec F S1x1x6144 .i32, ⌜(rdat m c).Finds 6 t Y⌝ ∗ owns (c : Thread nD τ) (st0_6 t) fullShare Y)
    ∗ (∃ Y : Vec F S1x1x6144 .f32, ⌜(rdat m c).Finds 7 t Y⌝ ∗ owns (c : Thread nD τ) (st0_7 t) fullShare Y)
    ∗ (∃ Y : Vec F S1x1x6144 .f32, ⌜(rdat m c).Finds 8 t Y⌝ ∗ owns (c : Thread nD τ) (st0_8 t) fullShare Y)
    ∗ (∃ Y : Vec F S1x1x6144 .f32, ⌜(rdat m c).Finds 9 t Y⌝ ∗ owns (c : Thread nD τ) (st0_9 t) fullShare Y)
    ∗ (∃ Y : Vec F S1x1x6144 .i32, ⌜(rdat m c).Finds 10 t Y⌝ ∗ owns (c : Thread nD τ) (st0_10 t) fullShare Y)
    ∗ (∃ Y : Vec F S1x1x6144 .f32, ⌜(rdat m c).Finds 11 t Y⌝ ∗ owns (c : Thread nD τ) (st0_11 t) fullShare Y))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X : Vec F S1x1x6144 .f32, ⌜Holds (F := F) 4 t X⌝ ∗ owns (c : Thread nD τ) (st0_4 t) fullShare X)
    ∗ (∃ X : Vec F S1x1x6144 .f32, ⌜Holds (F := F) 5 t X⌝ ∗ owns (c : Thread nD τ) (st0_5 t) fullShare X)
    ∗ (∃ X : Vec F S1x1x6144 .i32, ⌜Holds (F := F) 6 t X⌝ ∗ owns (c : Thread nD τ) (st0_6 t) fullShare X)
    ∗ (∃ X : Vec F S1x1x6144 .f32, ⌜Holds (F := F) 7 t X⌝ ∗ owns (c : Thread nD τ) (st0_7 t) fullShare X)
    ∗ (∃ X : Vec F S1x1x6144 .f32, ⌜Holds (F := F) 8 t X⌝ ∗ owns (c : Thread nD τ) (st0_8 t) fullShare X)
    ∗ (∃ X : Vec F S1x1x6144 .f32, ⌜Holds (F := F) 9 t X⌝ ∗ owns (c : Thread nD τ) (st0_9 t) fullShare X)
    ∗ (∃ X : Vec F S1x1x6144 .i32, ⌜Holds (F := F) 10 t X⌝ ∗ owns (c : Thread nD τ) (st0_10 t) fullShare X)
    ∗ (∃ X : Vec F S1x1x6144 .f32, ⌜Holds (F := F) 11 t X⌝ ∗ owns (c : Thread nD τ) (st0_11 t) fullShare X))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%y4, %h4, H4⟩, ⟨%y5, %h5, H5⟩, ⟨%y6, %h6, H6⟩, ⟨%y7, %h7, H7⟩, ⟨%y8, %h8, H8⟩, ⟨%y9, %h9, H9⟩, ⟨%y10, %h10, H10⟩, ⟨%y11, %h11, H11⟩⟩
  by_cases h0 : First (grid0.coords t)
  · iapply (run_first c (grid0.coords t) _ _ _ _ _ _ _ _ _ _ _ _ _ _ _ _ _ _ _ _ _ _ _ _ h0 (iblk m c 0 t) (iblk m c 1 t) (iblk m c 2 t) (iblk m c 3 t) y4 y5 y6 y7 y8 y9 y10 y11 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro; exact trivial
    isplitl [H5]
    · iexists _; isplitr; swap; · iexact H5
      ipureintro; exact trivial
    isplitl [H6]
    · iexists _; isplitr; swap; · iexact H6
      ipureintro; exact trivial
    isplitl [H7]
    · iexists _; isplitr; swap; · iexact H7
      ipureintro; exact trivial
    isplitl [H8]
    · iexists _; isplitr; swap; · iexact H8
      ipureintro; exact trivial
    isplitl [H9]
    · iexists _; isplitr; swap; · iexact H9
      ipureintro; exact trivial
    isplitl [H10]
    · iexists _; isplitr; swap; · iexact H10
      ipureintro; exact trivial
    iexists _; isplitr; swap; · iexact H11
    ipureintro; exact trivial
  · iapply (run_later c (grid0.coords t) _ _ _ _ _ _ _ _ _ _ _ _ _ _ _ _ _ _ _ _ _ _ _ _ h0 (iblk m c 0 t) (iblk m c 1 t) (iblk m c 2 t) (iblk m c 3 t) y4 y5 y6 y7 y8 y9 y10 y11 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro; exact trivial
    isplitl [H5]
    · iexists _; isplitr; swap; · iexact H5
      ipureintro; exact trivial
    isplitl [H6]
    · iexists _; isplitr; swap; · iexact H6
      ipureintro; exact trivial
    isplitl [H7]
    · iexists _; isplitr; swap; · iexact H7
      ipureintro; exact trivial
    isplitl [H8]
    · iexists _; isplitr; swap; · iexact H8
      ipureintro; exact trivial
    isplitl [H9]
    · iexists _; isplitr; swap; · iexact H9
      ipureintro; exact trivial
    isplitl [H10]
    · iexists _; isplitr; swap; · iexact H10
      ipureintro; exact trivial
    iexists _; isplitr; swap; · iexact H11
    ipureintro; exact trivial

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligationRel (dats m 0 c) (defs₀ (F := F)) Variants.none () Set.univ marks Holds := fun t => by
  rw [bigSep_W0, bigSep_W0, defs₀_row]
  exact triple_restated (sound_body m c t) rfl .rfl fun _ => .rfl

set_option backward.isDefEq.respectTransparency.types false in
/-- The run, with the outputs' arrays unnamed. -/
theorem run_main : θ_run defs (onTc (τ := τ) (main (F := F))) (s₀ m ρ) (fun r => RDat.FramePost (cfgs 0) (rdat m) (V m) r ∧ r.2.sem = fun _ => 0) :=
  Pipeline.RDat.θ_run_frame cfgs (0 : Fin 1) launch0 defs₀ Variants.none (rdat m) m ρ main
    (hbody := fun c => (body_obligation m c).toRRel) (hshare := fun c w => (dats m 0 c).share_full (fun _ => rfl) w)
    (howed := fun _ _ => rfl) (V := V m) (hmain := hmain m Variants.none) (hA := A_eq m) (hΦ := fun _ _ => rfl) (Q' := _) (hQ' := fun _ h => h)

/-- The kernel runs, its arguments end unchanged, and the semaphores end at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run_main m ρ)

end Cert.Kernel.Step

end
-- ==== Proof.Step.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.VecWindow
public import Idealize.ShloMosaic.Lib.Tactic
public import Idealize.ShloMosaic.Lib.WordCmp

/-! One grid step of the statistics kernel, run on whole staging buffers: what each of the twelve buffers holds afterwards,
as a function of what the buffers held before. -/

@[expose] public section

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first row of the step's tile, as the kernel computes it: 512 times the second grid coordinate. -/
abbrev row0 (i : grid0.Coords) : BitVec 32 := Scalar.muli (BitVec.ofNat 32 (i 1).val) 512#32

/-- The row number of each entry of the tile, counted from the tile's first row. -/
abbrev rows : IVec S512x6144 32 := iota .tc S512x6144 32 [0] iota_S512x6144_d0_w32

/-- The step is the first of its batch element. -/
abbrev First (i : grid0.Coords) : Prop := (Scalar.cmpi .ne (Scalar.extui (Scalar.cmpi .eq (BitVec.ofNat 32 (i 1).val) 0#32)) 0#32) = 1#1

/-- The 512 entries of a row of 6144 that belong to the step's tile. -/
def tileOf (i : grid0.Coords) (x : Vec F S1x1x6144 .i32) : Vec F S1x1x512 .i32 :=
  VecWindow.window x (k0_off1 i) S1x1x512.size (k0_off1_inb i)

/-- The row maxima after the step: the tile's over the old contents. -/
def rowMax (i : grid0.Coords) (x0 : Vec F S1x32x512 .f32) (x1 : Vec F S1x32x6144 .f32) (o : Vec F S1x1x6144 .f32) : Vec F S1x1x6144 .f32 :=
  VecWindow.put o (k0_off1 i) S1x1x512.size (k0_pay10 x0 x1)
/-- The row sums after the step. -/
def rowSum (i : grid0.Coords) (x0 : Vec F S1x32x512 .f32) (x1 : Vec F S1x32x6144 .f32) (o : Vec F S1x1x6144 .f32) : Vec F S1x1x6144 .f32 :=
  VecWindow.put o (k0_off1 i) S1x1x512.size (k0_pay12 (k0_pay8 x0 x1))
/-- The places of the row maxima after the step. -/
def rowArg (i : grid0.Coords) (x0 : Vec F S1x32x512 .f32) (x1 : Vec F S1x32x6144 .f32) (o : Vec F S1x1x6144 .i32) : Vec F S1x1x6144 .i32 :=
  VecWindow.put o (k0_off1 i) S1x1x512.size (k0_pay11 (k0_pay7 x0 x1))
/-- The scores at the rows' given correspondences after the step. -/
def rowHit (i : grid0.Coords) (x0 : Vec F S1x32x512 .f32) (x1 : Vec F S1x32x6144 .f32) (x2 : Vec F S1x1x6144 .i32) (o : Vec F S1x1x6144 .f32) :
    Vec F S1x1x6144 .f32 :=
  VecWindow.put o (k0_off1 i) S1x1x512.size (k0_pay13 (k0_pay9 x0 x1 (tileOf (F := F) i x2)))
/-- The column maxima after the step, from those before it. -/
def colMax (x0 : Vec F S1x32x512 .f32) (x1 : Vec F S1x32x6144 .f32) (om : Vec F S1x1x6144 .f32) : Vec F S1x1x6144 .f32 :=
  k0_pay1 (k0_pay23 (k0_pay5 x0 x1) om)
/-- The column sums after the step, from the maxima and the sums before it. -/
def colSum (x0 : Vec F S1x32x512 .f32) (x1 : Vec F S1x32x6144 .f32) (om os : Vec F S1x1x6144 .f32) : Vec F S1x1x6144 .f32 :=
  k0_pay2 (k0_pay18 om) (k0_pay19 os) (k0_pay23 (k0_pay5 x0 x1) om) (k0_pay24 (k0_pay5 x0 x1) om)
/-- The places of the column maxima after the step, from the maxima and the places before it. -/
def colArg (i : grid0.Coords) (x0 : Vec F S1x32x512 .f32) (x1 : Vec F S1x32x6144 .f32) (om : Vec F S1x1x6144 .f32) (oa : Vec F S1x1x6144 .i32) :
    Vec F S1x1x6144 .i32 :=
  k0_pay3 (k0_pay18 om) (k0_pay20 (F := F) oa) (k0_pay21 (k0_pay5 x0 x1)) (k0_pay22 (row0 i) (k0_pay5 x0 x1) rows)
/-- The scores at the columns' given correspondences after the step, from those before it. -/
def colHit (i : grid0.Coords) (x0 : Vec F S1x32x512 .f32) (x1 : Vec F S1x32x6144 .f32) (x3 : Vec F S1x1x6144 .i32) (ov : Vec F S1x1x6144 .f32) :
    Vec F S1x1x6144 .f32 :=
  k0_pay4 (row0 i) (k0_pay5 x0 x1) rows x3 ov

set_option maxHeartbeats 2000000 in
/-- A step of the body, at the first row tile of a batch element. -/
theorem run_first (c : Dev nD) (i : grid0.Coords) (arg2 : Memref sig .tc .vmem S1x32x512 .f32) (harg2 : arg2.IsWhole) (arg3 : Memref sig .tc .vmem S1x32x6144 .f32) (harg3 : arg3.IsWhole) (arg4 : Memref sig .tc .vmem S1x1x6144 .i32) (harg4 : arg4.IsWhole) (arg5 : Memref sig .tc .vmem S1x1x6144 .i32) (harg5 : arg5.IsWhole) (arg6 : Memref sig .tc .vmem S1x1x6144 .f32) (harg6 : arg6.IsWhole) (arg7 : Memref sig .tc .vmem S1x1x6144 .f32) (harg7 : arg7.IsWhole) (arg8 : Memref sig .tc .vmem S1x1x6144 .i32) (harg8 : arg8.IsWhole) (arg9 : Memref sig .tc .vmem S1x1x6144 .f32) (harg9 : arg9.IsWhole) (arg10 : Memref sig .tc .vmem S1x1x6144 .f32) (harg10 : arg10.IsWhole) (arg11 : Memref sig .tc .vmem S1x1x6144 .f32) (harg11 : arg11.IsWhole) (arg12 : Memref sig .tc .vmem S1x1x6144 .i32) (harg12 : arg12.IsWhole) (arg13 : Memref sig .tc .vmem S1x1x6144 .f32) (harg13 : arg13.IsWhole) (hc0 : First i) (x0 : Vec F S1x32x512 .f32) (x1 : Vec F S1x32x6144 .f32) (x2 : Vec F S1x1x6144 .i32) (x3 : Vec F S1x1x6144 .i32) (x4 : Vec F S1x1x6144 .f32) (x5 : Vec F S1x1x6144 .f32) (x6 : Vec F S1x1x6144 .i32) (x7 : Vec F S1x1x6144 .f32) (x8 : Vec F S1x1x6144 .f32) (x9 : Vec F S1x1x6144 .f32) (x10 : Vec F S1x1x6144 .i32) (x11 : Vec F S1x1x6144 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (rowMax i x0 x1 x4) ∗ owns (c : Thread nD τ) arg7 fullShare (rowSum i x0 x1 x5) ∗ owns (c : Thread nD τ) arg8 fullShare (rowArg i x0 x1 x6) ∗ owns (c : Thread nD τ) arg9 fullShare (rowHit i x0 x1 x2 x7) ∗ owns (c : Thread nD τ) arg10 fullShare (colMax x0 x1 (k0_pay14 (F := F))) ∗ owns (c : Thread nD τ) arg11 fullShare (colSum x0 x1 (k0_pay14 (F := F)) (k0_pay15 (F := F))) ∗ owns (c : Thread nD τ) arg12 fullShare (colArg i x0 x1 (k0_pay14 (F := F)) k0_pay16) ∗ owns (c : Thread nD τ) arg13 fullShare (colHit i x0 x1 x3 (k0_pay17 (F := F)))) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13) K := by
    intro E K
    simp only [cc0__pass1_kernel_eq_skeleton]; unfold cc0__pass1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; sl_unfold_run_names; rw [View.read_writes_cons_put _ _ _ _ _ rfl]; simp only [View.writes_nil, View.readAt_full (s := S1x32x512), View.readAt_full (s := S1x32x6144), Memref.IsWhole.read_unread, rowMax]
    isplitl [H5]
    · iexists _; isplitr; swap; · iexact H5
      ipureintro; sl_unfold_run_names; rw [View.read_writes_cons_put _ _ _ _ _ rfl]; simp only [View.writes_nil, View.readAt_full (s := S1x32x512), View.readAt_full (s := S1x32x6144), Memref.IsWhole.read_unread, rowSum]
    isplitl [H6]
    · iexists _; isplitr; swap; · iexact H6
      ipureintro; sl_unfold_run_names; rw [View.read_writes_cons_put _ _ _ _ _ rfl]; simp only [View.writes_nil, View.readAt_full (s := S1x32x512), View.readAt_full (s := S1x32x6144), Memref.IsWhole.read_unread, rowArg]
    isplitl [H7]
    · iexists _; isplitr; swap; · iexact H7
      ipureintro; sl_unfold_run_names; rw [View.read_writes_cons_put _ _ _ _ _ rfl]; simp only [View.writes_nil, View.readAt_full (s := S1x32x512), View.readAt_full (s := S1x32x6144), Memref.IsWhole.read_unread, rowHit, tileOf]; rw [View.readAt_unit arg4.view _ (k0_off1_inb i) rfl (k0_off1_inb i), harg4.read_unread]
    isplitl [H8]
    · iexists _; isplitr; swap; · iexact H8
      ipureintro; sl_unfold_run_names; rw [View.read_writes_full]; simp only [View.readAt_full (s := S1x32x512), View.readAt_full (s := S1x32x6144), View.readAt_full (s := S1x1x6144), View.readCov_full (s := S1x1x6144), View.readAt_writes_full (s := S1x1x6144), View.writes_nil, Memref.IsWhole.read_unread, colMax]
    isplitl [H9]
    · iexists _; isplitr; swap; · iexact H9
      ipureintro; sl_unfold_run_names; rw [View.read_writes_full]; simp only [View.readAt_full (s := S1x32x512), View.readAt_full (s := S1x32x6144), View.readAt_full (s := S1x1x6144), View.readCov_full (s := S1x1x6144), View.readAt_writes_full (s := S1x1x6144), View.writes_nil, Memref.IsWhole.read_unread, colSum]
    isplitl [H10]
    · iexists _; isplitr; swap; · iexact H10
      ipureintro; sl_unfold_run_names; rw [View.read_writes_full]; simp only [View.readAt_full (s := S1x32x512), View.readAt_full (s := S1x32x6144), View.readAt_full (s := S1x1x6144), View.readCov_full (s := S1x1x6144), View.readAt_writes_full (s := S1x1x6144), View.writes_nil, Memref.IsWhole.read_unread, colArg]
    iexists _; isplitr; swap; · iexact H11
    ipureintro; sl_unfold_run_names; rw [View.read_writes_full]; simp only [View.readAt_full (s := S1x32x512), View.readAt_full (s := S1x32x6144), View.readAt_full (s := S1x1x6144), View.readCov_full (s := S1x1x6144), View.readAt_writes_full (s := S1x1x6144), View.writes_nil, Memref.IsWhole.read_unread, colHit]

end Cert.KernelIdeal.Step

end
-- ==== Proof.Online.lean ====
module

public import Idealize.ShloMosaic.PureOps.Ideal
public import Idealize.ShloMosaic.PureOps.Reduce
public import Idealize.ShloMosaic.Lib.WordArith

/-! Maximum, sum of exponentials, first place of the maximum, and value at a given place of the first `n` entries of a
sequence of extended reals; and how each is found for `n + T` entries from the first `n` and the `T` after them. -/

@[expose] public section

noncomputable section

namespace Cert.Online

open Idealize.ShloMosaic

/-- The maximum of the first `n` entries, `⊥` of none. -/
def top (g : ℕ → EReal) (n : ℕ) : EReal := (Finset.range n).sup g

/-- The sum over the first `n` entries of the exponential of the entry less their maximum. -/
def mass (g : ℕ → EReal) (n : ℕ) : EReal := ∑ i ∈ Finset.range n, Ideal.exp (g i - top g n)

/-- The first place of the maximum of the first `n` entries, `0` of none. -/
def place (g : ℕ → EReal) (n : ℕ) : ℕ := sInf {k | k < n ∧ g k = top g n}

/-- Entry `c` where it is among the first `n`, else `0`. -/
def hit (g : ℕ → EReal) (c n : ℕ) : EReal := if c < n then g c else 0

/-- An entry is at most the maximum. -/
theorem le_top {g : ℕ → EReal} {n k : ℕ} (h : k < n) : g k ≤ top g n :=
  Finset.le_sup (f := g) (Finset.mem_range.mpr h)

/-- The maximum of some entries is attained. -/
theorem exists_top (g : ℕ → EReal) {n : ℕ} (h : 0 < n) : ∃ k, k < n ∧ g k = top g n := by
  obtain ⟨k, hk, e⟩ := Finset.exists_mem_eq_sup (Finset.range n) ⟨0, Finset.mem_range.mpr h⟩ g
  exact ⟨k, Finset.mem_range.mp hk, e.symm⟩

/-- The first place of the maximum is a place of the maximum. -/
theorem place_spec (g : ℕ → EReal) {n : ℕ} (h : 0 < n) : place g n < n ∧ g (place g n) = top g n :=
  Nat.sInf_mem (s := {k | k < n ∧ g k = top g n}) (exists_top g h)

/-- No place of the maximum is before the first. -/
theorem place_le {g : ℕ → EReal} {n k : ℕ} (h : k < n) (e : g k = top g n) : place g n ≤ k :=
  Nat.sInf_le (s := {k | k < n ∧ g k = top g n}) ⟨h, e⟩

/-- A place of the maximum before which the maximum is not met is the first. -/
theorem place_eq {g : ℕ → EReal} {n k : ℕ} (h : k < n) (e : g k = top g n) (hm : ∀ j, j < k → g j ≠ top g n) : place g n = k := by
  refine le_antisymm (place_le h e) (not_lt.mp fun hlt => ?_)
  exact hm _ hlt (place_spec g (Nat.zero_lt_of_lt h)).2

/-- The maximum only depends on the entries counted. -/
theorem top_congr {g h : ℕ → EReal} {n : ℕ} (e : ∀ k < n, g k = h k) : top g n = top h n :=
  Finset.sup_congr rfl fun k hk => e k (Finset.mem_range.mp hk)

/-- The maximum of `n + T` entries. -/
theorem top_add (g : ℕ → EReal) (n T : ℕ) : top g (n + T) = max (top g n) (top (fun k => g (n + k)) T) := by
  apply le_antisymm
  · refine Finset.sup_le fun k hk => ?_
    have hk := Finset.mem_range.mp hk
    by_cases h : k < n
    · exact le_max_of_le_left (le_top h)
    · refine le_max_of_le_right ?_
      have := le_top (g := fun k => g (n + k)) (n := T) (k := k - n) (by omega)
      simpa only [show n + (k - n) = k by omega] using this
  · refine max_le (Finset.sup_le fun k hk => ?_) (Finset.sup_le fun k hk => ?_)
    · exact le_top (by have := Finset.mem_range.mp hk; omega)
    · exact le_top (g := g) (by have := Finset.mem_range.mp hk; omega)

/-- The exponential is never negative. -/
theorem exp_nonneg (x : EReal) : 0 ≤ Ideal.exp x := by
  induction x with
  | bot => exact le_rfl
  | top => exact OrderTop.le_top (0 : EReal)
  | coe r => exact EReal.coe_nonneg.mpr (Real.exp_pos r).le

/-- Rescaling an exponential from one reference value to a larger one, both at least the entry: on all extended reals. -/
theorem exp_mul_exp {x a b : EReal} (hxa : x ≤ a) (hab : a ≤ b) : Ideal.exp (x - a) * Ideal.exp (a - b) = Ideal.exp (x - b) := by
  induction x with
  | bot =>
    rw [sub_eq_add_neg, sub_eq_add_neg ⊥, EReal.bot_add, EReal.bot_add, Ideal.exp_bot, zero_mul]
  | top =>
    obtain rfl := top_le_iff.mp hxa
    obtain rfl := top_le_iff.mp hab
    rw [show (⊤ : EReal) - ⊤ = ⊥ from rfl, Ideal.exp_bot, zero_mul]
  | coe x =>
    induction a with
    | bot => exact absurd hxa (by simp)
    | top =>
      obtain rfl := top_le_iff.mp hab
      rw [show (x : EReal) - ⊤ = ⊥ from rfl, Ideal.exp_bot, zero_mul]
    | coe a =>
      induction b with
      | bot => exact absurd hab (by simp)
      | top =>
        rw [show (x : EReal) - ⊤ = ⊥ from rfl, show (a : EReal) - ⊤ = ⊥ from rfl, Ideal.exp_bot, mul_zero]
      | coe b =>
        rw [← EReal.coe_sub, ← EReal.coe_sub, ← EReal.coe_sub, Ideal.exp_coe, Ideal.exp_coe, Ideal.exp_coe, ← EReal.coe_mul,
          ← Real.exp_add]
        congr 2; ring

/-- A sum of values that are not negative times anything is the sum of the products. -/
theorem sum_mul {ι : Type} (s : Finset ι) (f : ι → EReal) (hf : ∀ i, 0 ≤ f i) (y : EReal) : (∑ i ∈ s, f i) * y = ∑ i ∈ s, f i * y := by
  classical
  induction s using Finset.induction_on with
  | empty => simp
  | insert a s ha ih =>
    rw [Finset.sum_insert ha, Finset.sum_insert ha, EReal.right_distrib_of_nonneg (hf a) (Finset.sum_nonneg fun i _ => hf i), ih]

/-- The sum of exponentials of `n + T` entries: the first `n`'s rescaled to the new maximum, and the `T` new terms. -/
theorem mass_add (g : ℕ → EReal) (n T : ℕ) :
    mass g (n + T) = mass g n * Ideal.exp (top g n - top g (n + T)) + ∑ k ∈ Finset.range T, Ideal.exp (g (n + k) - top g (n + T)) := by
  have hle : top g n ≤ top g (n + T) := by rw [top_add]; exact le_max_left _ _
  unfold mass
  rw [Finset.sum_range_add, sum_mul _ _ (fun i => exp_nonneg _)]
  congr 1
  exact Finset.sum_congr rfl fun i hi => (exp_mul_exp (le_top (Finset.mem_range.mp hi)) hle).symm

/-- The first place of the maximum of `n + T` entries: among the `T` new ones only where they exceed the first `n`. -/
theorem place_add (g : ℕ → EReal) (n : ℕ) {T : ℕ} (hT : 0 < T) :
    place g (n + T) = if top g n < top (fun k => g (n + k)) T then n + place (fun k => g (n + k)) T else place g n := by
  have hs := place_spec (fun k => g (n + k)) hT
  by_cases h : top g n < top (fun k => g (n + k)) T
  · rw [if_pos h]
    have hm : top g (n + T) = top (fun k => g (n + k)) T := by rw [top_add]; exact max_eq_right h.le
    refine place_eq (by omega) (by rw [hm]; exact hs.2) fun j hj => ?_
    rw [hm]
    by_cases hjn : j < n
    · exact ((le_top hjn).trans_lt h).ne
    · intro e
      have := place_le (g := fun k => g (n + k)) (n := T) (k := j - n) (by omega) (by simpa only [show n + (j - n) = j by omega] using e)
      omega
  · rw [if_neg h]
    have hm : top g (n + T) = top g n := by rw [top_add]; exact max_eq_left (not_lt.mp h)
    rcases Nat.eq_zero_or_pos n with rfl | hn
    · have h0 : top g 0 = ⊥ := rfl
      have e0 : place g 0 = 0 := by
        show sInf {k | k < 0 ∧ g k = top g 0} = 0
        simp
      rw [e0]
      refine place_eq (by omega) ?_ fun j hj => absurd hj (Nat.not_lt_zero _)
      have hle := le_top (g := g) (n := 0 + T) (k := 0) (by omega)
      rw [hm, h0] at hle ⊢
      exact le_bot_iff.mp hle
    · have hp := place_spec g hn
      refine place_eq (by omega) (by rw [hm]; exact hp.2) fun j hj => ?_
      rw [hm]
      exact fun e => absurd (place_le (by omega) e) (by omega)

/-- The value at a given place, of `n + T` entries. -/
theorem hit_add (g : ℕ → EReal) (c n T : ℕ) : hit g c (n + T) = hit g c n + if n ≤ c ∧ c < n + T then g c else 0 := by
  unfold hit
  by_cases h1 : c < n
  · rw [if_pos h1, if_pos (by omega), if_neg (by omega), add_zero]
  · by_cases h2 : c < n + T
    · rw [if_pos h2, if_neg h1, if_pos (by omega), zero_add]
    · rw [if_neg h2, if_neg h1, if_neg (by omega), add_zero]

/-! ## The same over `Fin n`, as the vector operations compute them -/

variable {n : ℕ} {f : Fin n → EReal} {g : ℕ → EReal}

/-- A fold of the maximum over a vector's entries from `⊥`. -/
theorem fold_max_eq (hf : ∀ x : Fin n, f x = g x.val) : Finset.univ.fold max ⊥ f = top g n := by
  show Finset.univ.sup f = (Finset.range n).sup g
  apply le_antisymm
  · exact Finset.sup_le fun x _ => (hf x).trans_le (le_top x.isLt)
  · refine Finset.sup_le fun k hk => ?_
    have := Finset.le_sup (f := f) (Finset.mem_univ ⟨k, Finset.mem_range.mp hk⟩)
    rwa [hf] at this

/-- A sum of exponentials over a vector's entries. -/
theorem sum_exp_eq (hf : ∀ x : Fin n, f x = g x.val) (b : EReal) :
    ∑ x, Ideal.exp (f x - b) = ∑ k ∈ Finset.range n, Ideal.exp (g k - b) := by
  rw [Finset.sum_range]
  exact Finset.sum_congr rfl fun x _ => by rw [hf]

/-- Words below `2 ^ 31` are compared as the numbers they are: the least is the word of the least number. -/
theorem minsi_ofNat {a b : ℕ} (ha : a < 2 ^ 31) (hb : b < 2 ^ 31) :
    IntOp.minsi (BitVec.ofNat 32 a) (BitVec.ofNat 32 b) = BitVec.ofNat 32 (min a b) := by
  have ea : (BitVec.ofNat 32 a).toNat = a := by rw [BitVec.toNat_ofNat]; omega
  have eb : (BitVec.ofNat 32 b).toNat = b := by rw [BitVec.toNat_ofNat]; omega
  apply BitVec.eq_of_toNat_eq
  rw [WordArith.toNat_minsi_of_lt _ _ (by rw [ea]; exact ha) (by rw [eb]; exact hb), ea, eb, BitVec.toNat_ofNat]
  omega

/-- A fold of the signed minimum over words below `2 ^ 31` is the word of the fold of the minimum of the numbers. -/
theorem fold_minsi {ι : Type} (s : Finset ι) (f : ι → ℕ) (hf : ∀ i, f i < 2 ^ 31) {B : ℕ} (hB : B < 2 ^ 31) :
    s.fold IntOp.minsi (BitVec.ofNat 32 B) (fun i => BitVec.ofNat 32 (f i)) = BitVec.ofNat 32 (s.fold min B f)
      ∧ s.fold min B f < 2 ^ 31 := by
  classical
  induction s using Finset.induction_on with
  | empty => exact ⟨rfl, hB⟩
  | insert a s ha ih =>
    rw [Finset.fold_insert ha, Finset.fold_insert ha, ih.1, minsi_ofNat (hf a) ih.2]
    exact ⟨rfl, (min_le_left _ _).trans_lt (hf a)⟩

/-- The first place of the maximum as the least place-or-sentinel over a vector's entries. -/
theorem fold_place (hf : ∀ x : Fin n, f x = g x.val) (hn : 0 < n) {D : ℕ} (hD : n ≤ D) (hD' : D < 2 ^ 31) :
    Finset.univ.fold IntOp.minsi 2147483647#32 (fun x : Fin n => if f x = top g n then BitVec.ofNat 32 x.val else BitVec.ofNat 32 D)
      = BitVec.ofNat 32 (place g n) := by
  have hp := place_spec g hn
  have key := fold_minsi (Finset.univ : Finset (Fin n)) (fun x => if f x = top g n then x.val else D)
    (fun x => by split <;> omega) (B := 2147483647) (by norm_num)
  have e : (fun x : Fin n => if f x = top g n then BitVec.ofNat 32 x.val else BitVec.ofNat 32 D)
      = fun x => BitVec.ofNat 32 (if f x = top g n then x.val else D) := funext fun x => by split <;> rfl
  rw [e]
  refine key.1.trans (congrArg _ (le_antisymm ?_ ?_))
  · rw [Finset.fold_min_le]
    refine .inr ⟨⟨place g n, hp.1⟩, Finset.mem_univ _, ?_⟩
    rw [if_pos (by rw [hf]; exact hp.2)]
  · rw [Finset.le_fold_min]
    refine ⟨by omega, fun x _ => ?_⟩
    split
    · next h => exact place_le x.isLt (by rw [← hf]; exact h)
    · omega

/-- The value at a given place as a sum over a vector's entries, all but that one replaced by `0`. -/
theorem sum_hit (hf : ∀ x : Fin n, f x = g x.val) (hn : n ≤ 2 ^ 32) (c : BitVec 32) :
    ∑ x : Fin n, Scalar.select (IntOp.cmpi .eq (BitVec.ofNat 32 x.val) c) (f x) 0 = hit g c.toNat n := by
  have e : ∀ x : Fin n, Scalar.select (IntOp.cmpi .eq (BitVec.ofNat 32 x.val) c) (f x) 0 = if x.val = c.toNat then g x.val else 0 := fun x => by
    rw [hf]
    have hx := x.isLt
    by_cases h : x.val = c.toNat
    · rw [if_pos h, h, BitVec.ofNat_toNat, BitVec.setWidth_eq]
      simp [Scalar.select, IntOp.cmpi]
    · rw [if_neg h]
      have : BitVec.ofNat 32 x.val ≠ c := fun e => h (by rw [← e, BitVec.toNat_ofNat]; omega)
      rw [show IntOp.cmpi .eq (BitVec.ofNat 32 x.val) c = BitVec.ofBool (BitVec.ofNat 32 x.val == c) from rfl, beq_false_of_ne this]
      rfl
  rw [Finset.sum_congr rfl fun x _ => e x]
  unfold hit
  split
  · next h =>
    rw [Finset.sum_eq_single (⟨c.toNat, h⟩ : Fin n) (fun x _ hx => if_neg fun e => hx (Fin.ext e)) (fun h => absurd (Finset.mem_univ _) h),
      if_pos rfl]
  · next h => exact Finset.sum_eq_zero fun x _ => if_neg (by have := x.isLt; omega)

/-- The value at a given place as a sum over the entries from `n₀` on. -/
theorem sum_hit_off {n₀ : ℕ} (hf : ∀ x : Fin n, f x = g (n₀ + x.val)) (hn : n₀ + n ≤ 2 ^ 31) (c : BitVec 32) :
    ∑ x : Fin n, Scalar.select (IntOp.cmpi .eq (IntOp.subi c (BitVec.ofNat 32 n₀)) (BitVec.ofNat 32 x.val)) (f x) 0
      = if n₀ ≤ c.toNat ∧ c.toNat < n₀ + n then g c.toNat else 0 := by
  have hc := c.isLt
  have e : ∀ x : Fin n, Scalar.select (IntOp.cmpi .eq (IntOp.subi c (BitVec.ofNat 32 n₀)) (BitVec.ofNat 32 x.val)) (f x) 0
      = if n₀ + x.val = c.toNat then g (n₀ + x.val) else 0 := fun x => by
    rw [hf]
    have hx := x.isLt
    have key : c - BitVec.ofNat 32 n₀ = BitVec.ofNat 32 x.val ↔ n₀ + x.val = c.toNat := by
      rw [← BitVec.toNat_inj, BitVec.toNat_sub, BitVec.toNat_ofNat, BitVec.toNat_ofNat]
      omega
    by_cases h : n₀ + x.val = c.toNat
    · rw [if_pos h]
      simp [Scalar.select, IntOp.cmpi, IntOp.subi, key.mpr h]
    · rw [if_neg h]
      have : ¬ c - BitVec.ofNat 32 n₀ = BitVec.ofNat 32 x.val := fun e => h (key.mp e)
      rw [show IntOp.cmpi .eq (IntOp.subi c (BitVec.ofNat 32 n₀)) (BitVec.ofNat 32 x.val) = BitVec.ofBool (c - BitVec.ofNat 32 n₀ == BitVec.ofNat 32 x.val) from rfl,
        beq_false_of_ne this]
      rfl
  rw [Finset.sum_congr rfl fun x _ => e x]
  split
  · next h =>
    rw [Finset.sum_eq_single (⟨c.toNat - n₀, by omega⟩ : Fin n) (fun x _ hx => if_neg fun e => hx (Fin.ext (by show x.val = c.toNat - n₀; omega)))
      (fun h => absurd (Finset.mem_univ _) h), if_pos (by show n₀ + (c.toNat - n₀) = _; omega)]
    congr 1
    show n₀ + (c.toNat - n₀) = _; omega
  · next h => exact Finset.sum_eq_zero fun x _ => if_neg (by have := x.isLt; omega)

end Cert.Online

end
-- ==== Proof.Tile.lean ====
module

public import proofs.«01_k».proof.Proof.Step
public import proofs.«01_k».proof.Proof.Online
public import Idealize.ShloMosaic.Lib.Pointwise

/-! What one step of the statistics kernel leaves, entry by entry, over the extended reals: with `s p q` the score of row `p`
against column `q` and the step's tile the rows `n₀ … n₀ + 511`, the row statistics of the tile are those of whole rows, and
the column statistics go from the first `n₀` rows to the first `n₀ + 512`. -/

@[expose] public section

set_option maxRecDepth 16384

noncomputable section

namespace Cert.KernelIdeal.Step

open Cert.KernelIdeal Cert.KernelIdeal.Gen Cert.Online
open Idealize.ShloMosaic

/-- The first row of the step's tile as a number. -/
abbrev base (i : grid0.Coords) : ℕ := 512 * (i 1).val

theorem grid_lt (i : grid0.Coords) : (i 1).val < 12 := (i 1).isLt

/-- The stores into a row of 6144 start at the tile's first row. -/
theorem off_eq (i : grid0.Coords) : k0_off1 i = ![0, 0, base i] := by
  have key : ∀ r : Fin 12, (Scalar.indexCast (Scalar.muli (BitVec.ofNat 32 r.val) 512#32) : Index).toNat = 512 * r.val := by decide
  have e := key ⟨(i 1).val, grid_lt i⟩
  funext a
  match a with
  | 0 => rfl
  | 1 => rfl
  | 2 => exact e

/-- The first row of the tile, as the word the kernel computes. -/
theorem row0_eq (i : grid0.Coords) : row0 i = BitVec.ofNat 32 (base i) := by
  have key : ∀ r : Fin 12, Scalar.muli (BitVec.ofNat 32 r.val) 512#32 = BitVec.ofNat 32 (512 * r.val) := by decide
  exact key ⟨(i 1).val, grid_lt i⟩

/-- The least float is negative infinity. -/
theorem negInf : Ideal.ofBits .f32 4286578688#32 = ⊥ := by
  simp [Ideal.ofBits, Ideal.ieee]

variable {α : Type}

/-- A row of 6144 with the tile's 512 entries put in: the tile's where the place is in the tile, else the old ones. -/
theorem put_apply (i : grid0.Coords) (o : S1x1x6144.Idx → α) (w : S1x1x512.Idx → α) (j : Fin 6144) :
    VecWindow.put o (k0_off1 i) S1x1x512.size w (ix3 0 0 j)
      = if h : base i ≤ j.val ∧ j.val < base i + 512 then w (ix3 0 0 ⟨j.val - base i, by omega⟩) else o (ix3 0 0 j) := by
  rw [off_eq]
  unfold VecWindow.put
  by_cases h : base i ≤ j.val ∧ j.val < base i + 512
  · rw [dif_pos h, dif_pos (fun a => by
      match a with
      | 0 => exact ⟨Nat.zero_le _, Nat.zero_lt_one⟩
      | 1 => exact ⟨Nat.zero_le _, Nat.zero_lt_one⟩
      | 2 => exact h)]
    congr 1
    funext a
    match a with
    | 0 => rfl
    | 1 => rfl
    | 2 => rfl
  · rw [dif_neg h, dif_neg (fun hall => h (hall 2))]

/-- The tile's entries of a row of 6144. -/
theorem tileOf_apply (i : grid0.Coords) (x : Vec Ideal S1x1x6144 .i32) (p : Fin 512) :
    tileOf i x (ix3 0 0 p) = x (ix3 0 0 ⟨base i + p.val, by have := grid_lt i; have := p.isLt; show 512 * _ + _ < _; omega⟩) := by
  unfold tileOf VecWindow.window
  congr 1
  funext a
  apply Fin.ext
  match a with
  | 0 => rfl
  | 1 => rfl
  | 2 =>
    show k0_off1 i 2 + 1 * p.val = base i + p.val
    rw [off_eq]
    show base i + 1 * p.val = base i + p.val
    omega

variable (i : grid0.Coords) (x0 : Vec Ideal S1x32x512 .f32) (x1 : Vec Ideal S1x32x6144 .f32) (x2 x3 : Vec Ideal S1x1x6144 .i32)
  (s : ℕ → ℕ → EReal) (hs : ∀ (p : Fin 512) (q : Fin 6144), k0_pay5 x0 x1 (ix2 p q) = s (base i + p.val) q.val)

include hs

/-- The maximum of a row of the tile. -/
theorem pay6_apply (p : Fin 512) : k0_pay6 x0 x1 (ix1 p) = top (s (base i + p.val)) 6144 := by
  pointwise [k0_pay6]
  rw [negInf]
  exact fold_max_eq fun q => hs p q

/-- The row maxima after the step. -/
theorem rowMax_apply (o : Vec Ideal S1x1x6144 .f32) (j : Fin 6144) :
    rowMax i x0 x1 o (ix3 0 0 j) = if base i ≤ j.val ∧ j.val < base i + 512 then top (s j.val) 6144 else o (ix3 0 0 j) := by
  unfold rowMax
  rw [put_apply]
  split
  · next h =>
    pointwise [k0_pay10]
    rw [pay6_apply i x0 x1 s hs]
    simp only [Nat.add_sub_cancel' h.1]
  · rfl

/-- The sum of a row of the tile. -/
theorem pay8_apply (p : Fin 512) : k0_pay8 x0 x1 (ix1 p) = mass (s (base i + p.val)) 6144 := by
  pointwise [k0_pay8]
  rw [pay6_apply i x0 x1 s hs, sum_exp_eq (g := s (base i + p.val)) fun q => hs p q]
  unfold mass
  exact rfl

/-- The row sums after the step. -/
theorem rowSum_apply (o : Vec Ideal S1x1x6144 .f32) (j : Fin 6144) :
    rowSum i x0 x1 o (ix3 0 0 j) = if base i ≤ j.val ∧ j.val < base i + 512 then mass (s j.val) 6144 else o (ix3 0 0 j) := by
  unfold rowSum
  rw [put_apply]
  split
  · next h =>
    pointwise [k0_pay12]
    rw [pay8_apply i x0 x1 s hs]
    simp only [Nat.add_sub_cancel' h.1]
  · rfl

/-- The place of the maximum of a row of the tile. -/
theorem pay7_apply (p : Fin 512) : k0_pay7 x0 x1 (ix1 p) = BitVec.ofNat 32 (place (s (base i + p.val)) 6144) := by
  pointwise [k0_pay7]
  simp only [pay6_apply i x0 x1 s hs]
  rw [fold_place (g := s (base i + p.val)) (fun q => hs p q) (by norm_num) (D := 6144) le_rfl (by norm_num)]

/-- The places of the row maxima after the step. -/
theorem rowArg_apply (o : Vec Ideal S1x1x6144 .i32) (j : Fin 6144) :
    rowArg i x0 x1 o (ix3 0 0 j)
      = if base i ≤ j.val ∧ j.val < base i + 512 then BitVec.ofNat 32 (place (s j.val) 6144) else o (ix3 0 0 j) := by
  unfold rowArg
  rw [put_apply]
  split
  · next h =>
    pointwise [k0_pay11]
    rw [pay7_apply i x0 x1 s hs]
    simp only [Nat.add_sub_cancel' h.1]
  · rfl

/-- The score at the given correspondence of a row of the tile. -/
theorem pay9_apply (c : Vec Ideal S1x1x512 .i32) (p : Fin 512) :
    k0_pay9 x0 x1 c (ix1 p) = hit (s (base i + p.val)) (c (ix3 0 0 p)).toNat 6144 := by
  pointwise [k0_pay9]
  rw [sum_hit (g := s (base i + p.val)) (fun q => hs p q) (by norm_num)]

/-- The scores at the rows' given correspondences after the step. -/
theorem rowHit_apply (o : Vec Ideal S1x1x6144 .f32) (j : Fin 6144) :
    rowHit i x0 x1 x2 o (ix3 0 0 j)
      = if base i ≤ j.val ∧ j.val < base i + 512 then hit (s j.val) (x2 (ix3 0 0 j)).toNat 6144 else o (ix3 0 0 j) := by
  unfold rowHit
  rw [put_apply]
  split
  · next h =>
    pointwise [k0_pay13]
    rw [pay9_apply i x0 x1 s hs, tileOf_apply]
    simp only [Nat.add_sub_cancel' h.1]
  · rfl

/-- The maximum of a column of the tile. -/
theorem pay21_apply (q : Fin 6144) : k0_pay21 (k0_pay5 x0 x1) (ix1 q) = top (fun k => s (base i + k) q.val) 512 := by
  pointwise [k0_pay21]
  rw [negInf]
  exact fold_max_eq (g := fun k => s (base i + k) q.val) fun p => hs p q

/-- The column maximum after the step. -/
theorem pay23_apply (om : Vec Ideal S1x1x6144 .f32) (q : Fin 6144) (hm : om (ix3 0 0 q) = top (fun k => s k q.val) (base i)) :
    k0_pay23 (k0_pay5 x0 x1) om (ix1 q) = top (fun k => s k q.val) (base i + 512) := by
  pointwise [k0_pay23]
  rw [top_add, pay21_apply i x0 x1 s hs]
  pointwise [k0_pay18]
  rw [hm]

/-- The column maxima after the step, as stored. -/
theorem colMax_apply (om : Vec Ideal S1x1x6144 .f32) (q : Fin 6144) (hm : om (ix3 0 0 q) = top (fun k => s k q.val) (base i)) :
    colMax x0 x1 om (ix3 0 0 q) = top (fun k => s k q.val) (base i + 512) := by
  pointwise [colMax, k0_pay1]
  exact pay23_apply i x0 x1 s hs om q hm

/-- The column sums after the step. -/
theorem colSum_apply (om os : Vec Ideal S1x1x6144 .f32) (q : Fin 6144) (hm : om (ix3 0 0 q) = top (fun k => s k q.val) (base i))
    (hsum : os (ix3 0 0 q) = mass (fun k => s k q.val) (base i)) :
    colSum x0 x1 om os (ix3 0 0 q) = mass (fun k => s k q.val) (base i + 512) := by
  pointwise [colSum, k0_pay2, k0_pay24, k0_pay18, k0_pay19]
  rw [pay23_apply i x0 x1 s hs om q hm, hm, hsum, mass_add,
    sum_exp_eq (f := fun p : Fin 512 => k0_pay5 x0 x1 (ix2 p q)) (g := fun k => s (base i + k) q.val) (fun p => hs p q)]

omit hs in
/-- The sum of the words of two numbers is the word of their sum. -/
theorem addi_ofNat (a b : ℕ) : IntOp.addi (BitVec.ofNat 32 a) (BitVec.ofNat 32 b) = BitVec.ofNat 32 (b + a) := by
  show BitVec.ofNat 32 a + BitVec.ofNat 32 b = _
  rw [← BitVec.ofNat_add, Nat.add_comm]

/-- The place of the maximum of a column of the tile. -/
theorem pay22_apply (q : Fin 6144) :
    k0_pay22 (row0 i) (k0_pay5 x0 x1) rows (ix1 q) = BitVec.ofNat 32 (base i + place (fun k => s (base i + k) q.val) 512) := by
  pointwise [k0_pay22, rows]
  simp only [pay21_apply i x0 x1 s hs]
  rw [fold_place (g := fun k => s (base i + k) q.val) (fun p => hs p q) (by norm_num) (D := 512) le_rfl (by norm_num), row0_eq,
    addi_ofNat]

omit hs in
/-- The new place of a column's maximum: the tile's where the tile's maximum is greater. -/
theorem pay3_apply (A B : FVec Ideal S6144 .f32) (C D : IVec S6144 32) (q : Fin 6144) :
    k0_pay3 (F := Ideal) A C B D (ix3 0 0 q) = if A (ix1 q) < B (ix1 q) then D (ix1 q) else C (ix1 q) := by
  pointwise [k0_pay3]

omit hs in
/-- A row of 6144 without its unit axes. -/
theorem pay18_apply (om : Vec Ideal S1x1x6144 .f32) (q : Fin 6144) : k0_pay18 om (ix1 q) = om (ix3 0 0 q) := by
  pointwise [k0_pay18]

omit hs in
/-- A row of 6144 words without its unit axes. -/
theorem pay20_apply (oa : Vec Ideal S1x1x6144 .i32) (q : Fin 6144) : k0_pay20 (F := Ideal) oa (ix1 q) = oa (ix3 0 0 q) := by
  pointwise [k0_pay20]

/-- The places of the column maxima after the step. -/
theorem colArg_apply (om : Vec Ideal S1x1x6144 .f32) (oa : Vec Ideal S1x1x6144 .i32) (q : Fin 6144)
    (hm : om (ix3 0 0 q) = top (fun k => s k q.val) (base i)) (ha : oa (ix3 0 0 q) = BitVec.ofNat 32 (place (fun k => s k q.val) (base i))) :
    colArg i x0 x1 om oa (ix3 0 0 q) = BitVec.ofNat 32 (place (fun k => s k q.val) (base i + 512)) := by
  unfold colArg
  rw [pay3_apply, pay18_apply, pay20_apply, pay21_apply i x0 x1 s hs, pay22_apply i x0 x1 s hs, hm, ha, place_add _ _ (by norm_num)]
  generalize top (fun k => s k q.val) (base i) = A
  generalize top (fun k => s (base i + k) q.val) 512 = B
  generalize place (fun k => s (base i + k) q.val) 512 = C
  generalize place (fun k => s k q.val) (base i) = D
  by_cases hAB : A < B
  · rw [if_pos hAB, if_pos hAB]
  · rw [if_neg hAB, if_neg hAB]

/-- The scores at the columns' given correspondences after the step. -/
theorem colHit_apply (ov : Vec Ideal S1x1x6144 .f32) (q : Fin 6144)
    (hv : ov (ix3 0 0 q) = hit (fun k => s k q.val) (x3 (ix3 0 0 q)).toNat (base i)) :
    colHit i x0 x1 x3 ov (ix3 0 0 q) = hit (fun k => s k q.val) (x3 (ix3 0 0 q)).toNat (base i + 512) := by
  pointwise [colHit, k0_pay4, rows]
  rw [row0_eq, hv, hit_add, sum_hit_off (g := fun k => s k q.val) (fun p => hs p q) (by have := grid_lt i; show 512 * _ + _ ≤ _; omega)]

end Cert.KernelIdeal.Step

end
-- ==== Proof.Score.lean ====
module

public import proofs.«01_k».proof.Proof.Tile
public import proofs.«01_k».proof.Proof.Gen.KernelIdeal.Frame
public import Idealize.ShloMosaic.Lib.Pipeline.ValueKit

/-! The scores of the descriptors, and what the blocks of the statistics kernel hold at a point of its grid: point `t` works on
batch element `t / 12` and on the rows from `512 * (t % 12)`. -/

@[expose] public section

set_option maxRecDepth 16384

noncomputable section

namespace Cert.KernelIdeal.Step

open Cert.KernelIdeal Cert.KernelIdeal.Gen Cert.Online
open Idealize.ShloMosaic Idealize.ShloMosaic.TcCoe Idealize.ShloMosaic.Tactic

/-- The score of row `p` of the first descriptors against row `q` of the second in batch element `b`; `0` past the rows. -/
def score (a0 a1 : Vec Ideal S2x32x6144 .f32) (b : Fin 2) (p q : ℕ) : EReal :=
  if h : p < 6144 ∧ q < 6144 then
    ∑ k : Fin 32, a0 (ix3 b k ⟨p, h.1⟩) * Ideal.ofBits .f32 1078616770#32 * (a1 (ix3 b k ⟨q, h.2⟩) * Ideal.ofBits .f32 1078616770#32)
  else 0

/-- The score at two rows. -/
theorem score_apply (a0 a1 : Vec Ideal S2x32x6144 .f32) (b : Fin 2) (p q : Fin 6144) :
    score a0 a1 b p.val q.val
      = ∑ k : Fin 32, a0 (ix3 b k p) * Ideal.ofBits .f32 1078616770#32 * (a1 (ix3 b k q) * Ideal.ofBits .f32 1078616770#32) :=
  dif_pos ⟨p.isLt, q.isLt⟩

variable (m : (ℓ : Loc nD τ sig) → Buf (Elt Ideal) ℓ) (c : Dev nD)

theorem point_lt (t : Fin cfg0.N) : t.val < 24 := lt_of_lt_of_eq t.isLt (show cfg0.N = 24 from N_0)

/-- The batch element of a point. -/
def bat (t : Fin cfg0.N) : Fin 2 := ⟨t.val / 12, by have := point_lt t; omega⟩

/-- The row tile of a point. -/
theorem coord_one (t : Fin cfg0.N) : (grid0.coords t 1).val = t.val % 12 := by
  have h : ((grid0.coords t) 1).val = t.val / 1 % 12 := Pipeline.Grid.coords_val t 1 (by decide) rfl
  rw [h, Nat.div_one]

/-- The first row of a point's tile. -/
theorem base_eq (t : Fin cfg0.N) : base (grid0.coords t) = 512 * (t.val % 12) := by
  unfold base; rw [coord_one]

/-- Which block each input is at. -/
theorem idx : ∀ t : Fin cfg0.N, win0_0.index t = ![t.val / 12, 0, t.val % 12] ∧ win0_1.index t = ![t.val / 12, 0, 0]
    ∧ win0_2.index t = ![t.val / 12, 0, 0] ∧ win0_3.index t = ![t.val / 12, 0, 0] := by decide +kernel

/-- The tile of the first descriptors. -/
theorem iblk0 (t : Fin cfg0.N) (k : Fin 32) (p : Fin 512) :
    iblk m c 0 t (ix3 0 k p) = V m c main_v0 (ix3 (bat t) k ⟨512 * (t.val % 12) + p.val, by have := p.isLt; omega⟩) := by
  have h := point_lt t
  unfold bat
  blk_ext [iblk, idx t]

/-- The second descriptors of the batch element. -/
theorem iblk1 (t : Fin cfg0.N) (k : Fin 32) (q : Fin 6144) :
    iblk m c 1 t (ix3 0 k q) = V m c main_v1 (ix3 (bat t) k q) := by
  have h := point_lt t
  unfold bat
  blk_ext [iblk, idx t]

/-- The first correspondences of the batch element. -/
theorem iblk2 (t : Fin cfg0.N) (q : Fin 6144) : iblk m c 2 t (ix3 0 0 q) = V m c main_v2 (ix3 (bat t) 0 q) := by
  have h := point_lt t
  unfold bat
  blk_ext [iblk, idx t]

/-- The second correspondences of the batch element. -/
theorem iblk3 (t : Fin cfg0.N) (q : Fin 6144) : iblk m c 3 t (ix3 0 0 q) = V m c main_v3 (ix3 (bat t) 0 q) := by
  have h := point_lt t
  unfold bat
  blk_ext [iblk, idx t]

/-- The product of any two tiles at an index. -/
theorem pay5_apply (x0 : Vec Ideal S1x32x512 .f32) (x1 : Vec Ideal S1x32x6144 .f32) (p : Fin 512) (q : Fin 6144) :
    k0_pay5 x0 x1 (ix2 p q)
      = ∑ k : Fin 32, x0 (ix3 0 k p) * Ideal.ofBits .f32 1078616770#32 * (x1 (ix3 0 k q) * Ideal.ofBits .f32 1078616770#32) := by
  pointwise [k0_pay5]

/-- A point's product of tiles holds the scores of its rows. -/
theorem tile_score (t : Fin cfg0.N) (p : Fin 512) (q : Fin 6144) :
    k0_pay5 (iblk m c 0 t) (iblk m c 1 t) (ix2 p q)
      = score (V m c main_v0) (V m c main_v1) (bat t) (base (grid0.coords t) + p.val) q.val := by
  rw [pay5_apply, base_eq]
  have hp : 512 * (t.val % 12) + p.val < 6144 := by have := p.isLt; omega
  refine Eq.trans ?_ (score_apply _ _ (bat t) ⟨512 * (t.val % 12) + p.val, hp⟩ q).symm
  refine Finset.sum_congr rfl fun k _ => ?_
  rw [iblk0, iblk1]

end Cert.KernelIdeal.Step

end
-- ==== Proof.StepB.lean ====
module

public import proofs.«01_k».proof.Proof.Step
public import proofs.«01_k».proof.Proof.Gen.KernelIdeal.Skeleton
public import proofs.«01_k».proof.Proof.Gen.KernelIdeal.Launch
public import Idealize.ShloMosaic.Lib.Pipeline.FrameBody
public import Idealize.ShloMosaic.Lib.VecWindow
public import Idealize.ShloMosaic.Lib.Tactic
public import Idealize.ShloMosaic.Lib.WordCmp

/-! One grid step of the statistics kernel, run on whole staging buffers: what each of the twelve buffers holds afterwards,
as a function of what the buffers held before. -/

@[expose] public section

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- A step of the body, at a later row tile. -/
theorem run_later (c : Dev nD) (i : grid0.Coords) (arg2 : Memref sig .tc .vmem S1x32x512 .f32) (harg2 : arg2.IsWhole) (arg3 : Memref sig .tc .vmem S1x32x6144 .f32) (harg3 : arg3.IsWhole) (arg4 : Memref sig .tc .vmem S1x1x6144 .i32) (harg4 : arg4.IsWhole) (arg5 : Memref sig .tc .vmem S1x1x6144 .i32) (harg5 : arg5.IsWhole) (arg6 : Memref sig .tc .vmem S1x1x6144 .f32) (harg6 : arg6.IsWhole) (arg7 : Memref sig .tc .vmem S1x1x6144 .f32) (harg7 : arg7.IsWhole) (arg8 : Memref sig .tc .vmem S1x1x6144 .i32) (harg8 : arg8.IsWhole) (arg9 : Memref sig .tc .vmem S1x1x6144 .f32) (harg9 : arg9.IsWhole) (arg10 : Memref sig .tc .vmem S1x1x6144 .f32) (harg10 : arg10.IsWhole) (arg11 : Memref sig .tc .vmem S1x1x6144 .f32) (harg11 : arg11.IsWhole) (arg12 : Memref sig .tc .vmem S1x1x6144 .i32) (harg12 : arg12.IsWhole) (arg13 : Memref sig .tc .vmem S1x1x6144 .f32) (harg13 : arg13.IsWhole) (hc0 : ¬ First i) (x0 : Vec F S1x32x512 .f32) (x1 : Vec F S1x32x6144 .f32) (x2 : Vec F S1x1x6144 .i32) (x3 : Vec F S1x1x6144 .i32) (x4 : Vec F S1x1x6144 .f32) (x5 : Vec F S1x1x6144 .f32) (x6 : Vec F S1x1x6144 .i32) (x7 : Vec F S1x1x6144 .f32) (x8 : Vec F S1x1x6144 .f32) (x9 : Vec F S1x1x6144 .f32) (x10 : Vec F S1x1x6144 .i32) (x11 : Vec F S1x1x6144 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (rowMax i x0 x1 x4) ∗ owns (c : Thread nD τ) arg7 fullShare (rowSum i x0 x1 x5) ∗ owns (c : Thread nD τ) arg8 fullShare (rowArg i x0 x1 x6) ∗ owns (c : Thread nD τ) arg9 fullShare (rowHit i x0 x1 x2 x7) ∗ owns (c : Thread nD τ) arg10 fullShare (colMax x0 x1 x8) ∗ owns (c : Thread nD τ) arg11 fullShare (colSum x0 x1 x8 x9) ∗ owns (c : Thread nD τ) arg12 fullShare (colArg i x0 x1 x8 x10) ∗ owns (c : Thread nD τ) arg13 fullShare (colHit i x0 x1 x3 x11)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13) K := by
    intro E K
    simp only [cc0__pass1_kernel_eq_skeleton]; unfold cc0__pass1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; sl_unfold_run_names; rw [View.read_writes_cons_put _ _ _ _ _ rfl]; simp only [View.writes_nil, View.readAt_full (s := S1x32x512), View.readAt_full (s := S1x32x6144), Memref.IsWhole.read_unread, rowMax]
    isplitl [H5]
    · iexists _; isplitr; swap; · iexact H5
      ipureintro; sl_unfold_run_names; rw [View.read_writes_cons_put _ _ _ _ _ rfl]; simp only [View.writes_nil, View.readAt_full (s := S1x32x512), View.readAt_full (s := S1x32x6144), Memref.IsWhole.read_unread, rowSum]
    isplitl [H6]
    · iexists _; isplitr; swap; · iexact H6
      ipureintro; sl_unfold_run_names; rw [View.read_writes_cons_put _ _ _ _ _ rfl]; simp only [View.writes_nil, View.readAt_full (s := S1x32x512), View.readAt_full (s := S1x32x6144), Memref.IsWhole.read_unread, rowArg]
    isplitl [H7]
    · iexists _; isplitr; swap; · iexact H7
      ipureintro; sl_unfold_run_names; rw [View.read_writes_cons_put _ _ _ _ _ rfl]; simp only [View.writes_nil, View.readAt_full (s := S1x32x512), View.readAt_full (s := S1x32x6144), Memref.IsWhole.read_unread, rowHit, tileOf]; rw [View.readAt_unit arg4.view _ (k0_off1_inb i) rfl (k0_off1_inb i), harg4.read_unread]
    isplitl [H8]
    · iexists _; isplitr; swap; · iexact H8
      ipureintro; sl_unfold_run_names; rw [View.read_writes_full]; simp only [View.readAt_full (s := S1x32x512), View.readAt_full (s := S1x32x6144), View.readAt_full (s := S1x1x6144), View.readCov_full (s := S1x1x6144), View.readAt_writes_full (s := S1x1x6144), View.writes_nil, Memref.IsWhole.read_unread, colMax]
    isplitl [H9]
    · iexists _; isplitr; swap; · iexact H9
      ipureintro; sl_unfold_run_names; rw [View.read_writes_full]; simp only [View.readAt_full (s := S1x32x512), View.readAt_full (s := S1x32x6144), View.readAt_full (s := S1x1x6144), View.readCov_full (s := S1x1x6144), View.readAt_writes_full (s := S1x1x6144), View.writes_nil, Memref.IsWhole.read_unread, colSum]
    isplitl [H10]
    · iexists _; isplitr; swap; · iexact H10
      ipureintro; sl_unfold_run_names; rw [View.read_writes_full]; simp only [View.readAt_full (s := S1x32x512), View.readAt_full (s := S1x32x6144), View.readAt_full (s := S1x1x6144), View.readCov_full (s := S1x1x6144), View.readAt_writes_full (s := S1x1x6144), View.writes_nil, Memref.IsWhole.read_unread, colArg]
    iexists _; isplitr; swap; · iexact H11
    ipureintro; sl_unfold_run_names; rw [View.read_writes_full]; simp only [View.readAt_full (s := S1x32x512), View.readAt_full (s := S1x32x6144), View.readAt_full (s := S1x1x6144), View.readCov_full (s := S1x1x6144), View.readAt_writes_full (s := S1x1x6144), View.writes_nil, Memref.IsWhole.read_unread, colHit]

end Cert.KernelIdeal.Step

end
-- ==== Proof.Stats.lean ====
module

public import proofs.«01_k».proof.Proof.Score
public import proofs.«01_k».proof.Proof.StepB
public import Idealize.ShloMosaic.Lib.Pipeline.DatRel
public import Idealize.ShloMosaic.Lib.Pipeline.Frame
public import Idealize.ShloMosaic.Lib.Claim

/-! The statistics kernel over its grid, at the extended reals: what each output holds after each point, and the run. After point
`t` the row statistics are found for the first `512 * (t % 12 + 1)` rows of batch element `t / 12`, and the column statistics
count those rows. -/

@[expose] public section

set_option maxRecDepth 16384

noncomputable section

namespace Cert.KernelIdeal.Step

open Cert.KernelIdeal Cert.KernelIdeal.Gen Cert.Online
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg) (c : Dev nD)

/-- The scores of batch element `b`. -/
abbrev sc (b : Fin 2) : ℕ → ℕ → EReal := score (V m c main_v0) (V m c main_v1) b

/-- The maxima of the first `n` rows stand in the row. -/
def RowTop (b : Fin 2) (n : ℕ) (X : Vec Ideal S1x1x6144 .f32) : Prop :=
  ∀ j : Fin 6144, j.val < n → X (ix3 0 0 j) = top (sc m c b j.val) 6144

/-- The sums of exponentials of the first `n` rows stand in the row. -/
def RowMass (b : Fin 2) (n : ℕ) (X : Vec Ideal S1x1x6144 .f32) : Prop :=
  ∀ j : Fin 6144, j.val < n → X (ix3 0 0 j) = mass (sc m c b j.val) 6144

/-- The places of the maxima of the first `n` rows stand in the row. -/
def RowPlace (b : Fin 2) (n : ℕ) (X : Vec Ideal S1x1x6144 .i32) : Prop :=
  ∀ j : Fin 6144, j.val < n → X (ix3 0 0 j) = BitVec.ofNat 32 (place (sc m c b j.val) 6144)

/-- The scores at the first `n` rows' correspondences stand in the row. -/
def RowHit (b : Fin 2) (n : ℕ) (X : Vec Ideal S1x1x6144 .f32) : Prop :=
  ∀ j : Fin 6144, j.val < n → X (ix3 0 0 j) = hit (sc m c b j.val) (BitVec.toNat (V m c main_v2 (ix3 b 0 j))) 6144

/-- The column maxima over the first `n` rows stand in the row. -/
def ColTop (b : Fin 2) (n : ℕ) (X : Vec Ideal S1x1x6144 .f32) : Prop :=
  ∀ q : Fin 6144, X (ix3 0 0 q) = top (fun k => sc m c b k q.val) n

/-- The column sums of exponentials over the first `n` rows stand in the row. -/
def ColMass (b : Fin 2) (n : ℕ) (X : Vec Ideal S1x1x6144 .f32) : Prop :=
  ∀ q : Fin 6144, X (ix3 0 0 q) = mass (fun k => sc m c b k q.val) n

/-- The places of the column maxima over the first `n` rows stand in the row. -/
def ColPlace (b : Fin 2) (n : ℕ) (X : Vec Ideal S1x1x6144 .i32) : Prop :=
  ∀ q : Fin 6144, X (ix3 0 0 q) = BitVec.ofNat 32 (place (fun k => sc m c b k q.val) n)

/-- The scores at the columns' correspondences, where among the first `n` rows, stand in the row. -/
def ColHit (b : Fin 2) (n : ℕ) (X : Vec Ideal S1x1x6144 .f32) : Prop :=
  ∀ q : Fin 6144, X (ix3 0 0 q) = hit (fun k => sc m c b k q.val) (BitVec.toNat (V m c main_v3 (ix3 b 0 q))) n

section Steps

variable (t : Fin cfg0.N)

/-- A row statistic's step: the tile's entries are put in, the others kept. -/
theorem row_step {α : Type} (X Y : S1x1x6144.Idx → α) (f : ℕ → α) (hY : ∀ j : Fin 6144, j.val < 512 * (t.val % 12) → Y (ix3 0 0 j) = f j.val)
    (hX : ∀ j : Fin 6144, X (ix3 0 0 j) = if base (grid0.coords t) ≤ j.val ∧ j.val < base (grid0.coords t) + 512 then f j.val else Y (ix3 0 0 j))
    (j : Fin 6144) (hj : j.val < 512 * (t.val % 12 + 1)) : X (ix3 0 0 j) = f j.val := by
  rw [hX, base_eq]
  by_cases h : 512 * (t.val % 12) ≤ j.val ∧ j.val < 512 * (t.val % 12) + 512
  · rw [if_pos h]
  · rw [if_neg h]; exact hY j (by omega)

/-- The row maxima after the point. -/
theorem rowTop_step (Y : Vec Ideal S1x1x6144 .f32) (hY : RowTop m c (bat t) (512 * (t.val % 12)) Y) :
    RowTop m c (bat t) (512 * (t.val % 12 + 1)) (rowMax (grid0.coords t) (iblk m c 0 t) (iblk m c 1 t) Y) :=
  row_step t _ Y (fun j => top (sc m c (bat t) j) 6144) hY fun j => rowMax_apply (grid0.coords t) _ _ _ (tile_score m c t) Y j

/-- The row sums after the point. -/
theorem rowMass_step (Y : Vec Ideal S1x1x6144 .f32) (hY : RowMass m c (bat t) (512 * (t.val % 12)) Y) :
    RowMass m c (bat t) (512 * (t.val % 12 + 1)) (rowSum (grid0.coords t) (iblk m c 0 t) (iblk m c 1 t) Y) :=
  row_step t _ Y (fun j => mass (sc m c (bat t) j) 6144) hY fun j => rowSum_apply (grid0.coords t) _ _ _ (tile_score m c t) Y j

/-- The places of the row maxima after the point. -/
theorem rowPlace_step (Y : Vec Ideal S1x1x6144 .i32) (hY : RowPlace m c (bat t) (512 * (t.val % 12)) Y) :
    RowPlace m c (bat t) (512 * (t.val % 12 + 1)) (rowArg (grid0.coords t) (iblk m c 0 t) (iblk m c 1 t) Y) :=
  row_step t _ Y (fun j => BitVec.ofNat 32 (place (sc m c (bat t) j) 6144)) hY fun j => rowArg_apply (grid0.coords t) _ _ _ (tile_score m c t) Y j

/-- The scores at the rows' correspondences after the point. -/
theorem rowHit_step (Y : Vec Ideal S1x1x6144 .f32) (hY : RowHit m c (bat t) (512 * (t.val % 12)) Y) :
    RowHit m c (bat t) (512 * (t.val % 12 + 1)) (rowHit (grid0.coords t) (iblk m c 0 t) (iblk m c 1 t) (iblk m c 2 t) Y) := by
  intro j hj
  have e := rowHit_apply (grid0.coords t) _ _ (iblk m c 2 t) _ (tile_score m c t) Y j
  rw [e, base_eq, iblk2]
  by_cases h : 512 * (t.val % 12) ≤ j.val ∧ j.val < 512 * (t.val % 12) + 512
  · rw [if_pos h]
  · rw [if_neg h]; exact hY j (by omega)

/-- The rows counted after a point. -/
theorem next_base : base (grid0.coords t) + 512 = 512 * (t.val % 12 + 1) := by rw [base_eq]; omega

/-- The column maxima after the point. -/
theorem colTop_step (om : Vec Ideal S1x1x6144 .f32) (hm : ColTop m c (bat t) (512 * (t.val % 12)) om) :
    ColTop m c (bat t) (512 * (t.val % 12 + 1)) (colMax (iblk m c 0 t) (iblk m c 1 t) om) := by
  intro q
  rw [← base_eq] at hm
  rw [← next_base]
  exact colMax_apply (grid0.coords t) _ _ _ (tile_score m c t) om q (hm q)

/-- The column sums after the point. -/
theorem colMass_step (om os : Vec Ideal S1x1x6144 .f32) (hm : ColTop m c (bat t) (512 * (t.val % 12)) om)
    (hs : ColMass m c (bat t) (512 * (t.val % 12)) os) :
    ColMass m c (bat t) (512 * (t.val % 12 + 1)) (colSum (iblk m c 0 t) (iblk m c 1 t) om os) := by
  intro q
  rw [← base_eq] at hm hs
  rw [← next_base]
  exact colSum_apply (grid0.coords t) _ _ _ (tile_score m c t) om os q (hm q) (hs q)

/-- The places of the column maxima after the point. -/
theorem colPlace_step (om : Vec Ideal S1x1x6144 .f32) (oa : Vec Ideal S1x1x6144 .i32) (hm : ColTop m c (bat t) (512 * (t.val % 12)) om)
    (ha : ColPlace m c (bat t) (512 * (t.val % 12)) oa) :
    ColPlace m c (bat t) (512 * (t.val % 12 + 1)) (colArg (grid0.coords t) (iblk m c 0 t) (iblk m c 1 t) om oa) := by
  intro q
  rw [← base_eq] at hm ha
  rw [← next_base]
  exact colArg_apply (grid0.coords t) _ _ _ (tile_score m c t) om oa q (hm q) (ha q)

/-- The scores at the columns' correspondences after the point. -/
theorem colHit_step (ov : Vec Ideal S1x1x6144 .f32) (hv : ColHit m c (bat t) (512 * (t.val % 12)) ov) :
    ColHit m c (bat t) (512 * (t.val % 12 + 1)) (colHit (grid0.coords t) (iblk m c 0 t) (iblk m c 1 t) (iblk m c 3 t) ov) := by
  intro q
  have e := colHit_apply (grid0.coords t) _ _ (iblk m c 3 t) _ (tile_score m c t) ov q
  rw [iblk3] at e
  rw [← next_base]
  refine e ?_
  rw [base_eq]
  exact hv q

end Steps

/-- Of no rows the maxima are negative infinity. -/
theorem colTop_zero (b : Fin 2) : ColTop m c b 0 (k0_pay14 (F := Ideal)) := by
  intro q
  pointwise [k0_pay14]
  rw [negInf]
  unfold top
  rw [Finset.range_zero, Finset.sup_empty]

/-- Of no rows the sums are zero. -/
theorem colMass_zero (b : Fin 2) : ColMass m c b 0 (k0_pay15 (F := Ideal)) := by
  intro q
  pointwise [k0_pay15]
  unfold mass
  rw [Finset.range_zero, Finset.sum_empty]

/-- Of no rows the places are zero. -/
theorem colPlace_zero (b : Fin 2) : ColPlace m c b 0 k0_pay16 := by
  intro q
  pointwise [k0_pay16]
  unfold place
  rw [show {k | k < 0 ∧ sc m c b k q.val = top (fun k => sc m c b k q.val) 0} = (∅ : Set ℕ) from
    Set.eq_empty_of_forall_notMem fun k hk => Nat.not_lt_zero k hk.1, Nat.sInf_empty]

/-- Of no rows the scores at the correspondences are zero. -/
theorem colHit_zero (b : Fin 2) : ColHit m c b 0 (k0_pay17 (F := Ideal)) := by
  intro q
  pointwise [k0_pay17]
  unfold hit
  rw [if_neg (Nat.not_lt_zero _)]

/-! ## The proof data -/

/-- The outputs are held to a relation. -/
def marks : Fin 12 → Bool := fun w => w.val == 4 || w.val == 5 || w.val == 6 || w.val == 7 || w.val == 8 || w.val == 9 || w.val == 10 || w.val == 11

/-- What each output holds after point `t`. -/
def Holds (w : Fin cfg0.W) (t : Fin cfg0.N) : ((cfg0.win w).block.Idx → Elt Ideal (cfg0.win w).elt) → Prop := match w with
  | ⟨4, _⟩ => RowTop m c (bat t) (512 * (t.val % 12 + 1))
  | ⟨5, _⟩ => RowMass m c (bat t) (512 * (t.val % 12 + 1))
  | ⟨6, _⟩ => RowPlace m c (bat t) (512 * (t.val % 12 + 1))
  | ⟨7, _⟩ => RowHit m c (bat t) (512 * (t.val % 12 + 1))
  | ⟨8, _⟩ => ColTop m c (bat t) (512 * (t.val % 12 + 1))
  | ⟨9, _⟩ => ColMass m c (bat t) (512 * (t.val % 12 + 1))
  | ⟨10, _⟩ => ColPlace m c (bat t) (512 * (t.val % 12 + 1))
  | ⟨11, _⟩ => ColHit m c (bat t) (512 * (t.val % 12 + 1))
  | _ => fun _ => True

/-- The proof data: the arrays as the region finds them, each input left at its block, the outputs unnamed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The relational data: `dats` with the outputs held to `Holds`. -/
abbrev rdat (c : Dev nD) : RDat τ (Elt Ideal) Unit ℕ (UR sig nD τ) ℕ cfg0 c := (dats m 0 c).toRRel marks (Holds m c)

/-- The data's arrays are the region's. -/
theorem A_eq (c : Dev nD) (w : Fin cfg0.W) : (dats m 0 c).A w = V m c (Pipeline.arrRef spec0 w) := by
  dsimp only [dats]

/-- Input 0 is left at its block. -/
theorem after0 (c : Dev nD) (t : Fin cfg0.N) : (dats m 0 c).after 0 t = iblk m c 0 t := by dsimp only [dats]

/-- Input 1 is left at its block. -/
theorem after1 (c : Dev nD) (t : Fin cfg0.N) : (dats m 0 c).after 1 t = iblk m c 1 t := by dsimp only [dats]

/-- Input 2 is left at its block. -/
theorem after2 (c : Dev nD) (t : Fin cfg0.N) : (dats m 0 c).after 2 t = iblk m c 2 t := by dsimp only [dats]

/-- Input 3 is left at its block. -/
theorem after3 (c : Dev nD) (t : Fin cfg0.N) : (dats m 0 c).after 3 t = iblk m c 3 t := by dsimp only [dats]

/-- Input 0 is found at its block. -/
theorem before0 (c : Dev nD) (t : Fin cfg0.N) (d) : (dats m 0 c).before 0 t d = iblk m c 0 t :=
  before0_0_of m (dats m 0 c) (A_eq m c 0) (after0 m c) t d

/-- Input 1 is found at its block. -/
theorem before1 (c : Dev nD) (t : Fin cfg0.N) (d) : (dats m 0 c).before 1 t d = iblk m c 1 t :=
  before0_1_of m (dats m 0 c) (A_eq m c 1) (after1 m c) t d

/-- Input 2 is found at its block. -/
theorem before2 (c : Dev nD) (t : Fin cfg0.N) (d) : (dats m 0 c).before 2 t d = iblk m c 2 t :=
  before0_2_of m (dats m 0 c) (A_eq m c 2) (after2 m c) t d

/-- Input 3 is found at its block. -/
theorem before3 (c : Dev nD) (t : Fin cfg0.N) (d) : (dats m 0 c).before 3 t d = iblk m c 3 t :=
  before0_3_of m (dats m 0 c) (A_eq m c 3) (after3 m c) t d

/-- The point before. -/
abbrev pred (t : Fin cfg0.N) : Fin cfg0.N := ⟨t.val - 1, Nat.lt_of_le_of_lt (Nat.sub_le _ _) t.isLt⟩

/-- An output not written back at the point before is found as that point left it. -/
theorem found (w : Fin cfg0.W) (hw : marks w = true) (t : Fin cfg0.N) (hf : (cfg0.win w).fetch t = false) (ht : t.val ≠ 0)
    (hp : (cfg0.win w).flush (pred t) = false) (Y) (h : (rdat m c).Finds w t Y) : Holds m c w (pred t) Y := by
  rw [RDat.finds_of_pos _ hf ht] at h
  rcases h with h | h
  · rw [hp] at h; exact absurd h Bool.false_ne_true
  · exact (dats m 0 c).toRRel_leaves hw h

/-- Off the first tile the point before is of the same batch element. -/
theorem bat_pred (t : Fin cfg0.N) (h : t.val % 12 ≠ 0) : bat (pred t) = bat t := by
  apply Fin.ext; show (t.val - 1) / 12 = t.val / 12; omega

/-- Off the first tile the rows counted after the point before are those before the point. -/
theorem rows_pred (t : Fin cfg0.N) (h : t.val % 12 ≠ 0) : 512 * ((pred t).val % 12 + 1) = 512 * (t.val % 12) := by
  show 512 * ((t.val - 1) % 12 + 1) = _; omega

/-- Output 4 off the first tile. -/
theorem found4 (t : Fin cfg0.N) (h : t.val % 12 ≠ 0) (Y : Vec Ideal S1x1x6144 .f32) (hY : (rdat m c).Finds 4 t Y) :
    RowTop m c (bat t) (512 * (t.val % 12)) Y := by
  have e := found m c 4 rfl t rfl (by omega) (Bool.eq_false_iff.mpr fun hb => by
    have := (flush0_4 (pred t)).mp hb
    have hv : (pred t).val = t.val - 1 := rfl
    omega) Y hY
  have e : RowTop m c (bat (pred t)) (512 * ((pred t).val % 12 + 1)) Y := e
  rw [bat_pred t h, rows_pred t h] at e
  exact e

/-- Output 5 off the first tile. -/
theorem found5 (t : Fin cfg0.N) (h : t.val % 12 ≠ 0) (Y : Vec Ideal S1x1x6144 .f32) (hY : (rdat m c).Finds 5 t Y) :
    RowMass m c (bat t) (512 * (t.val % 12)) Y := by
  have e := found m c 5 rfl t rfl (by omega) (Bool.eq_false_iff.mpr fun hb => by
    have := (flush0_5 (pred t)).mp hb
    have hv : (pred t).val = t.val - 1 := rfl
    omega) Y hY
  have e : RowMass m c (bat (pred t)) (512 * ((pred t).val % 12 + 1)) Y := e
  rw [bat_pred t h, rows_pred t h] at e
  exact e

/-- Output 6 off the first tile. -/
theorem found6 (t : Fin cfg0.N) (h : t.val % 12 ≠ 0) (Y : Vec Ideal S1x1x6144 .i32) (hY : (rdat m c).Finds 6 t Y) :
    RowPlace m c (bat t) (512 * (t.val % 12)) Y := by
  have e := found m c 6 rfl t rfl (by omega) (Bool.eq_false_iff.mpr fun hb => by
    have := (flush0_6 (pred t)).mp hb
    have hv : (pred t).val = t.val - 1 := rfl
    omega) Y hY
  have e : RowPlace m c (bat (pred t)) (512 * ((pred t).val % 12 + 1)) Y := e
  rw [bat_pred t h, rows_pred t h] at e
  exact e

/-- Output 7 off the first tile. -/
theorem found7 (t : Fin cfg0.N) (h : t.val % 12 ≠ 0) (Y : Vec Ideal S1x1x6144 .f32) (hY : (rdat m c).Finds 7 t Y) :
    RowHit m c (bat t) (512 * (t.val % 12)) Y := by
  have e := found m c 7 rfl t rfl (by omega) (Bool.eq_false_iff.mpr fun hb => by
    have := (flush0_7 (pred t)).mp hb
    have hv : (pred t).val = t.val - 1 := rfl
    omega) Y hY
  have e : RowHit m c (bat (pred t)) (512 * ((pred t).val % 12 + 1)) Y := e
  rw [bat_pred t h, rows_pred t h] at e
  exact e

/-- Output 8 off the first tile. -/
theorem found8 (t : Fin cfg0.N) (h : t.val % 12 ≠ 0) (Y : Vec Ideal S1x1x6144 .f32) (hY : (rdat m c).Finds 8 t Y) :
    ColTop m c (bat t) (512 * (t.val % 12)) Y := by
  have e := found m c 8 rfl t rfl (by omega) (Bool.eq_false_iff.mpr fun hb => by
    have := (flush0_8 (pred t)).mp hb
    have hv : (pred t).val = t.val - 1 := rfl
    omega) Y hY
  have e : ColTop m c (bat (pred t)) (512 * ((pred t).val % 12 + 1)) Y := e
  rw [bat_pred t h, rows_pred t h] at e
  exact e

/-- Output 9 off the first tile. -/
theorem found9 (t : Fin cfg0.N) (h : t.val % 12 ≠ 0) (Y : Vec Ideal S1x1x6144 .f32) (hY : (rdat m c).Finds 9 t Y) :
    ColMass m c (bat t) (512 * (t.val % 12)) Y := by
  have e := found m c 9 rfl t rfl (by omega) (Bool.eq_false_iff.mpr fun hb => by
    have := (flush0_9 (pred t)).mp hb
    have hv : (pred t).val = t.val - 1 := rfl
    omega) Y hY
  have e : ColMass m c (bat (pred t)) (512 * ((pred t).val % 12 + 1)) Y := e
  rw [bat_pred t h, rows_pred t h] at e
  exact e

/-- Output 10 off the first tile. -/
theorem found10 (t : Fin cfg0.N) (h : t.val % 12 ≠ 0) (Y : Vec Ideal S1x1x6144 .i32) (hY : (rdat m c).Finds 10 t Y) :
    ColPlace m c (bat t) (512 * (t.val % 12)) Y := by
  have e := found m c 10 rfl t rfl (by omega) (Bool.eq_false_iff.mpr fun hb => by
    have := (flush0_10 (pred t)).mp hb
    have hv : (pred t).val = t.val - 1 := rfl
    omega) Y hY
  have e : ColPlace m c (bat (pred t)) (512 * ((pred t).val % 12 + 1)) Y := e
  rw [bat_pred t h, rows_pred t h] at e
  exact e

/-- Output 11 off the first tile. -/
theorem found11 (t : Fin cfg0.N) (h : t.val % 12 ≠ 0) (Y : Vec Ideal S1x1x6144 .f32) (hY : (rdat m c).Finds 11 t Y) :
    ColHit m c (bat t) (512 * (t.val % 12)) Y := by
  have e := found m c 11 rfl t rfl (by omega) (Bool.eq_false_iff.mpr fun hb => by
    have := (flush0_11 (pred t)).mp hb
    have hv : (pred t).val = t.val - 1 := rfl
    omega) Y hY
  have e : ColHit m c (bat (pred t)) (512 * ((pred t).val % 12 + 1)) Y := e
  rw [bat_pred t h, rows_pred t h] at e
  exact e

/-- Output 4 at any point. -/
theorem rows4 (t : Fin cfg0.N) (Y : Vec Ideal S1x1x6144 .f32) (hY : (rdat m c).Finds 4 t Y) : RowTop m c (bat t) (512 * (t.val % 12)) Y := by
  by_cases h : t.val % 12 = 0
  · intro j hj; rw [h] at hj; exact absurd hj (Nat.not_lt_zero _)
  · exact found4 m c t h Y hY

/-- Output 5 at any point. -/
theorem rows5 (t : Fin cfg0.N) (Y : Vec Ideal S1x1x6144 .f32) (hY : (rdat m c).Finds 5 t Y) : RowMass m c (bat t) (512 * (t.val % 12)) Y := by
  by_cases h : t.val % 12 = 0
  · intro j hj; rw [h] at hj; exact absurd hj (Nat.not_lt_zero _)
  · exact found5 m c t h Y hY

/-- Output 6 at any point. -/
theorem rows6 (t : Fin cfg0.N) (Y : Vec Ideal S1x1x6144 .i32) (hY : (rdat m c).Finds 6 t Y) : RowPlace m c (bat t) (512 * (t.val % 12)) Y := by
  by_cases h : t.val % 12 = 0
  · intro j hj; rw [h] at hj; exact absurd hj (Nat.not_lt_zero _)
  · exact found6 m c t h Y hY

/-- Output 7 at any point. -/
theorem rows7 (t : Fin cfg0.N) (Y : Vec Ideal S1x1x6144 .f32) (hY : (rdat m c).Finds 7 t Y) : RowHit m c (bat t) (512 * (t.val % 12)) Y := by
  by_cases h : t.val % 12 = 0
  · intro j hj; rw [h] at hj; exact absurd hj (Nat.not_lt_zero _)
  · exact found7 m c t h Y hY

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y : Vec Ideal S1x1x6144 .f32, ⌜(rdat m c).Finds 4 t Y⌝ ∗ owns (c : Thread nD τ) (st0_4 t) fullShare Y)
    ∗ (∃ Y : Vec Ideal S1x1x6144 .f32, ⌜(rdat m c).Finds 5 t Y⌝ ∗ owns (c : Thread nD τ) (st0_5 t) fullShare Y)
    ∗ (∃ Y : Vec Ideal S1x1x6144 .i32, ⌜(rdat m c).Finds 6 t Y⌝ ∗ owns (c : Thread nD τ) (st0_6 t) fullShare Y)
    ∗ (∃ Y : Vec Ideal S1x1x6144 .f32, ⌜(rdat m c).Finds 7 t Y⌝ ∗ owns (c : Thread nD τ) (st0_7 t) fullShare Y)
    ∗ (∃ Y : Vec Ideal S1x1x6144 .f32, ⌜(rdat m c).Finds 8 t Y⌝ ∗ owns (c : Thread nD τ) (st0_8 t) fullShare Y)
    ∗ (∃ Y : Vec Ideal S1x1x6144 .f32, ⌜(rdat m c).Finds 9 t Y⌝ ∗ owns (c : Thread nD τ) (st0_9 t) fullShare Y)
    ∗ (∃ Y : Vec Ideal S1x1x6144 .i32, ⌜(rdat m c).Finds 10 t Y⌝ ∗ owns (c : Thread nD τ) (st0_10 t) fullShare Y)
    ∗ (∃ Y : Vec Ideal S1x1x6144 .f32, ⌜(rdat m c).Finds 11 t Y⌝ ∗ owns (c : Thread nD τ) (st0_11 t) fullShare Y))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X : Vec Ideal S1x1x6144 .f32, ⌜RowTop m c (bat t) (512 * (t.val % 12 + 1)) X⌝ ∗ owns (c : Thread nD τ) (st0_4 t) fullShare X)
    ∗ (∃ X : Vec Ideal S1x1x6144 .f32, ⌜RowMass m c (bat t) (512 * (t.val % 12 + 1)) X⌝ ∗ owns (c : Thread nD τ) (st0_5 t) fullShare X)
    ∗ (∃ X : Vec Ideal S1x1x6144 .i32, ⌜RowPlace m c (bat t) (512 * (t.val % 12 + 1)) X⌝ ∗ owns (c : Thread nD τ) (st0_6 t) fullShare X)
    ∗ (∃ X : Vec Ideal S1x1x6144 .f32, ⌜RowHit m c (bat t) (512 * (t.val % 12 + 1)) X⌝ ∗ owns (c : Thread nD τ) (st0_7 t) fullShare X)
    ∗ (∃ X : Vec Ideal S1x1x6144 .f32, ⌜ColTop m c (bat t) (512 * (t.val % 12 + 1)) X⌝ ∗ owns (c : Thread nD τ) (st0_8 t) fullShare X)
    ∗ (∃ X : Vec Ideal S1x1x6144 .f32, ⌜ColMass m c (bat t) (512 * (t.val % 12 + 1)) X⌝ ∗ owns (c : Thread nD τ) (st0_9 t) fullShare X)
    ∗ (∃ X : Vec Ideal S1x1x6144 .i32, ⌜ColPlace m c (bat t) (512 * (t.val % 12 + 1)) X⌝ ∗ owns (c : Thread nD τ) (st0_10 t) fullShare X)
    ∗ (∃ X : Vec Ideal S1x1x6144 .f32, ⌜ColHit m c (bat t) (512 * (t.val % 12 + 1)) X⌝ ∗ owns (c : Thread nD τ) (st0_11 t) fullShare X))

/-- The first tile of a batch element, by the point. -/
theorem first_iff (t : Fin cfg0.N) : First (grid0.coords t) ↔ t.val % 12 = 0 := by
  have e0 := coord_one t
  unfold First
  rw [e0]
  exact (by decide : ∀ r : Fin 12, (Scalar.cmpi .ne (Scalar.extui (Scalar.cmpi .eq (BitVec.ofNat 32 r.val) 0#32)) 0#32 : BitVec 1) = 1#1 ↔ r.val = 0) ⟨t.val % 12, Nat.mod_lt _ (by decide)⟩

set_option maxHeartbeats 2400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, ⟨%y4, %h4, H4⟩, ⟨%y5, %h5, H5⟩, ⟨%y6, %h6, H6⟩, ⟨%y7, %h7, H7⟩, ⟨%y8, %h8, H8⟩, ⟨%y9, %h9, H9⟩, ⟨%y10, %h10, H10⟩, ⟨%y11, %h11, H11⟩⟩
  have r4 := rows4 m c t y4 h4
  have r5 := rows5 m c t y5 h5
  have r6 := rows6 m c t y6 h6
  have r7 := rows7 m c t y7 h7
  by_cases h0 : t.val % 12 = 0
  · have z8 : ColTop m c (bat t) (512 * (t.val % 12)) (k0_pay14 (F := Ideal)) := by rw [h0]; exact colTop_zero m c _
    have z9 : ColMass m c (bat t) (512 * (t.val % 12)) (k0_pay15 (F := Ideal)) := by rw [h0]; exact colMass_zero m c _
    have z10 : ColPlace m c (bat t) (512 * (t.val % 12)) k0_pay16 := by rw [h0]; exact colPlace_zero m c _
    have z11 : ColHit m c (bat t) (512 * (t.val % 12)) (k0_pay17 (F := Ideal)) := by rw [h0]; exact colHit_zero m c _
    iapply (run_first c (grid0.coords t) _ _ _ _ _ _ _ _ _ _ _ _ _ _ _ _ _ _ _ _ _ _ _ _ ((first_iff t).mpr h0) (iblk m c 0 t) (iblk m c 1 t) (iblk m c 2 t) (iblk m c 3 t) y4 y5 y6 y7 y8 y9 y10 y11 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro; exact rowTop_step m c t _ r4
    isplitl [H5]
    · iexists _; isplitr; swap; · iexact H5
      ipureintro; exact rowMass_step m c t _ r5
    isplitl [H6]
    · iexists _; isplitr; swap; · iexact H6
      ipureintro; exact rowPlace_step m c t _ r6
    isplitl [H7]
    · iexists _; isplitr; swap; · iexact H7
      ipureintro; exact rowHit_step m c t _ r7
    isplitl [H8]
    · iexists _; isplitr; swap; · iexact H8
      ipureintro; exact colTop_step m c t _ z8
    isplitl [H9]
    · iexists _; isplitr; swap; · iexact H9
      ipureintro; exact colMass_step m c t _ _ z8 z9
    isplitl [H10]
    · iexists _; isplitr; swap; · iexact H10
      ipureintro; exact colPlace_step m c t _ _ z8 z10
    iexists _; isplitr; swap; · iexact H11
    ipureintro; exact colHit_step m c t _ z11
  · have z8 := found8 m c t h0 y8 h8
    have z9 := found9 m c t h0 y9 h9
    have z10 := found10 m c t h0 y10 h10
    have z11 := found11 m c t h0 y11 h11
    iapply (run_later c (grid0.coords t) _ _ _ _ _ _ _ _ _ _ _ _ _ _ _ _ _ _ _ _ _ _ _ _ (fun h => h0 ((first_iff t).mp h)) (iblk m c 0 t) (iblk m c 1 t) (iblk m c 2 t) (iblk m c 3 t) y4 y5 y6 y7 y8 y9 y10 y11 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro; exact rowTop_step m c t _ r4
    isplitl [H5]
    · iexists _; isplitr; swap; · iexact H5
      ipureintro; exact rowMass_step m c t _ r5
    isplitl [H6]
    · iexists _; isplitr; swap; · iexact H6
      ipureintro; exact rowPlace_step m c t _ r6
    isplitl [H7]
    · iexists _; isplitr; swap; · iexact H7
      ipureintro; exact rowHit_step m c t _ r7
    isplitl [H8]
    · iexists _; isplitr; swap; · iexact H8
      ipureintro; exact colTop_step m c t _ z8
    isplitl [H9]
    · iexists _; isplitr; swap; · iexact H9
      ipureintro; exact colMass_step m c t _ _ z8 z9
    isplitl [H10]
    · iexists _; isplitr; swap; · iexact H10
      ipureintro; exact colPlace_step m c t _ _ z8 z10
    iexists _; isplitr; swap; · iexact H11
    ipureintro; exact colHit_step m c t _ z11

/-- The body table's row at a point is the body there. -/
theorem defs₀_row (t : Fin cfg0.N) : defs₀ (F := Ideal) .tc cfg0.body (cfg0.bodyArgs t (cfg0.slots t)) = bodyAt0 t := by
  unfold defs₀; rw [Defs.onTc_tc]

/-- The body's obligation at every point. -/
theorem body_obligation (c : Dev nD) : BodyObligationRel (dats m 0 c) (defs₀ (F := Ideal)) Variants.none () Set.univ marks (Holds m c) := fun t => by
  rw [bigSep_W0, bigSep_W0, defs₀_row]
  exact triple_restated (sound_body m c t) rfl .rfl fun _ => .rfl

set_option backward.isDefEq.respectTransparency.types false in
/-- The run: the outputs' arrays are written from blocks that meet `Holds`, and the semaphores end at zero. -/
theorem run_main : θ_run defs (onTc (τ := τ) (main (F := Ideal))) (s₀ m ρ) (fun r => RDat.FramePost (cfgs 0) (rdat m) (V m) r ∧ r.2.sem = fun _ => 0) :=
  Pipeline.RDat.θ_run_frame cfgs (0 : Fin 1) launch0 defs₀ Variants.none (rdat m) m ρ main
    (hbody := fun c => (body_obligation m c).toRRel) (hshare := fun c w => (dats m 0 c).share_full (fun _ => rfl) w)
    (howed := fun _ _ => rfl) (V := V m) (hmain := hmain m Variants.none) (hA := A_eq m) (hΦ := fun _ _ => rfl) (Q' := _) (hQ' := fun _ h => h)

end Cert.KernelIdeal.Step

end
-- ==== Proof.Results.lean ====
module

public import proofs.«01_k».proof.Proof.Stats
public import Idealize.ShloMosaic.Lib.Pipeline.ArrRel

/-! The statistics kernel's results, at the extended reals: each of the eight output arrays is, at every batch element and every place,
the statistic of the scores. -/

@[expose] public section

set_option maxRecDepth 16384

noncomputable section

namespace Cert.KernelIdeal.Step

open Cert.KernelIdeal Cert.KernelIdeal.Gen Cert.Online
open Idealize.ShloMosaic Idealize.ShloMosaic.TcCoe Idealize.ShloMosaic.Tactic
open Idealize.SL Idealize.SL.RA Idealize.SL.BI Idealize.SL.Sem
open Idealize.ShloMosaic.Pipeline (Dat RDat Cfg Window BodyObligationRel cellOf)

variable (m : (ℓ : Loc nD τ sig) → Buf (Elt Ideal) ℓ) (ρ : Dev nD → PrngReg) (c : Dev nD)

/-- The kernel runs, its arguments end unchanged, and the semaphores end at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run_main m ρ)

/-- Which block each output is at. -/
theorem oidx : ∀ t : Fin cfg0.N, win0_4.index t = ![t.val / 12, 0, 0] ∧ win0_5.index t = ![t.val / 12, 0, 0] ∧ win0_6.index t = ![t.val / 12, 0, 0] ∧ win0_7.index t = ![t.val / 12, 0, 0] ∧ win0_8.index t = ![t.val / 12, 0, 0] ∧ win0_9.index t = ![t.val / 12, 0, 0] ∧ win0_10.index t = ![t.val / 12, 0, 0] ∧ win0_11.index t = ![t.val / 12, 0, 0] := by decide +kernel

/-- The row maxima, for every batch element. -/
def outTop : Vec Ideal S2x1x6144 .f32 := fun y => top (sc m c (y 0) (y 2).val) 6144

/-- Output 4's array at the end. -/
theorem final4 (D : Dat τ (Elt Ideal) Unit ℕ (UR sig nD τ) ℕ cfg0 c)
    (h : ∀ t : Fin cfg0.N, (cfg0.win 4).flush t = true → RowTop m c (bat t) (512 * (t.val % 12 + 1)) (D.after 4 t)) :
    D.arrAt 4 cfg0.N = outTop m c := by
  refine D.arrAt_eq_of_covers 4 _ (by decide +kernel) fun t hf y => ?_
  have h1 := h t hf
  have ht : t.val % 12 = 11 := (flush0_4 t).mp hf
  have e := (oidx t).1
  rw [ht] at h1
  blk_simp
  obtain ⟨p, q, j, rfl⟩ : ∃ (p : Fin 1) (q : Fin 1) (j : Fin 6144), y = ix3 p q j := ⟨y 0, y 1, y 2, funext fun a => by fin_cases a <;> rfl⟩
  obtain rfl : p = 0 := Subsingleton.elim _ _
  obtain rfl : q = 0 := Subsingleton.elim _ _
  have hi : ((cfg0.win 4).blk t).view.emb (ix3 0 0 j) = ix3 (bat t) 0 j := by blk_ext [e, bat]
  erw [hi]
  exact h1 j j.isLt

/-- The row sums, for every batch element. -/
def outMass : Vec Ideal S2x1x6144 .f32 := fun y => mass (sc m c (y 0) (y 2).val) 6144

/-- Output 5's array at the end. -/
theorem final5 (D : Dat τ (Elt Ideal) Unit ℕ (UR sig nD τ) ℕ cfg0 c)
    (h : ∀ t : Fin cfg0.N, (cfg0.win 5).flush t = true → RowMass m c (bat t) (512 * (t.val % 12 + 1)) (D.after 5 t)) :
    D.arrAt 5 cfg0.N = outMass m c := by
  refine D.arrAt_eq_of_covers 5 _ (by decide +kernel) fun t hf y => ?_
  have h1 := h t hf
  have ht : t.val % 12 = 11 := (flush0_5 t).mp hf
  have e := (oidx t).2.1
  rw [ht] at h1
  blk_simp
  obtain ⟨p, q, j, rfl⟩ : ∃ (p : Fin 1) (q : Fin 1) (j : Fin 6144), y = ix3 p q j := ⟨y 0, y 1, y 2, funext fun a => by fin_cases a <;> rfl⟩
  obtain rfl : p = 0 := Subsingleton.elim _ _
  obtain rfl : q = 0 := Subsingleton.elim _ _
  have hi : ((cfg0.win 5).blk t).view.emb (ix3 0 0 j) = ix3 (bat t) 0 j := by blk_ext [e, bat]
  erw [hi]
  exact h1 j j.isLt

/-- The places of the row maxima, for every batch element. -/
def outPlace : Vec Ideal S2x1x6144 .i32 := fun y => BitVec.ofNat 32 (place (sc m c (y 0) (y 2).val) 6144)

/-- Output 6's array at the end. -/
theorem final6 (D : Dat τ (Elt Ideal) Unit ℕ (UR sig nD τ) ℕ cfg0 c)
    (h : ∀ t : Fin cfg0.N, (cfg0.win 6).flush t = true → RowPlace m c (bat t) (512 * (t.val % 12 + 1)) (D.after 6 t)) :
    D.arrAt 6 cfg0.N = outPlace m c := by
  refine D.arrAt_eq_of_covers 6 _ (by decide +kernel) fun t hf y => ?_
  have h1 := h t hf
  have ht : t.val % 12 = 11 := (flush0_6 t).mp hf
  have e := (oidx t).2.2.1
  rw [ht] at h1
  blk_simp
  obtain ⟨p, q, j, rfl⟩ : ∃ (p : Fin 1) (q : Fin 1) (j : Fin 6144), y = ix3 p q j := ⟨y 0, y 1, y 2, funext fun a => by fin_cases a <;> rfl⟩
  obtain rfl : p = 0 := Subsingleton.elim _ _
  obtain rfl : q = 0 := Subsingleton.elim _ _
  have hi : ((cfg0.win 6).blk t).view.emb (ix3 0 0 j) = ix3 (bat t) 0 j := by blk_ext [e, bat]
  erw [hi]
  exact h1 j j.isLt

/-- The scores at the rows' correspondences, for every batch element. -/
def outHit : Vec Ideal S2x1x6144 .f32 := fun y => hit (sc m c (y 0) (y 2).val) (BitVec.toNat (V m c main_v2 (ix3 (y 0) 0 (y 2)))) 6144

/-- Output 7's array at the end. -/
theorem final7 (D : Dat τ (Elt Ideal) Unit ℕ (UR sig nD τ) ℕ cfg0 c)
    (h : ∀ t : Fin cfg0.N, (cfg0.win 7).flush t = true → RowHit m c (bat t) (512 * (t.val % 12 + 1)) (D.after 7 t)) :
    D.arrAt 7 cfg0.N = outHit m c := by
  refine D.arrAt_eq_of_covers 7 _ (by decide +kernel) fun t hf y => ?_
  have h1 := h t hf
  have ht : t.val % 12 = 11 := (flush0_7 t).mp hf
  have e := (oidx t).2.2.2.1
  rw [ht] at h1
  blk_simp
  obtain ⟨p, q, j, rfl⟩ : ∃ (p : Fin 1) (q : Fin 1) (j : Fin 6144), y = ix3 p q j := ⟨y 0, y 1, y 2, funext fun a => by fin_cases a <;> rfl⟩
  obtain rfl : p = 0 := Subsingleton.elim _ _
  obtain rfl : q = 0 := Subsingleton.elim _ _
  have hi : ((cfg0.win 7).blk t).view.emb (ix3 0 0 j) = ix3 (bat t) 0 j := by blk_ext [e, bat]
  erw [hi]
  exact h1 j j.isLt

/-- The column maxima, for every batch element. -/
def outColTop : Vec Ideal S2x1x6144 .f32 := fun y => top (fun k => sc m c (y 0) k (y 2).val) 6144

/-- Output 8's array at the end. -/
theorem final8 (D : Dat τ (Elt Ideal) Unit ℕ (UR sig nD τ) ℕ cfg0 c)
    (h : ∀ t : Fin cfg0.N, (cfg0.win 8).flush t = true → ColTop m c (bat t) (512 * (t.val % 12 + 1)) (D.after 8 t)) :
    D.arrAt 8 cfg0.N = outColTop m c := by
  refine D.arrAt_eq_of_covers 8 _ (by decide +kernel) fun t hf y => ?_
  have h1 := h t hf
  have ht : t.val % 12 = 11 := (flush0_8 t).mp hf
  have e := (oidx t).2.2.2.2.1
  rw [ht] at h1
  blk_simp
  obtain ⟨p, q, j, rfl⟩ : ∃ (p : Fin 1) (q : Fin 1) (j : Fin 6144), y = ix3 p q j := ⟨y 0, y 1, y 2, funext fun a => by fin_cases a <;> rfl⟩
  obtain rfl : p = 0 := Subsingleton.elim _ _
  obtain rfl : q = 0 := Subsingleton.elim _ _
  have hi : ((cfg0.win 8).blk t).view.emb (ix3 0 0 j) = ix3 (bat t) 0 j := by blk_ext [e, bat]
  erw [hi]
  exact h1 j

/-- The column sums, for every batch element. -/
def outColMass : Vec Ideal S2x1x6144 .f32 := fun y => mass (fun k => sc m c (y 0) k (y 2).val) 6144

/-- Output 9's array at the end. -/
theorem final9 (D : Dat τ (Elt Ideal) Unit ℕ (UR sig nD τ) ℕ cfg0 c)
    (h : ∀ t : Fin cfg0.N, (cfg0.win 9).flush t = true → ColMass m c (bat t) (512 * (t.val % 12 + 1)) (D.after 9 t)) :
    D.arrAt 9 cfg0.N = outColMass m c := by
  refine D.arrAt_eq_of_covers 9 _ (by decide +kernel) fun t hf y => ?_
  have h1 := h t hf
  have ht : t.val % 12 = 11 := (flush0_9 t).mp hf
  have e := (oidx t).2.2.2.2.2.1
  rw [ht] at h1
  blk_simp
  obtain ⟨p, q, j, rfl⟩ : ∃ (p : Fin 1) (q : Fin 1) (j : Fin 6144), y = ix3 p q j := ⟨y 0, y 1, y 2, funext fun a => by fin_cases a <;> rfl⟩
  obtain rfl : p = 0 := Subsingleton.elim _ _
  obtain rfl : q = 0 := Subsingleton.elim _ _
  have hi : ((cfg0.win 9).blk t).view.emb (ix3 0 0 j) = ix3 (bat t) 0 j := by blk_ext [e, bat]
  erw [hi]
  exact h1 j

/-- The places of the column maxima, for every batch element. -/
def outColPlace : Vec Ideal S2x1x6144 .i32 := fun y => BitVec.ofNat 32 (place (fun k => sc m c (y 0) k (y 2).val) 6144)

/-- Output 10's array at the end. -/
theorem final10 (D : Dat τ (Elt Ideal) Unit ℕ (UR sig nD τ) ℕ cfg0 c)
    (h : ∀ t : Fin cfg0.N, (cfg0.win 10).flush t = true → ColPlace m c (bat t) (512 * (t.val % 12 + 1)) (D.after 10 t)) :
    D.arrAt 10 cfg0.N = outColPlace m c := by
  refine D.arrAt_eq_of_covers 10 _ (by decide +kernel) fun t hf y => ?_
  have h1 := h t hf
  have ht : t.val % 12 = 11 := (flush0_10 t).mp hf
  have e := (oidx t).2.2.2.2.2.2.1
  rw [ht] at h1
  blk_simp
  obtain ⟨p, q, j, rfl⟩ : ∃ (p : Fin 1) (q : Fin 1) (j : Fin 6144), y = ix3 p q j := ⟨y 0, y 1, y 2, funext fun a => by fin_cases a <;> rfl⟩
  obtain rfl : p = 0 := Subsingleton.elim _ _
  obtain rfl : q = 0 := Subsingleton.elim _ _
  have hi : ((cfg0.win 10).blk t).view.emb (ix3 0 0 j) = ix3 (bat t) 0 j := by blk_ext [e, bat]
  erw [hi]
  exact h1 j

/-- The scores at the columns' correspondences, for every batch element. -/
def outColHit : Vec Ideal S2x1x6144 .f32 := fun y => hit (fun k => sc m c (y 0) k (y 2).val) (BitVec.toNat (V m c main_v3 (ix3 (y 0) 0 (y 2)))) 6144

/-- Output 11's array at the end. -/
theorem final11 (D : Dat τ (Elt Ideal) Unit ℕ (UR sig nD τ) ℕ cfg0 c)
    (h : ∀ t : Fin cfg0.N, (cfg0.win 11).flush t = true → ColHit m c (bat t) (512 * (t.val % 12 + 1)) (D.after 11 t)) :
    D.arrAt 11 cfg0.N = outColHit m c := by
  refine D.arrAt_eq_of_covers 11 _ (by decide +kernel) fun t hf y => ?_
  have h1 := h t hf
  have ht : t.val % 12 = 11 := (flush0_11 t).mp hf
  have e := (oidx t).2.2.2.2.2.2.2
  rw [ht] at h1
  blk_simp
  obtain ⟨p, q, j, rfl⟩ : ∃ (p : Fin 1) (q : Fin 1) (j : Fin 6144), y = ix3 p q j := ⟨y 0, y 1, y 2, funext fun a => by fin_cases a <;> rfl⟩
  obtain rfl : p = 0 := Subsingleton.elim _ _
  obtain rfl : q = 0 := Subsingleton.elim _ _
  have hi : ((cfg0.win 11).blk t).view.emb (ix3 0 0 j) = ix3 (bat t) 0 j := by blk_ext [e, bat]
  erw [hi]
  exact h1 j

/-- The run: each result is the statistic, and the arguments end unchanged. -/
theorem results : θ_run defs (onTc (τ := τ) (main (F := Ideal))) ⟨m, fun _ => 0, ρ⟩ (fun r => ∀ c : Dev nD,
      r.2.mem ((c.tc : Thread nD τ).loc main_v4_0) = outTop m c
      ∧ r.2.mem ((c.tc : Thread nD τ).loc main_v4_1) = outMass m c
      ∧ r.2.mem ((c.tc : Thread nD τ).loc main_v4_2) = outPlace m c
      ∧ r.2.mem ((c.tc : Thread nD τ).loc main_v4_3) = outHit m c
      ∧ r.2.mem ((c.tc : Thread nD τ).loc main_v4_4) = outColTop m c
      ∧ r.2.mem ((c.tc : Thread nD τ).loc main_v4_5) = outColMass m c
      ∧ r.2.mem ((c.tc : Thread nD τ).loc main_v4_6) = outColPlace m c
      ∧ r.2.mem ((c.tc : Thread nD τ).loc main_v4_7) = outColHit m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main m ρ)
  obtain ⟨after, hL, hA⟩ := RDat.FramePost.exists_exact h.1 c
  have a4 := (hA 4).trans (final4 m c _ fun t hf => (dats m 0 c).toRRel_leaves rfl (hL 4 t hf))
  have a5 := (hA 5).trans (final5 m c _ fun t hf => (dats m 0 c).toRRel_leaves rfl (hL 5 t hf))
  have a6 := (hA 6).trans (final6 m c _ fun t hf => (dats m 0 c).toRRel_leaves rfl (hL 6 t hf))
  have a7 := (hA 7).trans (final7 m c _ fun t hf => (dats m 0 c).toRRel_leaves rfl (hL 7 t hf))
  have a8 := (hA 8).trans (final8 m c _ fun t hf => (dats m 0 c).toRRel_leaves rfl (hL 8 t hf))
  have a9 := (hA 9).trans (final9 m c _ fun t hf => (dats m 0 c).toRRel_leaves rfl (hL 9 t hf))
  have a10 := (hA 10).trans (final10 m c _ fun t hf => (dats m 0 c).toRRel_leaves rfl (hL 10 t hf))
  have a11 := (hA 11).trans (final11 m c _ fun t hf => (dats m 0 c).toRRel_leaves rfl (hL 11 t hf))
  exact ⟨a4, a5, a6, a7, a8, a9, a10, a11,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩

end Cert.KernelIdeal.Step

end
-- ==== Proof.RefRun.lean ====
module

public import proofs.«01_k».proof.Proof.Gen.ReferenceIdeal
public import Idealize.ShloMosaic.Lib.StableHlo.Run

/-! The reference program as the list of its host operations, and its run: each result buffer ends at a function of the scores
and of the given correspondences, with the arguments unchanged. -/

@[expose] public section

noncomputable section

namespace Cert.ReferenceIdeal.Stats

open Cert.ReferenceIdeal Cert.ReferenceIdeal.Gen Idealize.ShloMosaic Idealize.ShloMosaic.TcCoe Idealize.SL.Sem Idealize.ShloMosaic.StableHlo

variable {F : FTy → Type} [FloatOps F]

/-- Two columns of words side by side. -/
def fn_main_v42 : (⟨S2x6144x1, .i32⟩ : BufTy).Contents (Elt F) → (⟨S2x6144x1, .i32⟩ : BufTy).Contents (Elt F) → (⟨S2x6144x2, .i32⟩ : BufTy).Contents (Elt F) :=
  (fun a b => concatenate S2x6144x2 2 [⟨S2x6144x1, a⟩, ⟨S2x6144x1, b⟩] concatenates_S2x6144x1_S2x6144x1_S2x6144x2_d2)

/-- Two columns of words side by side. -/
def fn_main_v57 : (⟨S2x6144x1, .i32⟩ : BufTy).Contents (Elt F) → (⟨S2x6144x1, .i32⟩ : BufTy).Contents (Elt F) → (⟨S2x6144x2, .i32⟩ : BufTy).Contents (Elt F) :=
  (fun a b => concatenate S2x6144x2 2 [⟨S2x6144x1, a⟩, ⟨S2x6144x1, b⟩] concatenates_S2x6144x1_S2x6144x1_S2x6144x2_d2)

/-- The maxima along axis 2 of the scores, found together with the places. -/
def fn_max2 : (⟨S2x6144x6144, .f32⟩ : BufTy).Contents (Elt F) → (⟨S2x6144x6144, .i32⟩ : BufTy).Contents (Elt F) → (⟨S_, .f32⟩ : BufTy).Contents (Elt F) → (⟨S_, .i32⟩ : BufTy).Contents (Elt F) → (⟨S2x6144, .f32⟩ : BufTy).Contents (Elt F) :=
  fun x y u v j => (Host.argReduce reducer_argmax_f32_i32 x y u v reducesTo_S2x6144x6144_S2x6144_d2 h_S_ j).1

/-- The places of the maxima along axis 2 of the scores, found together with the maxima. -/
def fn_argmax2 : (⟨S2x6144x6144, .f32⟩ : BufTy).Contents (Elt F) → (⟨S2x6144x6144, .i32⟩ : BufTy).Contents (Elt F) → (⟨S_, .f32⟩ : BufTy).Contents (Elt F) → (⟨S_, .i32⟩ : BufTy).Contents (Elt F) → (⟨S2x6144, .i32⟩ : BufTy).Contents (Elt F) :=
  fun x y u v j => (Host.argReduce reducer_argmax_f32_i32 x y u v reducesTo_S2x6144x6144_S2x6144_d2 h_S_ j).2

/-- The maxima along axis 1 of the scores, found together with the places. -/
def fn_max1 : (⟨S2x6144x6144, .f32⟩ : BufTy).Contents (Elt F) → (⟨S2x6144x6144, .i32⟩ : BufTy).Contents (Elt F) → (⟨S_, .f32⟩ : BufTy).Contents (Elt F) → (⟨S_, .i32⟩ : BufTy).Contents (Elt F) → (⟨S2x6144, .f32⟩ : BufTy).Contents (Elt F) :=
  fun x y u v j => (Host.argReduce reducer_argmax_f32_i32 x y u v reducesTo_S2x6144x6144_S2x6144_d1 h_S_ j).1

/-- The places of the maxima along axis 1 of the scores, found together with the maxima. -/
def fn_argmax1 : (⟨S2x6144x6144, .f32⟩ : BufTy).Contents (Elt F) → (⟨S2x6144x6144, .i32⟩ : BufTy).Contents (Elt F) → (⟨S_, .f32⟩ : BufTy).Contents (Elt F) → (⟨S_, .i32⟩ : BufTy).Contents (Elt F) → (⟨S2x6144, .i32⟩ : BufTy).Contents (Elt F) :=
  fun x y u v j => (Host.argReduce reducer_argmax_f32_i32 x y u v reducesTo_S2x6144x6144_S2x6144_d1 h_S_ j).2

/-- The operations of the reference, in order. -/
abbrev ops : List (HloOp τ sig (Elt F)) :=
  [ reshape main_arg0 main_v0 (rfl : (.f32 : EltTy) = .f32) shapeCasts_S2x32x64x96_S2x32x6144,
    unary main_v0 main_v1 ((transpose S2x6144x32 [0, 2, 1] · transposes_S2x32x6144_S2x6144x32_0_2_1) : (⟨S2x32x6144, .f32⟩ : BufTy).Contents (Elt F) → (⟨S2x6144x32, .f32⟩ : BufTy).Contents (Elt F)),
    nullary main_cst (constant S_ .f32 0x404A62C2#32),
    unary main_cst main_v2 (broadcastInDim S2x6144x32 ![] bcast_S_S2x6144x32 : (⟨S_, .f32⟩ : BufTy).Contents (Elt F) → (⟨S2x6144x32, .f32⟩ : BufTy).Contents (Elt F)),
    binary main_v1 main_v2 main_v3 (mulf : (⟨S2x6144x32, .f32⟩ : BufTy).Contents (Elt F) → (⟨S2x6144x32, .f32⟩ : BufTy).Contents (Elt F) → (⟨S2x6144x32, .f32⟩ : BufTy).Contents (Elt F)),
    reshape main_arg1 main_v4 (rfl : (.f32 : EltTy) = .f32) shapeCasts_S2x32x64x96_S2x32x6144,
    unary main_v4 main_v5 ((transpose S2x6144x32 [0, 2, 1] · transposes_S2x32x6144_S2x6144x32_0_2_1) : (⟨S2x32x6144, .f32⟩ : BufTy).Contents (Elt F) → (⟨S2x6144x32, .f32⟩ : BufTy).Contents (Elt F)),
    nullary main_cst_0 (constant S_ .f32 0x404A62C2#32),
    unary main_cst_0 main_v6 (broadcastInDim S2x6144x32 ![] bcast_S_S2x6144x32 : (⟨S_, .f32⟩ : BufTy).Contents (Elt F) → (⟨S2x6144x32, .f32⟩ : BufTy).Contents (Elt F)),
    binary main_v5 main_v6 main_v7 (mulf : (⟨S2x6144x32, .f32⟩ : BufTy).Contents (Elt F) → (⟨S2x6144x32, .f32⟩ : BufTy).Contents (Elt F) → (⟨S2x6144x32, .f32⟩ : BufTy).Contents (Elt F)),
    unary main_v7 main_v8 ((transpose S2x32x6144 [0, 2, 1] · transposes_S2x6144x32_S2x32x6144_0_2_1) : (⟨S2x6144x32, .f32⟩ : BufTy).Contents (Elt F) → (⟨S2x32x6144, .f32⟩ : BufTy).Contents (Elt F)),
    binary main_v3 main_v8 main_v9 ((fun l r => Host.dotGeneral dot_S2x6144x32_S2x32x6144_S2x6144x6144_2_1_1_2_0_0 none l r) : (⟨S2x6144x32, .f32⟩ : BufTy).Contents (Elt F) → (⟨S2x32x6144, .f32⟩ : BufTy).Contents (Elt F) → (⟨S2x6144x6144, .f32⟩ : BufTy).Contents (Elt F)),
    nullary main_v10 (iotaInDim S6144 32 0),
    nullary main_c (constantI S_ 32 0#32),
    nullary main_c_1 (constantI S_ 32 6143#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2x6144, .i32⟩) main_call0_v1) (broadcastInDim S2x6144 ![] bcast_S_S2x6144),
    TRef.binary (TRef.of (T := ⟨S2x6144, .i32⟩) main_call0_v1) (TRef.of (T := ⟨S2x6144, .i32⟩) main_arg2) (TRef.of (T := ⟨S2x6144, .i32⟩) main_call0_v2) maxsi,
    TRef.unary (TRef.of (T := ⟨S_, .i32⟩) main_c_1) (TRef.of (T := ⟨S_, .i32⟩) main_call0_v3) id,
    TRef.unary (TRef.of (T := ⟨S_, .i32⟩) main_call0_v3) (TRef.of (T := ⟨S2x6144, .i32⟩) main_call0_v4) (broadcastInDim S2x6144 ![] bcast_S_S2x6144),
    TRef.binary (TRef.of (T := ⟨S2x6144, .i32⟩) main_call0_v4) (TRef.of (T := ⟨S2x6144, .i32⟩) main_call0_v2) (TRef.of (T := ⟨S2x6144, .i32⟩) main_v11) minsi,
    nullary main_c_2 (constantI S_ 32 0#32),
    nullary main_c_3 (constantI S_ 32 6143#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S2x6144, .i32⟩) main_call1_v1) (broadcastInDim S2x6144 ![] bcast_S_S2x6144),
    TRef.binary (TRef.of (T := ⟨S2x6144, .i32⟩) main_call1_v1) (TRef.of (T := ⟨S2x6144, .i32⟩) main_arg3) (TRef.of (T := ⟨S2x6144, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S2x6144, .i32⟩) main_call1_v4) (broadcastInDim S2x6144 ![] bcast_S_S2x6144),
    TRef.binary (TRef.of (T := ⟨S2x6144, .i32⟩) main_call1_v4) (TRef.of (T := ⟨S2x6144, .i32⟩) main_call1_v2) (TRef.of (T := ⟨S2x6144, .i32⟩) main_v12) minsi,
    nullary main_cst_4 (constant S_ .f32 0xFF800000#32),
    binary main_v9 main_cst_4 main_v13 ((fun x v => Host.reduce FloatOps.maximumf x v reducesTo_S2x6144x6144_S2x6144_d2 h_S_) : (⟨S2x6144x6144, .f32⟩ : BufTy).Contents (Elt F) → (⟨S_, .f32⟩ : BufTy).Contents (Elt F) → (⟨S2x6144, .f32⟩ : BufTy).Contents (Elt F)),
    nullary main_cst_5 (constant S_ .f32 0xFF800000#32),
    binary main_v9 main_cst_5 main_v14 ((fun x v => Host.reduce FloatOps.maximumf x v reducesTo_S2x6144x6144_S2x6144_d2 h_S_) : (⟨S2x6144x6144, .f32⟩ : BufTy).Contents (Elt F) → (⟨S_, .f32⟩ : BufTy).Contents (Elt F) → (⟨S2x6144, .f32⟩ : BufTy).Contents (Elt F)),
    unary main_v14 main_v15 (broadcastInDim S2x6144x1 ![0, 1] bcast_S2x6144_S2x6144x1_0_1 : (⟨S2x6144, .f32⟩ : BufTy).Contents (Elt F) → (⟨S2x6144x1, .f32⟩ : BufTy).Contents (Elt F)),
    unary main_v15 main_v16 (broadcastInDim S2x6144x6144 ![0, 1, 2] bcast_S2x6144x1_S2x6144x6144_0_1_2 : (⟨S2x6144x1, .f32⟩ : BufTy).Contents (Elt F) → (⟨S2x6144x6144, .f32⟩ : BufTy).Contents (Elt F)),
    binary main_v9 main_v16 main_v17 (subf : (⟨S2x6144x6144, .f32⟩ : BufTy).Contents (Elt F) → (⟨S2x6144x6144, .f32⟩ : BufTy).Contents (Elt F) → (⟨S2x6144x6144, .f32⟩ : BufTy).Contents (Elt F)),
    unary main_v17 main_v18 (Host.exp : (⟨S2x6144x6144, .f32⟩ : BufTy).Contents (Elt F) → (⟨S2x6144x6144, .f32⟩ : BufTy).Contents (Elt F)),
    nullary main_cst_6 (constant S_ .f32 0x00000000#32),
    binary main_v18 main_cst_6 main_v19 ((fun x v => Host.reduceAdd x v reducesTo_S2x6144x6144_S2x6144_d2 h_S_) : (⟨S2x6144x6144, .f32⟩ : BufTy).Contents (Elt F) → (⟨S_, .f32⟩ : BufTy).Contents (Elt F) → (⟨S2x6144, .f32⟩ : BufTy).Contents (Elt F)),
    nullary main_cst_7 (constant S_ .f32 0xFF800000#32),
    binary main_v9 main_cst_7 main_v20 ((fun x v => Host.reduce FloatOps.maximumf x v reducesTo_S2x6144x6144_S2x6144_d1 h_S_) : (⟨S2x6144x6144, .f32⟩ : BufTy).Contents (Elt F) → (⟨S_, .f32⟩ : BufTy).Contents (Elt F) → (⟨S2x6144, .f32⟩ : BufTy).Contents (Elt F)),
    nullary main_cst_8 (constant S_ .f32 0xFF800000#32),
    binary main_v9 main_cst_8 main_v21 ((fun x v => Host.reduce FloatOps.maximumf x v reducesTo_S2x6144x6144_S2x6144_d1 h_S_) : (⟨S2x6144x6144, .f32⟩ : BufTy).Contents (Elt F) → (⟨S_, .f32⟩ : BufTy).Contents (Elt F) → (⟨S2x6144, .f32⟩ : BufTy).Contents (Elt F)),
    unary main_v21 main_v22 (broadcastInDim S2x1x6144 ![0, 2] bcast_S2x6144_S2x1x6144_0_2 : (⟨S2x6144, .f32⟩ : BufTy).Contents (Elt F) → (⟨S2x1x6144, .f32⟩ : BufTy).Contents (Elt F)),
    unary main_v22 main_v23 (broadcastInDim S2x6144x6144 ![0, 1, 2] bcast_S2x1x6144_S2x6144x6144_0_1_2 : (⟨S2x1x6144, .f32⟩ : BufTy).Contents (Elt F) → (⟨S2x6144x6144, .f32⟩ : BufTy).Contents (Elt F)),
    binary main_v9 main_v23 main_v24 (subf : (⟨S2x6144x6144, .f32⟩ : BufTy).Contents (Elt F) → (⟨S2x6144x6144, .f32⟩ : BufTy).Contents (Elt F) → (⟨S2x6144x6144, .f32⟩ : BufTy).Contents (Elt F)),
    unary main_v24 main_v25 (Host.exp : (⟨S2x6144x6144, .f32⟩ : BufTy).Contents (Elt F) → (⟨S2x6144x6144, .f32⟩ : BufTy).Contents (Elt F)),
    nullary main_cst_9 (constant S_ .f32 0x00000000#32),
    binary main_v25 main_cst_9 main_v26 ((fun x v => Host.reduceAdd x v reducesTo_S2x6144x6144_S2x6144_d1 h_S_) : (⟨S2x6144x6144, .f32⟩ : BufTy).Contents (Elt F) → (⟨S_, .f32⟩ : BufTy).Contents (Elt F) → (⟨S2x6144, .f32⟩ : BufTy).Contents (Elt F)),
    TRef.nullary (TRef.of (T := ⟨S2x6144x6144, .i32⟩) main_call2_v0) (iotaInDim S2x6144x6144 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S2x6144x6144, .f32⟩) main_v9) (TRef.of (T := ⟨S2x6144x6144, .i32⟩) main_call2_v0) (TRef.of (T := ⟨S_, .f32⟩) main_call2_cst) (TRef.of (T := ⟨S_, .i32⟩) main_call2_c) (TRef.of (T := ⟨S2x6144, .f32⟩) main_call2_v1_0) (fn_max2 (F := F)),
    TRef.quaternary (TRef.of (T := ⟨S2x6144x6144, .f32⟩) main_v9) (TRef.of (T := ⟨S2x6144x6144, .i32⟩) main_call2_v0) (TRef.of (T := ⟨S_, .f32⟩) main_call2_cst) (TRef.of (T := ⟨S_, .i32⟩) main_call2_c) (TRef.of (T := ⟨S2x6144, .i32⟩) main_v27) (fn_argmax2 (F := F)),
    TRef.nullary (TRef.of (T := ⟨S2x6144x6144, .i32⟩) main_call3_v0) (iotaInDim S2x6144x6144 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S2x6144x6144, .f32⟩) main_v9) (TRef.of (T := ⟨S2x6144x6144, .i32⟩) main_call3_v0) (TRef.of (T := ⟨S_, .f32⟩) main_call3_cst) (TRef.of (T := ⟨S_, .i32⟩) main_call3_c) (TRef.of (T := ⟨S2x6144, .f32⟩) main_call3_v1_0) (fn_max1 (F := F)),
    TRef.quaternary (TRef.of (T := ⟨S2x6144x6144, .f32⟩) main_v9) (TRef.of (T := ⟨S2x6144x6144, .i32⟩) main_call3_v0) (TRef.of (T := ⟨S_, .f32⟩) main_call3_cst) (TRef.of (T := ⟨S_, .i32⟩) main_call3_c) (TRef.of (T := ⟨S2x6144, .i32⟩) main_v28) (fn_argmax1 (F := F)),
    nullary main_c_10 (constantI S_ 32 0#32),
    unary main_c_10 main_v29 (broadcastInDim S6144 ![] bcast_S_S6144 : (⟨S_, .i32⟩ : BufTy).Contents (Elt F) → (⟨S6144, .i32⟩ : BufTy).Contents (Elt F)),
    binary main_v10 main_v29 main_v30 (cmpi .slt : (⟨S6144, .i32⟩ : BufTy).Contents (Elt F) → (⟨S6144, .i32⟩ : BufTy).Contents (Elt F) → (⟨S6144, .i1⟩ : BufTy).Contents (Elt F)),
    nullary main_c_11 (constantI S_ 32 6144#32),
    unary main_c_11 main_v31 (broadcastInDim S6144 ![] bcast_S_S6144 : (⟨S_, .i32⟩ : BufTy).Contents (Elt F) → (⟨S6144, .i32⟩ : BufTy).Contents (Elt F)),
    binary main_v10 main_v31 main_v32 (addi : (⟨S6144, .i32⟩ : BufTy).Contents (Elt F) → (⟨S6144, .i32⟩ : BufTy).Contents (Elt F) → (⟨S6144, .i32⟩ : BufTy).Contents (Elt F)),
    ternary main_v30 main_v32 main_v10 main_v33 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    nullary main_c_12 (constantI S_ 32 0#32),
    unary main_c_12 main_v34 (broadcastInDim S2x6144 ![] bcast_S_S2x6144 : (⟨S_, .i32⟩ : BufTy).Contents (Elt F) → (⟨S2x6144, .i32⟩ : BufTy).Contents (Elt F)),
    binary main_v11 main_v34 main_v35 (cmpi .slt : (⟨S2x6144, .i32⟩ : BufTy).Contents (Elt F) → (⟨S2x6144, .i32⟩ : BufTy).Contents (Elt F) → (⟨S2x6144, .i1⟩ : BufTy).Contents (Elt F)),
    nullary main_c_13 (constantI S_ 32 6144#32),
    unary main_c_13 main_v36 (broadcastInDim S2x6144 ![] bcast_S_S2x6144 : (⟨S_, .i32⟩ : BufTy).Contents (Elt F) → (⟨S2x6144, .i32⟩ : BufTy).Contents (Elt F)),
    binary main_v11 main_v36 main_v37 (addi : (⟨S2x6144, .i32⟩ : BufTy).Contents (Elt F) → (⟨S2x6144, .i32⟩ : BufTy).Contents (Elt F) → (⟨S2x6144, .i32⟩ : BufTy).Contents (Elt F)),
    ternary main_v35 main_v37 main_v11 main_v38 (select : (⟨S2x6144, .i1⟩ : BufTy).Contents (Elt F) → (⟨S2x6144, .i32⟩ : BufTy).Contents (Elt F) → (⟨S2x6144, .i32⟩ : BufTy).Contents (Elt F) → (⟨S2x6144, .i32⟩ : BufTy).Contents (Elt F)),
    unary main_v33 main_v39 (broadcastInDim S6144x1 ![0] bcast_S6144_S6144x1_0 : (⟨S6144, .i32⟩ : BufTy).Contents (Elt F) → (⟨S6144x1, .i32⟩ : BufTy).Contents (Elt F)),
    unary main_v38 main_v40 (broadcastInDim S2x6144x1 ![0, 1] bcast_S2x6144_S2x6144x1_0_1 : (⟨S2x6144, .i32⟩ : BufTy).Contents (Elt F) → (⟨S2x6144x1, .i32⟩ : BufTy).Contents (Elt F)),
    unary main_v39 main_v41 (broadcastInDim S2x6144x1 ![1, 2] bcast_S6144x1_S2x6144x1_1_2 : (⟨S6144x1, .i32⟩ : BufTy).Contents (Elt F) → (⟨S2x6144x1, .i32⟩ : BufTy).Contents (Elt F)),
    binary main_v41 main_v40 main_v42 (fn_main_v42 (F := F)),
    binary main_v9 main_v42 main_v43 ((fun x i => Host.gather gather_S2x6144x6144_S2x6144x2_S2x6144_n_12_0_0_12_2_111 x i) : (⟨S2x6144x6144, .f32⟩ : BufTy).Contents (Elt F) → (⟨S2x6144x2, .i32⟩ : BufTy).Contents (Elt F) → (⟨S2x6144, .f32⟩ : BufTy).Contents (Elt F)),
    nullary main_c_14 (constantI S_ 32 0#32),
    unary main_c_14 main_v44 (broadcastInDim S2x6144 ![] bcast_S_S2x6144 : (⟨S_, .i32⟩ : BufTy).Contents (Elt F) → (⟨S2x6144, .i32⟩ : BufTy).Contents (Elt F)),
    binary main_v12 main_v44 main_v45 (cmpi .slt : (⟨S2x6144, .i32⟩ : BufTy).Contents (Elt F) → (⟨S2x6144, .i32⟩ : BufTy).Contents (Elt F) → (⟨S2x6144, .i1⟩ : BufTy).Contents (Elt F)),
    nullary main_c_15 (constantI S_ 32 6144#32),
    unary main_c_15 main_v46 (broadcastInDim S2x6144 ![] bcast_S_S2x6144 : (⟨S_, .i32⟩ : BufTy).Contents (Elt F) → (⟨S2x6144, .i32⟩ : BufTy).Contents (Elt F)),
    binary main_v12 main_v46 main_v47 (addi : (⟨S2x6144, .i32⟩ : BufTy).Contents (Elt F) → (⟨S2x6144, .i32⟩ : BufTy).Contents (Elt F) → (⟨S2x6144, .i32⟩ : BufTy).Contents (Elt F)),
    ternary main_v45 main_v47 main_v12 main_v48 (select : (⟨S2x6144, .i1⟩ : BufTy).Contents (Elt F) → (⟨S2x6144, .i32⟩ : BufTy).Contents (Elt F) → (⟨S2x6144, .i32⟩ : BufTy).Contents (Elt F) → (⟨S2x6144, .i32⟩ : BufTy).Contents (Elt F)),
    nullary main_c_16 (constantI S_ 32 0#32),
    unary main_c_16 main_v49 (broadcastInDim S6144 ![] bcast_S_S6144 : (⟨S_, .i32⟩ : BufTy).Contents (Elt F) → (⟨S6144, .i32⟩ : BufTy).Contents (Elt F)),
    binary main_v10 main_v49 main_v50 (cmpi .slt : (⟨S6144, .i32⟩ : BufTy).Contents (Elt F) → (⟨S6144, .i32⟩ : BufTy).Contents (Elt F) → (⟨S6144, .i1⟩ : BufTy).Contents (Elt F)),
    nullary main_c_17 (constantI S_ 32 6144#32),
    unary main_c_17 main_v51 (broadcastInDim S6144 ![] bcast_S_S6144 : (⟨S_, .i32⟩ : BufTy).Contents (Elt F) → (⟨S6144, .i32⟩ : BufTy).Contents (Elt F)),
    binary main_v10 main_v51 main_v52 (addi : (⟨S6144, .i32⟩ : BufTy).Contents (Elt F) → (⟨S6144, .i32⟩ : BufTy).Contents (Elt F) → (⟨S6144, .i32⟩ : BufTy).Contents (Elt F)),
    ternary main_v50 main_v52 main_v10 main_v53 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    unary main_v48 main_v54 (broadcastInDim S2x6144x1 ![0, 1] bcast_S2x6144_S2x6144x1_0_1 : (⟨S2x6144, .i32⟩ : BufTy).Contents (Elt F) → (⟨S2x6144x1, .i32⟩ : BufTy).Contents (Elt F)),
    unary main_v53 main_v55 (broadcastInDim S6144x1 ![0] bcast_S6144_S6144x1_0 : (⟨S6144, .i32⟩ : BufTy).Contents (Elt F) → (⟨S6144x1, .i32⟩ : BufTy).Contents (Elt F)),
    unary main_v55 main_v56 (broadcastInDim S2x6144x1 ![1, 2] bcast_S6144x1_S2x6144x1_1_2 : (⟨S6144x1, .i32⟩ : BufTy).Contents (Elt F) → (⟨S2x6144x1, .i32⟩ : BufTy).Contents (Elt F)),
    binary main_v54 main_v56 main_v57 (fn_main_v57 (F := F)),
    binary main_v9 main_v57 main_v58 ((fun x i => Host.gather gather_S2x6144x6144_S2x6144x2_S2x6144_n_12_0_0_12_2_111 x i) : (⟨S2x6144x6144, .f32⟩ : BufTy).Contents (Elt F) → (⟨S2x6144x2, .i32⟩ : BufTy).Contents (Elt F) → (⟨S2x6144, .f32⟩ : BufTy).Contents (Elt F)),
    unary main_v13 main_v59 (broadcastInDim S2x1x6144 ![0, 2] bcast_S2x6144_S2x1x6144_0_2 : (⟨S2x6144, .f32⟩ : BufTy).Contents (Elt F) → (⟨S2x1x6144, .f32⟩ : BufTy).Contents (Elt F)),
    unary main_v19 main_v60 (broadcastInDim S2x1x6144 ![0, 2] bcast_S2x6144_S2x1x6144_0_2 : (⟨S2x6144, .f32⟩ : BufTy).Contents (Elt F) → (⟨S2x1x6144, .f32⟩ : BufTy).Contents (Elt F)),
    unary main_v27 main_v61 (broadcastInDim S2x1x6144 ![0, 2] bcast_S2x6144_S2x1x6144_0_2 : (⟨S2x6144, .i32⟩ : BufTy).Contents (Elt F) → (⟨S2x1x6144, .i32⟩ : BufTy).Contents (Elt F)),
    unary main_v43 main_v62 (broadcastInDim S2x1x6144 ![0, 2] bcast_S2x6144_S2x1x6144_0_2 : (⟨S2x6144, .f32⟩ : BufTy).Contents (Elt F) → (⟨S2x1x6144, .f32⟩ : BufTy).Contents (Elt F)),
    unary main_v20 main_v63 (broadcastInDim S2x1x6144 ![0, 2] bcast_S2x6144_S2x1x6144_0_2 : (⟨S2x6144, .f32⟩ : BufTy).Contents (Elt F) → (⟨S2x1x6144, .f32⟩ : BufTy).Contents (Elt F)),
    unary main_v26 main_v64 (broadcastInDim S2x1x6144 ![0, 2] bcast_S2x6144_S2x1x6144_0_2 : (⟨S2x6144, .f32⟩ : BufTy).Contents (Elt F) → (⟨S2x1x6144, .f32⟩ : BufTy).Contents (Elt F)),
    unary main_v28 main_v65 (broadcastInDim S2x1x6144 ![0, 2] bcast_S2x6144_S2x1x6144_0_2 : (⟨S2x6144, .i32⟩ : BufTy).Contents (Elt F) → (⟨S2x1x6144, .i32⟩ : BufTy).Contents (Elt F)),
    unary main_v58 main_v66 (broadcastInDim S2x1x6144 ![0, 2] bcast_S2x6144_S2x1x6144_0_2 : (⟨S2x6144, .f32⟩ : BufTy).Contents (Elt F) → (⟨S2x1x6144, .f32⟩ : BufTy).Contents (Elt F)) ]

set_option maxRecDepth 8192 in
set_option maxHeartbeats 4000000 in
/-- The reference is its operations one after another. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- Every operation's buffers are the program's. -/
theorem ops_sub : (ops : List (HloOp τ sig (Elt F))).Forall fun op => op.bufs ⊆ tcRefs τ sig :=
  ⟨reshape_bufs_sub .., unary_bufs_sub .., nullary_bufs_sub .., unary_bufs_sub .., binary_bufs_sub .., reshape_bufs_sub .., unary_bufs_sub .., nullary_bufs_sub .., unary_bufs_sub .., binary_bufs_sub .., unary_bufs_sub .., binary_bufs_sub .., nullary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., unary_bufs_sub .., unary_bufs_sub .., unary_bufs_sub .., unary_bufs_sub .., unary_bufs_sub .., unary_bufs_sub .., unary_bufs_sub ..⟩

/-- The scores: every row of the first descriptors against every row of the second, both scaled. -/
def scores (a0 a1 : Vec F S2x32x64x96 .f32) : Vec F S2x6144x6144 .f32 :=
  Host.dotGeneral dot_S2x6144x32_S2x32x6144_S2x6144x6144_2_1_1_2_0_0 none (mulf (transpose S2x6144x32 [0, 2, 1] (shapeCast _ a0 shapeCasts_S2x32x64x96_S2x32x6144) transposes_S2x32x6144_S2x6144x32_0_2_1) (broadcastInDim S2x6144x32 ![] bcast_S_S2x6144x32 (constant S_ .f32 0x404A62C2#32)))
    (transpose S2x32x6144 [0, 2, 1] (mulf (transpose S2x6144x32 [0, 2, 1] (shapeCast _ a1 shapeCasts_S2x32x64x96_S2x32x6144) transposes_S2x32x6144_S2x6144x32_0_2_1) (broadcastInDim S2x6144x32 ![] bcast_S_S2x6144x32 (constant S_ .f32 0x404A62C2#32))) transposes_S2x6144x32_S2x32x6144_0_2_1)

/-- The row maxima. -/
def rowTops (s : Vec F S2x6144x6144 .f32) : Vec F S2x1x6144 .f32 :=
  broadcastInDim S2x1x6144 ![0, 2] bcast_S2x6144_S2x1x6144_0_2 (Host.reduce FloatOps.maximumf s (constant S_ .f32 0xFF800000#32) reducesTo_S2x6144x6144_S2x6144_d2 h_S_)

/-- The row sums of exponentials. -/
def rowMasses (s : Vec F S2x6144x6144 .f32) : Vec F S2x1x6144 .f32 :=
  broadcastInDim S2x1x6144 ![0, 2] bcast_S2x6144_S2x1x6144_0_2 (Host.reduceAdd (Host.exp (subf s (broadcastInDim S2x6144x6144 ![0, 1, 2] bcast_S2x6144x1_S2x6144x6144_0_1_2 (broadcastInDim S2x6144x1 ![0, 1] bcast_S2x6144_S2x6144x1_0_1 (Host.reduce FloatOps.maximumf s (constant S_ .f32 0xFF800000#32) reducesTo_S2x6144x6144_S2x6144_d2 h_S_))))) (constant S_ .f32 0x00000000#32) reducesTo_S2x6144x6144_S2x6144_d2 h_S_)

/-- The places of the row maxima. -/
def rowPlaces (s : Vec F S2x6144x6144 .f32) : Vec F S2x1x6144 .i32 :=
  broadcastInDim S2x1x6144 ![0, 2] bcast_S2x6144_S2x1x6144_0_2 (fn_argmax2 (F := F) s (iotaInDim S2x6144x6144 32 2) (constant S_ .f32 0xFF800000#32) (constantI S_ 32 0#32))

/-- The scores at the first correspondences, row by row. -/
def rowHits (s : Vec F S2x6144x6144 .f32) (ci : Vec F S2x6144 .i32) : Vec F S2x1x6144 .f32 :=
  broadcastInDim S2x1x6144 ![0, 2] bcast_S2x6144_S2x1x6144_0_2 (Host.gather gather_S2x6144x6144_S2x6144x2_S2x6144_n_12_0_0_12_2_111 s (concatenate S2x6144x2 2 [⟨S2x6144x1, (broadcastInDim S2x6144x1 ![1, 2] bcast_S6144x1_S2x6144x1_1_2 (broadcastInDim S6144x1 ![0] bcast_S6144_S6144x1_0 (select (cmpi .slt (iotaInDim S6144 32 0) (broadcastInDim S6144 ![] bcast_S_S6144 (constantI S_ 32 0#32))) (addi (iotaInDim S6144 32 0) (broadcastInDim S6144 ![] bcast_S_S6144 (constantI S_ 32 6144#32))) (iotaInDim S6144 32 0))))⟩, ⟨S2x6144x1, (broadcastInDim S2x6144x1 ![0, 1] bcast_S2x6144_S2x6144x1_0_1 (select (cmpi .slt (minsi (broadcastInDim S2x6144 ![] bcast_S_S2x6144 (id (constantI S_ 32 6143#32))) (maxsi (broadcastInDim S2x6144 ![] bcast_S_S2x6144 (id (constantI S_ 32 0#32))) ci)) (broadcastInDim S2x6144 ![] bcast_S_S2x6144 (constantI S_ 32 0#32))) (addi (minsi (broadcastInDim S2x6144 ![] bcast_S_S2x6144 (id (constantI S_ 32 6143#32))) (maxsi (broadcastInDim S2x6144 ![] bcast_S_S2x6144 (id (constantI S_ 32 0#32))) ci)) (broadcastInDim S2x6144 ![] bcast_S_S2x6144 (constantI S_ 32 6144#32))) (minsi (broadcastInDim S2x6144 ![] bcast_S_S2x6144 (id (constantI S_ 32 6143#32))) (maxsi (broadcastInDim S2x6144 ![] bcast_S_S2x6144 (id (constantI S_ 32 0#32))) ci))))⟩] concatenates_S2x6144x1_S2x6144x1_S2x6144x2_d2))

/-- The column maxima. -/
def colTops (s : Vec F S2x6144x6144 .f32) : Vec F S2x1x6144 .f32 :=
  broadcastInDim S2x1x6144 ![0, 2] bcast_S2x6144_S2x1x6144_0_2 (Host.reduce FloatOps.maximumf s (constant S_ .f32 0xFF800000#32) reducesTo_S2x6144x6144_S2x6144_d1 h_S_)

/-- The column sums of exponentials. -/
def colMasses (s : Vec F S2x6144x6144 .f32) : Vec F S2x1x6144 .f32 :=
  broadcastInDim S2x1x6144 ![0, 2] bcast_S2x6144_S2x1x6144_0_2 (Host.reduceAdd (Host.exp (subf s (broadcastInDim S2x6144x6144 ![0, 1, 2] bcast_S2x1x6144_S2x6144x6144_0_1_2 (broadcastInDim S2x1x6144 ![0, 2] bcast_S2x6144_S2x1x6144_0_2 (Host.reduce FloatOps.maximumf s (constant S_ .f32 0xFF800000#32) reducesTo_S2x6144x6144_S2x6144_d1 h_S_))))) (constant S_ .f32 0x00000000#32) reducesTo_S2x6144x6144_S2x6144_d1 h_S_)

/-- The places of the column maxima. -/
def colPlaces (s : Vec F S2x6144x6144 .f32) : Vec F S2x1x6144 .i32 :=
  broadcastInDim S2x1x6144 ![0, 2] bcast_S2x6144_S2x1x6144_0_2 (fn_argmax1 (F := F) s (iotaInDim S2x6144x6144 32 1) (constant S_ .f32 0xFF800000#32) (constantI S_ 32 0#32))

/-- The scores at the second correspondences, column by column. -/
def colHits (s : Vec F S2x6144x6144 .f32) (ci : Vec F S2x6144 .i32) : Vec F S2x1x6144 .f32 :=
  broadcastInDim S2x1x6144 ![0, 2] bcast_S2x6144_S2x1x6144_0_2 (Host.gather gather_S2x6144x6144_S2x6144x2_S2x6144_n_12_0_0_12_2_111 s (concatenate S2x6144x2 2 [⟨S2x6144x1, (broadcastInDim S2x6144x1 ![0, 1] bcast_S2x6144_S2x6144x1_0_1 (select (cmpi .slt (minsi (broadcastInDim S2x6144 ![] bcast_S_S2x6144 (id (constantI S_ 32 6143#32))) (maxsi (broadcastInDim S2x6144 ![] bcast_S_S2x6144 (id (constantI S_ 32 0#32))) ci)) (broadcastInDim S2x6144 ![] bcast_S_S2x6144 (constantI S_ 32 0#32))) (addi (minsi (broadcastInDim S2x6144 ![] bcast_S_S2x6144 (id (constantI S_ 32 6143#32))) (maxsi (broadcastInDim S2x6144 ![] bcast_S_S2x6144 (id (constantI S_ 32 0#32))) ci)) (broadcastInDim S2x6144 ![] bcast_S_S2x6144 (constantI S_ 32 6144#32))) (minsi (broadcastInDim S2x6144 ![] bcast_S_S2x6144 (id (constantI S_ 32 6143#32))) (maxsi (broadcastInDim S2x6144 ![] bcast_S_S2x6144 (id (constantI S_ 32 0#32))) ci))))⟩, ⟨S2x6144x1, (broadcastInDim S2x6144x1 ![1, 2] bcast_S6144x1_S2x6144x1_1_2 (broadcastInDim S6144x1 ![0] bcast_S6144_S6144x1_0 (select (cmpi .slt (iotaInDim S6144 32 0) (broadcastInDim S6144 ![] bcast_S_S6144 (constantI S_ 32 0#32))) (addi (iotaInDim S6144 32 0) (broadcastInDim S6144 ![] bcast_S_S6144 (constantI S_ 32 6144#32))) (iotaInDim S6144 32 0))))⟩] concatenates_S2x6144x1_S2x6144x1_S2x6144x2_d2))

set_option maxRecDepth 8192 in
set_option maxHeartbeats 40400000 in
/-- Every execution of the reference ends with each result at its function of the scores and correspondences, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = rowTops (scores (m ((c.tc : Thread nD τ).loc main_arg0)) (m ((c.tc : Thread nD τ).loc main_arg1)))
      ∧ r.2.mem ((c.tc : Thread nD τ).loc main_v60) = rowMasses (scores (m ((c.tc : Thread nD τ).loc main_arg0)) (m ((c.tc : Thread nD τ).loc main_arg1)))
      ∧ r.2.mem ((c.tc : Thread nD τ).loc main_v61) = rowPlaces (scores (m ((c.tc : Thread nD τ).loc main_arg0)) (m ((c.tc : Thread nD τ).loc main_arg1)))
      ∧ r.2.mem ((c.tc : Thread nD τ).loc main_v62) = rowHits (scores (m ((c.tc : Thread nD τ).loc main_arg0)) (m ((c.tc : Thread nD τ).loc main_arg1))) (m ((c.tc : Thread nD τ).loc main_arg2))
      ∧ r.2.mem ((c.tc : Thread nD τ).loc main_v63) = colTops (scores (m ((c.tc : Thread nD τ).loc main_arg0)) (m ((c.tc : Thread nD τ).loc main_arg1)))
      ∧ r.2.mem ((c.tc : Thread nD τ).loc main_v64) = colMasses (scores (m ((c.tc : Thread nD τ).loc main_arg0)) (m ((c.tc : Thread nD τ).loc main_arg1)))
      ∧ r.2.mem ((c.tc : Thread nD τ).loc main_v65) = colPlaces (scores (m ((c.tc : Thread nD τ).loc main_arg0)) (m ((c.tc : Thread nD τ).loc main_arg1)))
      ∧ r.2.mem ((c.tc : Thread nD τ).loc main_v66) = colHits (scores (m ((c.tc : Thread nD τ).loc main_arg0)) (m ((c.tc : Thread nD τ).loc main_arg1))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v59).trans (by simp only [ops, TRef.binary, TRef.unary, TRef.nullary, TRef.quaternary, TRef.toBuf, TRef.ofBuf, cast_eq]; after_results_simp <;> rfl),
      (h c main_v60).trans (by simp only [ops, TRef.binary, TRef.unary, TRef.nullary, TRef.quaternary, TRef.toBuf, TRef.ofBuf, cast_eq]; after_results_simp <;> rfl),
      (h c main_v61).trans (by simp only [ops, TRef.binary, TRef.unary, TRef.nullary, TRef.quaternary, TRef.toBuf, TRef.ofBuf, cast_eq]; after_results_simp <;> rfl),
      (h c main_v62).trans (by simp only [ops, TRef.binary, TRef.unary, TRef.nullary, TRef.quaternary, TRef.toBuf, TRef.ofBuf, cast_eq]; after_results_simp <;> rfl),
      (h c main_v63).trans (by simp only [ops, TRef.binary, TRef.unary, TRef.nullary, TRef.quaternary, TRef.toBuf, TRef.ofBuf, cast_eq]; after_results_simp <;> rfl),
      (h c main_v64).trans (by simp only [ops, TRef.binary, TRef.unary, TRef.nullary, TRef.quaternary, TRef.toBuf, TRef.ofBuf, cast_eq]; after_results_simp <;> rfl),
      (h c main_v65).trans (by simp only [ops, TRef.binary, TRef.unary, TRef.nullary, TRef.quaternary, TRef.toBuf, TRef.ofBuf, cast_eq]; after_results_simp <;> rfl),
      (h c main_v66).trans (by simp only [ops, TRef.binary, TRef.unary, TRef.nullary, TRef.quaternary, TRef.toBuf, TRef.ofBuf, cast_eq]; after_results_simp <;> rfl),
      (h c main_arg0).trans (by simp only [ops, TRef.binary, TRef.unary, TRef.nullary, TRef.quaternary, TRef.toBuf, TRef.ofBuf, cast_eq]; after_results_simp <;> rfl),
      (h c main_arg1).trans (by simp only [ops, TRef.binary, TRef.unary, TRef.nullary, TRef.quaternary, TRef.toBuf, TRef.ofBuf, cast_eq]; after_results_simp <;> rfl),
      (h c main_arg2).trans (by simp only [ops, TRef.binary, TRef.unary, TRef.nullary, TRef.quaternary, TRef.toBuf, TRef.ofBuf, cast_eq]; after_results_simp <;> rfl),
      (h c main_arg3).trans (by simp only [ops, TRef.binary, TRef.unary, TRef.nullary, TRef.quaternary, TRef.toBuf, TRef.ofBuf, cast_eq]; after_results_simp <;> rfl)⟩)
    (run_seq scopedRefs_eq scopedSems_eq defs main (fun _ => ops) main_eq (fun _ => ops_sub) m ρ)

end Cert.ReferenceIdeal.Stats

end
-- ==== Proof.RefArgmax.lean ====
module

public import proofs.«01_k».proof.Proof.RefRun
public import proofs.«01_k».proof.Proof.Online
public import Idealize.ShloMosaic.Lib.WordCmp
public import Idealize.ShloMosaic.Lib.WordArith
public import Idealize.ShloMosaic.Lib.Pipeline.ValueKit

/-! The host's arg-max at the extended reals: the first place of the greatest value. -/

@[expose] public section

set_option maxRecDepth 16384

noncomputable section

namespace Cert.ReferenceIdeal.Stats

open Cert.ReferenceIdeal Cert.ReferenceIdeal.Gen Cert.Online
open Idealize.ShloMosaic Idealize.ShloMosaic.StableHlo

/-- What the arg-max carries: the greatest value so far and the least place of it. -/
theorem argmax_fold (L : List (ℕ)) (x : ℕ → EReal) (hL : ∀ k ∈ L, k < 2 ^ 31) (v : EReal) (i : ℕ) (hi : i < 2 ^ 31) :
    ∃ (w : EReal) (j : ℕ), L.foldl (fun r k => reducer_argmax_f32_i32 (F := Ideal) r (x k, BitVec.ofNat 32 k)) (v, BitVec.ofNat 32 i) = (w, BitVec.ofNat 32 j)
      ∧ ((w = v ∧ j = i) ∨ (j ∈ L ∧ w = x j)) ∧ (v < w ∨ v = w ∧ j ≤ i) ∧ ∀ k ∈ L, x k < w ∨ x k = w ∧ j ≤ k := by
  induction L generalizing v i with
  | nil => exact ⟨v, i, rfl, .inl ⟨rfl, rfl⟩, .inr ⟨rfl, le_refl _⟩, by simp⟩
  | cons k L ih =>
    have hk : k < 2 ^ 31 := hL k (by simp)
    have step : ∃ (v' : EReal) (i' : ℕ), reducer_argmax_f32_i32 (F := Ideal) (v, BitVec.ofNat 32 i) (x k, BitVec.ofNat 32 k) = (v', BitVec.ofNat 32 i') ∧ i' < 2 ^ 31
        ∧ ((v' = v ∧ i' = i) ∨ (v' = x k ∧ i' = k)) ∧ (v < v' ∨ v = v' ∧ i' ≤ i) ∧ (x k < v' ∨ x k = v' ∧ i' ≤ k) := by
      unfold reducer_argmax_f32_i32
      have hc : IntOp.cmpi .slt (BitVec.ofNat 32 i) (BitVec.ofNat 32 k) = if i < k then 1#1 else 0#1 := by
        by_cases h : i < k
        · rw [if_pos h]; exact (WordCmp.cmpi_slt_ofNat_eq_one_iff (w := 32) hi hk).mpr h
        · rw [if_neg h]; exact (WordCmp.cmpi_slt_ofNat_eq_zero_iff (w := 32) hi hk).mpr h
      rcases lt_trichotomy v (x k) with h | h | h
      · refine ⟨x k, k, ?_, hk, .inr ⟨rfl, rfl⟩, .inl h, .inr ⟨rfl, le_refl _⟩⟩
        have n1 : ¬ x k < v := not_lt.mpr h.le
        simp [Ideal.cmpf_def, Ideal.cmp, n1, h.ne, IntOp.ori, IntOp.andi, Scalar.select]
      · subst h
        by_cases hik : i < k
        · refine ⟨x k, i, ?_, hi, .inl ⟨rfl, rfl⟩, .inr ⟨rfl, le_refl _⟩, .inr ⟨rfl, hik.le⟩⟩
          simp [Ideal.cmpf_def, Ideal.cmp, hc, hik, IntOp.ori, IntOp.andi, Scalar.select]
        · refine ⟨x k, k, ?_, hk, .inr ⟨rfl, rfl⟩, .inr ⟨rfl, not_lt.mp hik⟩, .inr ⟨rfl, le_refl _⟩⟩
          simp [Ideal.cmpf_def, Ideal.cmp, hc, hik, IntOp.ori, IntOp.andi, Scalar.select]
      · refine ⟨v, i, ?_, hi, .inl ⟨rfl, rfl⟩, .inr ⟨rfl, le_refl _⟩, .inl h⟩
        have e1 : ∀ b : BitVec 1, (1#1 ||| b) = 1#1 := by decide
        simp [Ideal.cmpf_def, Ideal.cmp, h, IntOp.ori, IntOp.andi, Scalar.select, e1]
    obtain ⟨v', i', e, hi', c1, c2, c3⟩ := step
    obtain ⟨w, j, e', d1, d2, d3⟩ := ih (fun k hk => hL k (by simp [hk])) v' i' hi'
    refine ⟨w, j, by rw [List.foldl_cons, e]; exact e', ?_, ?_, ?_⟩
    · rcases d1 with ⟨rfl, rfl⟩ | ⟨h1, h2⟩
      · rcases c1 with ⟨rfl, rfl⟩ | ⟨rfl, rfl⟩
        · exact .inl ⟨rfl, rfl⟩
        · exact .inr ⟨by simp, rfl⟩
      · exact .inr ⟨by simp [h1], h2⟩
    · rcases c2 with h | ⟨rfl, h⟩ <;> rcases d2 with h' | ⟨rfl, h'⟩
      · exact .inl (h.trans h')
      · exact .inl h
      · exact .inl h'
      · exact .inr ⟨rfl, h'.trans h⟩
    · intro l hl
      rcases List.mem_cons.mp hl with rfl | hl
      · rcases c3 with h | ⟨h0, h⟩ <;> rcases d2 with h' | ⟨rfl, h'⟩
        · exact .inl (h.trans h')
        · exact .inl h
        · exact .inl (h0.trans_lt h')
        · exact .inr ⟨h0, h'.trans h⟩
      · exact d3 l hl

/-- The arg-max of values from negative infinity and place zero is the first place of the greatest. -/
theorem argmax_list (L : List ℕ) (g : ℕ → EReal) {n : ℕ} (hn : 0 < n) (hn' : n ≤ 2 ^ 31) (hL : ∀ k, k ∈ L ↔ k < n) :
    (L.foldl (fun r k => reducer_argmax_f32_i32 (F := Ideal) r (g k, BitVec.ofNat 32 k)) ((⊥ : EReal), 0#32)).2 = BitVec.ofNat 32 (place g n) := by
  obtain ⟨w, j, e, h1, h2, h3⟩ := argmax_fold L g (fun k hk => lt_of_lt_of_le ((hL k).mp hk) hn') ⊥ 0 (by norm_num)
  rw [show (0#32 : BitVec 32) = BitVec.ofNat 32 0 from rfl, e]
  have hw : w = top g n := by
    apply le_antisymm
    · rcases h1 with ⟨rfl, -⟩ | ⟨hj, rfl⟩
      · exact bot_le
      · exact le_top ((hL j).mp hj)
    · obtain ⟨k, hk, ek⟩ := exists_top g hn
      rw [← ek]
      rcases h3 k ((hL k).mpr hk) with h | ⟨h, -⟩
      · exact h.le
      · exact h.le
  show BitVec.ofNat 32 j = _
  congr 1
  have hp := place_spec g hn
  have hjp : j ≤ place g n := by
    rcases h3 _ ((hL _).mpr hp.1) with h | ⟨-, h⟩
    · rw [hp.2, hw] at h; exact absurd h (lt_irrefl _)
    · exact h
  refine le_antisymm hjp ?_
  rcases h1 with ⟨hbw, rfl⟩ | ⟨hj, e⟩
  · have hb : top g n = ⊥ := hw.symm.trans hbw
    exact place_le hn (by rw [hb]; exact le_bot_iff.mp (hb ▸ le_top hn))
  · exact place_le ((hL j).mp hj) (e.symm.trans hw)

/-- The host's arg-max over one axis, read at an index. -/
theorem argmax_eq {sh t : Shape} {a : Fin sh.rank} (x : Vec Ideal sh .f32) (y : Vec Ideal sh .i32) (init : Vec Ideal S_ .f32) (hinit : ∀ z, init z = (⊥ : EReal))
    (h : sh.ReducesTo [a] t) (h' : sh.Reduces [a] t) (j : t.Idx)
    (g : ℕ → EReal) (hu : 0 < S_.numel) (n : ℕ) (hsz : sh.size a = n) (hn : 0 < n) (hn' : n ≤ 2 ^ 31)
    (hx : ∀ k : Fin (sh.size a), x (h'.lift j k) = g k.val) (hy : ∀ k : Fin (sh.size a), y (h'.lift j k) = BitVec.ofNat 32 k.val) :
    (Host.argReduce (reducer_argmax_f32_i32 (F := Ideal)) x y init (constantI S_ 32 0#32) h hu j).2 = BitVec.ofNat 32 (place g n) := by
  classical
  subst hsz
  rw [Ideal.argReduce_eq_reduce2, Host.reduce2_eq_foldl_fiber, hinit]
  have hf : ∀ i : sh.Idx, h.drop i = j ↔ ∃ k, h'.lift j k = i := fun i => by
    rw [Shape.ReducesTo.drop_eq_drop h h']
    have := congrArg (fun S => i ∈ S) (h'.filter_drop_eq_image_lift j)
    simpa using this
  have key : ∃ L : List ℕ, (∀ k, k ∈ L ↔ k < sh.size a) ∧ Host.argReduceFiber x y h j = L.map fun k => (g k, BitVec.ofNat 32 k) := by
    refine ⟨((List.finRange sh.numel).filter fun n => h.drop (sh.rowMajor.symm n) = j).map fun n => (sh.rowMajor.symm n a).val, fun k => ?_, ?_⟩
    · simp only [List.mem_map, List.mem_filter, List.mem_finRange, true_and, decide_eq_true_eq]
      constructor
      · rintro ⟨n, -, rfl⟩; exact (sh.rowMajor.symm n a).isLt
      · intro hk
        refine ⟨sh.rowMajor (h'.lift j ⟨k, hk⟩), ?_, ?_⟩
        · rw [Equiv.symm_apply_apply]; exact (hf _).mpr ⟨_, rfl⟩
        · rw [Equiv.symm_apply_apply, Shape.Reduces.lift_val]; simp [Shape.Reduces.liftVal]
    · unfold Host.argReduceFiber
      rw [List.map_map]
      refine List.map_congr_left fun n hn => ?_
      obtain ⟨k, hk⟩ := (hf _).mp (by simpa using hn)
      have ha : (sh.rowMajor.symm n a).val = k.val := by rw [← hk, Shape.Reduces.lift_val]; simp [Shape.Reduces.liftVal]
      show (x (sh.rowMajor.symm n), y (sh.rowMajor.symm n)) = (g (sh.rowMajor.symm n a).val, BitVec.ofNat 32 (sh.rowMajor.symm n a).val)
      rw [ha, ← hk, hx, hy]
  obtain ⟨L, hL, e⟩ := key
  rw [e, List.foldl_map]
  exact argmax_list L g hn hn' hL

/-- The same of a function given as the arg-max. -/
theorem argmax_of {sh t : Shape} {a : Fin sh.rank} (A : Vec Ideal sh .f32 → Vec Ideal sh .i32 → Vec Ideal S_ .f32 → Vec Ideal S_ .i32 → Vec Ideal t .i32)
    (h : sh.ReducesTo [a] t) (hu : 0 < S_.numel)
    (hA : A = fun x y u v j => (Host.argReduce (reducer_argmax_f32_i32 (F := Ideal)) x y u v h hu j).2)
    (x : Vec Ideal sh .f32) (y : Vec Ideal sh .i32) (init : Vec Ideal S_ .f32) (hinit : ∀ z, init z = (⊥ : EReal))
    (h' : sh.Reduces [a] t) (j : t.Idx) (g : ℕ → EReal) (n : ℕ) (hsz : sh.size a = n) (hn : 0 < n) (hn' : n ≤ 2 ^ 31)
    (hx : ∀ k : Fin (sh.size a), x (h'.lift j k) = g k.val) (hy : ∀ k : Fin (sh.size a), y (h'.lift j k) = BitVec.ofNat 32 k.val) :
    A x y init (constantI S_ 32 0#32) j = BitVec.ofNat 32 (place g n) := by
  subst hA
  exact argmax_eq x y init hinit h h' j g hu n hsz hn hn' hx hy

end Cert.ReferenceIdeal.Stats

end
-- ==== Proof.RefGather.lean ====
module

public import proofs.«01_k».proof.Proof.RefRun
public import proofs.«01_k».proof.Proof.Online
public import Idealize.ShloMosaic.Lib.WordCmp
public import Idealize.ShloMosaic.Lib.WordArith
public import Idealize.ShloMosaic.Lib.Pipeline.ValueKit

/-! The host's gather of one score at each correspondence, read at an index. -/

@[expose] public section

set_option maxRecDepth 16384

noncomputable section

namespace Cert.ReferenceIdeal.Stats

open Cert.ReferenceIdeal Cert.ReferenceIdeal.Gen Cert.Online
open Idealize.ShloMosaic Idealize.ShloMosaic.StableHlo

/-- The pair of places a batched gather reads. -/
theorem gather_pair {α : Type} (s : S2x6144x6144.Idx → α) (idx : IVec S2x6144x2 32) (b : Fin 2) (j : Fin 6144) (p q : ℕ) (hp : p < 6144) (hq : q < 6144)
    (h0 : idx (ix3 b j 0) = BitVec.ofNat 32 p) (h1 : idx (ix3 b j 1) = BitVec.ofNat 32 q) :
    Host.gather gather_S2x6144x6144_S2x6144x2_S2x6144_n_12_0_0_12_2_111 s idx (ix2 b j) = s (ix3 b ⟨p, hp⟩ ⟨q, hq⟩) := by
  have tn : ∀ r < 6144, (BitVec.ofNat 32 r).toInt.toNat = r := fun r hr => by
    have e : (BitVec.ofNat 32 r).toNat = r := by rw [BitVec.toNat_ofNat]; omega
    rw [BitVec.toInt_eq_toNat_cond, e]; omega
  unfold Host.gather
  congr 1
  funext a
  refine Fin.ext ?_
  have m1 : gather_S2x6144x6144_S2x6144x2_S2x6144_n_12_0_0_12_2_111.startIndexMap = [1, 2] := rfl
  have m2 : gather_S2x6144x6144_S2x6144x2_S2x6144_n_12_0_0_12_2_111.operandBatchingDims = [0] := rfl
  have m3 : gather_S2x6144x6144_S2x6144x2_S2x6144_n_12_0_0_12_2_111.collapsedSliceDims = [1, 2] := rfl
  have hsi : ∀ k (l : Fin 2), k.val = l.val → GatherDims.siIdx gather_S2x6144x6144_S2x6144x2_S2x6144_n_12_0_0_12_2_111 (ix2 b j) k = ix3 b j l := by
    intro k l hk; funext c; refine Fin.ext ?_
    match c with
    | ⟨0, _⟩ => rfl
    | ⟨1, _⟩ => rfl
    | ⟨2, _⟩ => exact hk
  show GatherDims.start gather_S2x6144x6144_S2x6144x2_S2x6144_n_12_0_0_12_2_111 (ix2 b j) idx a + GatherDims.batchCoord gather_S2x6144x6144_S2x6144x2_S2x6144_n_12_0_0_12_2_111 (ix2 b j) a + GatherDims.offCoord gather_S2x6144x6144_S2x6144x2_S2x6144_n_12_0_0_12_2_111 (ix2 b j) a = _
  have h3 : a = 0 ∨ a = 1 ∨ a = 2 := by
    match a with
    | ⟨0, _⟩ => exact .inl rfl
    | ⟨1, _⟩ => exact .inr (.inl rfl)
    | ⟨2, _⟩ => exact .inr (.inr rfl)
  rw [GatherDims.offCoord_eq_zero _ _ _ (fun h => by
    have := (GatherDims.mem_sKept _ _).mp h
    rw [m2, m3] at this
    rcases h3 with rfl | rfl | rfl
    · exact this.2 (by decide)
    · exact this.1 (by decide)
    · exact this.1 (by decide))]
  rcases h3 with rfl | rfl | rfl
  · rw [GatherDims.start_batching _ _ _ _ (show (0 : Fin 3) ∈ gather_S2x6144x6144_S2x6144x2_S2x6144_n_12_0_0_12_2_111.operandBatchingDims from by rw [m2]; decide)]
    unfold GatherDims.batchCoord
    rw [dif_pos (show (0 : Fin 3) ∈ gather_S2x6144x6144_S2x6144x2_S2x6144_n_12_0_0_12_2_111.operandBatchingDims from by rw [m2]; decide)]
    simp only [Nat.zero_add, Nat.add_zero]
    rfl
  · rw [GatherDims.batchCoord_eq_zero _ _ _ (show (1 : Fin 3) ∉ gather_S2x6144x6144_S2x6144x2_S2x6144_n_12_0_0_12_2_111.operandBatchingDims from by rw [m2]; decide)]
    unfold GatherDims.start
    rw [dif_pos (show (1 : Fin 3) ∈ gather_S2x6144x6144_S2x6144x2_S2x6144_n_12_0_0_12_2_111.startIndexMap from by rw [m1]; decide)]
    simp only [Nat.add_zero]
    refine (congrArg (fun z => min (idx z).toInt.toNat 6143) (hsi _ 0 rfl)).trans ?_
    show min (idx (ix3 b j 0)).toInt.toNat 6143 = p
    rw [h0, tn p hp]; omega
  · rw [GatherDims.batchCoord_eq_zero _ _ _ (show (2 : Fin 3) ∉ gather_S2x6144x6144_S2x6144x2_S2x6144_n_12_0_0_12_2_111.operandBatchingDims from by rw [m2]; decide)]
    unfold GatherDims.start
    rw [dif_pos (show (2 : Fin 3) ∈ gather_S2x6144x6144_S2x6144x2_S2x6144_n_12_0_0_12_2_111.startIndexMap from by rw [m1]; decide)]
    simp only [Nat.add_zero]
    refine (congrArg (fun z => min (idx z).toInt.toNat 6143) (hsi _ 1 rfl)).trans ?_
    show min (idx (ix3 b j 1)).toInt.toNat 6143 = q
    rw [h1, tn q hq]; omega

/-- A place not below zero is not wrapped round. -/
theorem wrap_word (x : BitVec 32) (h : x.toNat < 6144) : Scalar.select (IntOp.cmpi .slt x 0#32) (IntOp.addi x 6144#32) x = x := by
  have e : IntOp.cmpi .slt x 0#32 = 0#1 := by
    rw [WordCmp.cmpi_slt_zero, decide_eq_false (by norm_num; omega)]; rfl
  rw [e]; rfl

/-- A place in range is itself after it is held in range. -/
theorem clamp_word (x : BitVec 32) (h : x.toNat < 6144) : IntOp.minsi 6143#32 (IntOp.maxsi 0#32 x) = x := by
  have hi : x.toInt = x.toNat := by rw [BitVec.toInt_eq_toNat_cond]; omega
  have e1 : IntOp.maxsi 0#32 x = x := by
    apply BitVec.eq_of_toInt_eq
    rw [WordArith.toInt_maxsi_zero, hi]; omega
  rw [e1]
  apply BitVec.eq_of_toNat_eq
  rw [WordArith.toNat_minsi_of_lt _ _ (by decide) (by omega)]
  show min 6143 x.toNat = _
  omega

/-- A place counted from the front, wrapped and held in range, is itself. -/
theorem wrap_iota (p : Fin 6144) : Scalar.select (IntOp.cmpi .slt (BitVec.ofNat 32 p.val) 0#32) (IntOp.addi (BitVec.ofNat 32 p.val) 6144#32) (BitVec.ofNat 32 p.val) = BitVec.ofNat 32 p.val :=
  wrap_word _ (by rw [BitVec.toNat_ofNat]; omega)

/-- A correspondence in range, held in range and wrapped, is itself. -/
theorem wrap_clamp (x : BitVec 32) (h : x.toNat < 6144) :
    Scalar.select (IntOp.cmpi .slt (IntOp.minsi 6143#32 (IntOp.maxsi 0#32 x)) 0#32) (IntOp.addi (IntOp.minsi 6143#32 (IntOp.maxsi 0#32 x)) 6144#32) (IntOp.minsi 6143#32 (IntOp.maxsi 0#32 x))
      = BitVec.ofNat 32 x.toNat := by
  rw [clamp_word x h, wrap_word x h, BitVec.ofNat_toNat, BitVec.setWidth_eq]

end Cert.ReferenceIdeal.Stats

end
-- ==== Proof.RefValue.lean ====
module

public import proofs.«01_k».proof.Proof.RefRun
public import proofs.«01_k».proof.Proof.RefArgmax
public import proofs.«01_k».proof.Proof.RefGather
public import proofs.«01_k».proof.Proof.Score
public import Idealize.ShloMosaic.Lib.Pipeline.ValueKit

/-! The reference's results read at an index, at the extended reals: each is the same statistic of the scores that the kernel's
result is. -/

@[expose] public section

set_option maxRecDepth 16384

noncomputable section

namespace Cert.ReferenceIdeal.Stats

open Cert.ReferenceIdeal Cert.ReferenceIdeal.Gen Cert.Online
open Idealize.ShloMosaic Idealize.ShloMosaic.StableHlo
open Cert.KernelIdeal.Step (score score_apply negInf)

/-- The reference's scores of the flattened descriptors. -/
theorem scores_apply (a0 a1 : Vec Ideal S2x32x64x96 .f32) (b : Fin 2) (p q : Fin 6144) :
    scores (F := Ideal) a0 a1 (ix3 b p q)
      = score (shapeCast S2x32x6144 a0 shapeCasts_S2x32x64x96_S2x32x6144) (shapeCast S2x32x6144 a1 shapeCasts_S2x32x64x96_S2x32x6144) b p.val q.val := by
  rw [score_apply]
  unfold scores
  pointwise [scores]

/-- A result of one middle entry, read. -/
theorem mid_apply {α : Type} (x : S2x6144.Idx → α) (b : Fin 2) (p : Fin 6144) :
    broadcastInDim S2x1x6144 ![0, 2] bcast_S2x6144_S2x1x6144_0_2 x (ix3 b 0 p) = x (ix2 b p) := by
  pointwise

section Reads

variable (s : Vec Ideal S2x6144x6144 .f32) (g : Fin 2 → ℕ → ℕ → EReal) (hs : ∀ (b : Fin 2) (p q : Fin 6144), s (ix3 b p q) = g b p.val q.val)
include hs

/-- The row maxima as a result. -/
theorem rowTops_apply (b : Fin 2) (p : Fin 6144) : rowTops s (ix3 b 0 p) = top (g b p.val) 6144 := by
  pointwise [rowTops]
  rw [negInf]
  exact fold_max_eq fun x => hs b p x

/-- The column maxima as a result. -/
theorem colTops_apply (b : Fin 2) (q : Fin 6144) : colTops s (ix3 b 0 q) = top (fun k => g b k q.val) 6144 := by
  pointwise [colTops]
  rw [negInf]
  exact fold_max_eq (g := fun k => g b k q.val) fun x => hs b x q

end Reads

end Cert.ReferenceIdeal.Stats

end
-- ==== Proof.RefHit.lean ====
module

public import proofs.«01_k».proof.Proof.RefRun
public import proofs.«01_k».proof.Proof.RefArgmax
public import proofs.«01_k».proof.Proof.RefGather
public import proofs.«01_k».proof.Proof.RefValue
public import Idealize.ShloMosaic.Lib.Pipeline.ValueKit

/-! The reference's results read at an index, at the extended reals: each is the same statistic of the scores that the kernel's
result is. -/

@[expose] public section

set_option maxRecDepth 16384

noncomputable section

namespace Cert.ReferenceIdeal.Stats

open Cert.ReferenceIdeal Cert.ReferenceIdeal.Gen Cert.Online
open Idealize.ShloMosaic Idealize.ShloMosaic.StableHlo
open Cert.KernelIdeal.Step (score score_apply negInf)

/-- The first of two columns of words side by side. -/
theorem cat_left (x y : IVec S2x6144x1 32) (b : Fin 2) (p : Fin 6144) :
    concatenate S2x6144x2 2 [⟨S2x6144x1, x⟩, ⟨S2x6144x1, y⟩] concatenates_S2x6144x1_S2x6144x1_S2x6144x2_d2 (ix3 b p 0) = x (ix3 b p 0) := by
  pointwise

/-- The second of two columns of words side by side. -/
theorem cat_right (x y : IVec S2x6144x1 32) (b : Fin 2) (p : Fin 6144) :
    concatenate S2x6144x2 2 [⟨S2x6144x1, x⟩, ⟨S2x6144x1, y⟩] concatenates_S2x6144x1_S2x6144x1_S2x6144x2_d2 (ix3 b p 1) = y (ix3 b p 0) := by
  pointwise

section Reads

variable (s : Vec Ideal S2x6144x6144 .f32) (g : Fin 2 → ℕ → ℕ → EReal) (hs : ∀ (b : Fin 2) (p q : Fin 6144), s (ix3 b p q) = g b p.val q.val)
include hs

/-- The scores at the first correspondences. -/
theorem rowHits_apply (ci : Vec Ideal S2x6144 .i32) (b : Fin 2) (p : Fin 6144) (h : (ci (ix2 b p)).toNat < 6144) :
    rowHits s ci (ix3 b 0 p) = hit (g b p.val) (ci (ix2 b p)).toNat 6144 := by
  unfold rowHits
  rw [mid_apply, gather_pair s _ b p p.val (ci (ix2 b p)).toNat p.isLt h ((cat_left _ _ b p).trans ?_) ((cat_right _ _ b p).trans ?_), hs]
  · unfold hit; rw [if_pos h]
  · pointwise
    exact wrap_iota p
  · pointwise
    exact wrap_clamp _ h

/-- The scores at the second correspondences. -/
theorem colHits_apply (ci : Vec Ideal S2x6144 .i32) (b : Fin 2) (q : Fin 6144) (h : (ci (ix2 b q)).toNat < 6144) :
    colHits s ci (ix3 b 0 q) = hit (fun k => g b k q.val) (ci (ix2 b q)).toNat 6144 := by
  unfold colHits
  rw [mid_apply, gather_pair s _ b q (ci (ix2 b q)).toNat q.val h q.isLt ((cat_left _ _ b q).trans ?_) ((cat_right _ _ b q).trans ?_), hs]
  · unfold hit; rw [if_pos h]
  · pointwise
    exact wrap_clamp _ h
  · pointwise
    exact wrap_iota q

end Reads

end Cert.ReferenceIdeal.Stats

end
-- ==== Proof.RefMass.lean ====
module

public import proofs.«01_k».proof.Proof.RefRun
public import proofs.«01_k».proof.Proof.RefArgmax
public import proofs.«01_k».proof.Proof.RefGather
public import proofs.«01_k».proof.Proof.RefValue
public import Idealize.ShloMosaic.Lib.Pipeline.ValueKit

/-! The reference's results read at an index, at the extended reals: each is the same statistic of the scores that the kernel's
result is. -/

@[expose] public section

set_option maxRecDepth 16384

noncomputable section

namespace Cert.ReferenceIdeal.Stats

open Cert.ReferenceIdeal Cert.ReferenceIdeal.Gen Cert.Online
open Idealize.ShloMosaic Idealize.ShloMosaic.StableHlo
open Cert.KernelIdeal.Step (score score_apply negInf)

section Reads

variable (s : Vec Ideal S2x6144x6144 .f32) (g : Fin 2 → ℕ → ℕ → EReal) (hs : ∀ (b : Fin 2) (p q : Fin 6144), s (ix3 b p q) = g b p.val q.val)
include hs

/-- The row sums. -/
theorem rowMasses_apply (b : Fin 2) (p : Fin 6144) : rowMasses s (ix3 b 0 p) = mass (g b p.val) 6144 := by
  pointwise [rowMasses]
  rw [negInf, fold_max_eq (g := g b p.val) fun x => hs b p x]
  have e := sum_exp_eq (f := fun x : Fin 6144 => s (ix3 b p x)) (g := g b p.val) (fun x => hs b p x) (top (g b p.val) 6144)
  exact e

/-- The column sums. -/
theorem colMasses_apply (b : Fin 2) (q : Fin 6144) : colMasses s (ix3 b 0 q) = mass (fun k => g b k q.val) 6144 := by
  pointwise [colMasses]
  rw [negInf, fold_max_eq (g := fun k => g b k q.val) fun x => hs b x q]
  have e := sum_exp_eq (f := fun x : Fin 6144 => s (ix3 b x q)) (g := fun k => g b k q.val) (fun x => hs b x q) (top (fun k => g b k q.val) 6144)
  exact e

end Reads

end Cert.ReferenceIdeal.Stats

end
-- ==== Proof.RefPlace.lean ====
module

public import proofs.«01_k».proof.Proof.RefRun
public import proofs.«01_k».proof.Proof.RefArgmax
public import proofs.«01_k».proof.Proof.RefGather
public import proofs.«01_k».proof.Proof.RefValue
public import Idealize.ShloMosaic.Lib.Pipeline.ValueKit

/-! The reference's results read at an index, at the extended reals: each is the same statistic of the scores that the kernel's
result is. -/

@[expose] public section

set_option maxRecDepth 16384

noncomputable section

namespace Cert.ReferenceIdeal.Stats

open Cert.ReferenceIdeal Cert.ReferenceIdeal.Gen Cert.Online
open Idealize.ShloMosaic Idealize.ShloMosaic.StableHlo
open Cert.KernelIdeal.Step (score score_apply negInf)

/-- The axes the arg-max runs over. -/
theorem red2 : S2x6144x6144.Reduces [2] S2x6144 := by decide
theorem red1 : S2x6144x6144.Reduces [1] S2x6144 := by decide

/-- A row's entry. -/
theorem lift2 (b : Fin 2) (p : Fin 6144) (x : Fin (S2x6144x6144.size 2)) : red2.lift (ix2 b p) x = ix3 b p x := by
  funext a; apply Fin.ext
  match a with
  | ⟨0, _⟩ => rfl
  | ⟨1, _⟩ => rfl
  | ⟨2, _⟩ => rfl

/-- A column's entry. -/
theorem lift1 (b : Fin 2) (q : Fin 6144) (x : Fin (S2x6144x6144.size 1)) : red1.lift (ix2 b q) x = ix3 b x q := by
  funext a; apply Fin.ext
  match a with
  | ⟨0, _⟩ => rfl
  | ⟨1, _⟩ => rfl
  | ⟨2, _⟩ => rfl

/-- The places along axis 2, as the host's arg-max. -/
theorem argmax2_eq {F : FTy → Type} [FloatOps F] :
    fn_argmax2 (F := F) = fun x y u v j => (Host.argReduce reducer_argmax_f32_i32 x y u v reducesTo_S2x6144x6144_S2x6144_d2 h_S_ j).2 := rfl

/-- The places along axis 1, as the host's arg-max. -/
theorem argmax1_eq {F : FTy → Type} [FloatOps F] :
    fn_argmax1 (F := F) = fun x y u v j => (Host.argReduce reducer_argmax_f32_i32 x y u v reducesTo_S2x6144x6144_S2x6144_d1 h_S_ j).2 := rfl

/-- The places along a row. -/
theorem iota2 (b : Fin 2) (p x : Fin 6144) : iotaInDim S2x6144x6144 32 2 (ix3 b p x) = BitVec.ofNat 32 x.val := by pointwise

/-- The places along a column. -/
theorem iota1 (b : Fin 2) (x q : Fin 6144) : iotaInDim S2x6144x6144 32 1 (ix3 b x q) = BitVec.ofNat 32 x.val := by pointwise

section Reads

variable (s : Vec Ideal S2x6144x6144 .f32) (g : Fin 2 → ℕ → ℕ → EReal) (hs : ∀ (b : Fin 2) (p q : Fin 6144), s (ix3 b p q) = g b p.val q.val)
include hs

/-- The places of the row maxima. -/
theorem rowPlaces_apply (b : Fin 2) (p : Fin 6144) : rowPlaces s (ix3 b 0 p) = BitVec.ofNat 32 (place (g b p.val) 6144) := by
  have i0 : ∀ x : Fin (S2x6144x6144.size 2), iotaInDim S2x6144x6144 32 2 (red2.lift (ix2 b p) x) = BitVec.ofNat 32 x.val := fun x => by
    rw [lift2]; exact iota2 b p x
  have x0 : ∀ x : Fin (S2x6144x6144.size 2), s (red2.lift (ix2 b p) x) = (g b p.val) x.val := fun x => by
    rw [lift2]; exact hs b p x
  have key := argmax_of (fn_argmax2 (F := Ideal)) reducesTo_S2x6144x6144_S2x6144_d2 h_S_ argmax2_eq s (iotaInDim S2x6144x6144 32 2)
    (constant (F := Ideal) S_ .f32 0xFF800000#32) (fun _ => negInf) red2 (ix2 b p) (g b p.val) 6144 rfl (by norm_num) (by norm_num) x0 i0
  unfold rowPlaces
  rw [mid_apply]
  exact key

/-- The places of the column maxima. -/
theorem colPlaces_apply (b : Fin 2) (q : Fin 6144) : colPlaces s (ix3 b 0 q) = BitVec.ofNat 32 (place (fun k => g b k q.val) 6144) := by
  have i0 : ∀ x : Fin (S2x6144x6144.size 1), iotaInDim S2x6144x6144 32 1 (red1.lift (ix2 b q) x) = BitVec.ofNat 32 x.val := fun x => by
    rw [lift1]; exact iota1 b x q
  have x0 : ∀ x : Fin (S2x6144x6144.size 1), s (red1.lift (ix2 b q) x) = (fun k => g b k q.val) x.val := fun x => by
    rw [lift1]; exact hs b x q
  have key := argmax_of (fn_argmax1 (F := Ideal)) reducesTo_S2x6144x6144_S2x6144_d1 h_S_ argmax1_eq s (iotaInDim S2x6144x6144 32 1)
    (constant (F := Ideal) S_ .f32 0xFF800000#32) (fun _ => negInf) red1 (ix2 b q) (fun k => g b k q.val) 6144 rfl (by norm_num) (by norm_num) x0 i0
  unfold colPlaces
  rw [mid_apply]
  exact key

end Reads

end Cert.ReferenceIdeal.Stats

end
-- ==== Proof.Value.lean ====
module

public import proofs.«01_k».proof.Proof.Results
public import proofs.«01_k».proof.Proof.RefHit
public import proofs.«01_k».proof.Proof.RefMass
public import proofs.«01_k».proof.Proof.RefPlace
public import proofs.«01_k».proof.Proof.Gen.Pre_in_range
public import Idealize.ShloMosaic.Lib.ReduceAll
public import Idealize.ShloMosaic.Lib.WordCmp

/-! The kernel's results and the reference's, at the extended reals, are the same functions of the arguments when the correspondences
are in range. -/

@[expose] public section

set_option maxRecDepth 16384

noncomputable section

namespace Cert.KernelIdeal.Step

open Cert.KernelIdeal Cert.KernelIdeal.Gen Cert.Online
open Idealize.ShloMosaic Idealize.ShloMosaic.TcCoe Idealize.ShloMosaic.StableHlo
open Idealize.SL.Sem
open Cert.ReferenceIdeal.Stats (scores rowTops rowMasses rowPlaces rowHits colTops colMasses colPlaces colHits)

variable (m : (ℓ : Loc nD τ sig) → Buf (Elt Ideal) ℓ) (c : Dev nD)

/-- The region finds the descriptors flattened. -/
theorem V_main_v0 : V m c main_v0 = shapeCast S2x32x6144 (m ((c.tc : Thread nD τ).loc main_arg0)) shapeCasts_S2x32x64x96_S2x32x6144 := by
  dsimp only [V, hostOps0]; after_results; rfl

/-- The other descriptors, likewise. -/
theorem V_main_v1 : V m c main_v1 = shapeCast S2x32x6144 (m ((c.tc : Thread nD τ).loc main_arg1)) shapeCasts_S2x32x64x96_S2x32x6144 := by
  dsimp only [V, hostOps0]; after_results; rfl

/-- The rows' correspondences, given a middle axis. -/
theorem V_main_v2 : V m c main_v2 = shapeCast S2x1x6144 (m ((c.tc : Thread nD τ).loc main_arg2)) shapeCasts_S2x6144_S2x1x6144 := by
  dsimp only [V, hostOps0]; after_results; rfl

/-- The columns' correspondences, likewise. -/
theorem V_main_v3 : V m c main_v3 = shapeCast S2x1x6144 (m ((c.tc : Thread nD τ).loc main_arg3)) shapeCasts_S2x6144_S2x1x6144 := by
  dsimp only [V, hostOps0]; after_results; rfl

/-- A correspondence's entry, given a middle axis. -/
theorem mid_cast (x : Vec Ideal S2x6144 .i32) (b : Fin 2) (p : Fin 6144) :
    shapeCast S2x1x6144 x shapeCasts_S2x6144_S2x1x6144 (ix3 b 0 p) = x (ix2 b p) := by
  pointwise

/-- The scores the reference computes are the kernel's. -/
theorem scores_eq (b : Fin 2) (p q : Fin 6144) :
    scores (F := Ideal) (m ((c.tc : Thread nD τ).loc main_arg0)) (m ((c.tc : Thread nD τ).loc main_arg1)) (ix3 b p q) = sc m c b p.val q.val := by
  rw [sc, V_main_v0, V_main_v1]
  exact Cert.ReferenceIdeal.Stats.scores_apply _ _ b p q

/-- What the precondition says of an entry of the correspondences. -/
theorem in_range (a0 a1 : Vec Ideal S2x32x64x96 .f32) (a2 a3 : Vec Ideal S2x6144 .i32)
    (h : Cert.Pre_in_range.fn (F := Ideal) a0 a1 a2 a3 = fun _ => 1#1) (b : Fin 2) (p : Fin 6144) :
    (a2 (ix2 b p)).toNat < 6144 ∧ (a3 (ix2 b p)).toNat < 6144 := by
  haveI : Subsingleton Cert.Pre_in_range.S_.Idx := ⟨fun x y => funext fun k => k.elim0⟩
  have e := Host.reduce_andi_all _ _ _ _ (fun k => k.elim0) (congrFun h fun k => k.elim0) (ix2 b p)
  obtain ⟨e2, e3⟩ := IntOp.andi_eq_one.mp e
  obtain ⟨e0, e1⟩ := IntOp.andi_eq_one.mp e2
  obtain ⟨ea, eb⟩ := IntOp.andi_eq_one.mp e0
  constructor
  · have k := IntOp.andi_eq_one.mpr ⟨ea, eb⟩
    have k' : IntOp.andi (IntOp.cmpi .sge (a2 (ix2 b p)) 0#32) (IntOp.cmpi .slt (a2 (ix2 b p)) (BitVec.ofNat 32 6144)) = 1#1 := k
    rw [WordCmp.andi_sge_zero_slt_ofNat (by norm_num)] at k'
    by_contra hc
    rw [decide_eq_false hc] at k'
    exact absurd k' (by decide)
  · have k := IntOp.andi_eq_one.mpr ⟨e1, e3⟩
    have k' : IntOp.andi (IntOp.cmpi .sge (a3 (ix2 b p)) 0#32) (IntOp.cmpi .slt (a3 (ix2 b p)) (BitVec.ofNat 32 6144)) = 1#1 := k
    rw [WordCmp.andi_sge_zero_slt_ofNat (by norm_num)] at k'
    by_contra hc
    rw [decide_eq_false hc] at k'
    exact absurd k' (by decide)

/-- The row maxima agree. -/
theorem rowTops_eq : rowTops (scores (F := Ideal) (m ((c.tc : Thread nD τ).loc main_arg0)) (m ((c.tc : Thread nD τ).loc main_arg1))) = outTop m c := by
  funext y
  obtain ⟨b, p, j, rfl⟩ : ∃ (b : Fin 2) (p : Fin 1) (j : Fin 6144), y = ix3 b p j := ⟨y 0, y 1, y 2, funext fun a => by fin_cases a <;> rfl⟩
  obtain rfl : p = 0 := Subsingleton.elim _ _
  exact Cert.ReferenceIdeal.Stats.rowTops_apply _ (sc m c) (scores_eq m c) b j

/-- The row sums agree. -/
theorem rowMasses_eq : rowMasses (scores (F := Ideal) (m ((c.tc : Thread nD τ).loc main_arg0)) (m ((c.tc : Thread nD τ).loc main_arg1))) = outMass m c := by
  funext y
  obtain ⟨b, p, j, rfl⟩ : ∃ (b : Fin 2) (p : Fin 1) (j : Fin 6144), y = ix3 b p j := ⟨y 0, y 1, y 2, funext fun a => by fin_cases a <;> rfl⟩
  obtain rfl : p = 0 := Subsingleton.elim _ _
  exact Cert.ReferenceIdeal.Stats.rowMasses_apply _ (sc m c) (scores_eq m c) b j

/-- The places of the row maxima agree. -/
theorem rowPlaces_eq : rowPlaces (scores (F := Ideal) (m ((c.tc : Thread nD τ).loc main_arg0)) (m ((c.tc : Thread nD τ).loc main_arg1))) = outPlace m c := by
  funext y
  obtain ⟨b, p, j, rfl⟩ : ∃ (b : Fin 2) (p : Fin 1) (j : Fin 6144), y = ix3 b p j := ⟨y 0, y 1, y 2, funext fun a => by fin_cases a <;> rfl⟩
  obtain rfl : p = 0 := Subsingleton.elim _ _
  exact Cert.ReferenceIdeal.Stats.rowPlaces_apply _ (sc m c) (scores_eq m c) b j

/-- The column maxima agree. -/
theorem colTops_eq : colTops (scores (F := Ideal) (m ((c.tc : Thread nD τ).loc main_arg0)) (m ((c.tc : Thread nD τ).loc main_arg1))) = outColTop m c := by
  funext y
  obtain ⟨b, p, j, rfl⟩ : ∃ (b : Fin 2) (p : Fin 1) (j : Fin 6144), y = ix3 b p j := ⟨y 0, y 1, y 2, funext fun a => by fin_cases a <;> rfl⟩
  obtain rfl : p = 0 := Subsingleton.elim _ _
  exact Cert.ReferenceIdeal.Stats.colTops_apply _ (sc m c) (scores_eq m c) b j

/-- The column sums agree. -/
theorem colMasses_eq : colMasses (scores (F := Ideal) (m ((c.tc : Thread nD τ).loc main_arg0)) (m ((c.tc : Thread nD τ).loc main_arg1))) = outColMass m c := by
  funext y
  obtain ⟨b, p, j, rfl⟩ : ∃ (b : Fin 2) (p : Fin 1) (j : Fin 6144), y = ix3 b p j := ⟨y 0, y 1, y 2, funext fun a => by fin_cases a <;> rfl⟩
  obtain rfl : p = 0 := Subsingleton.elim _ _
  exact Cert.ReferenceIdeal.Stats.colMasses_apply _ (sc m c) (scores_eq m c) b j

/-- The places of the column maxima agree. -/
theorem colPlaces_eq : colPlaces (scores (F := Ideal) (m ((c.tc : Thread nD τ).loc main_arg0)) (m ((c.tc : Thread nD τ).loc main_arg1))) = outColPlace m c := by
  funext y
  obtain ⟨b, p, j, rfl⟩ : ∃ (b : Fin 2) (p : Fin 1) (j : Fin 6144), y = ix3 b p j := ⟨y 0, y 1, y 2, funext fun a => by fin_cases a <;> rfl⟩
  obtain rfl : p = 0 := Subsingleton.elim _ _
  exact Cert.ReferenceIdeal.Stats.colPlaces_apply _ (sc m c) (scores_eq m c) b j

/-- The scores at the rows' correspondences agree. -/
theorem rowHits_eq (h : ∀ (b : Fin 2) (p : Fin 6144), ((m ((c.tc : Thread nD τ).loc main_arg2) : Vec Ideal S2x6144 .i32) (ix2 b p)).toNat < 6144) :
    rowHits (scores (F := Ideal) (m ((c.tc : Thread nD τ).loc main_arg0)) (m ((c.tc : Thread nD τ).loc main_arg1))) (m ((c.tc : Thread nD τ).loc main_arg2)) = outHit m c := by
  funext y
  obtain ⟨b, p, j, rfl⟩ : ∃ (b : Fin 2) (p : Fin 1) (j : Fin 6144), y = ix3 b p j := ⟨y 0, y 1, y 2, funext fun a => by fin_cases a <;> rfl⟩
  obtain rfl : p = 0 := Subsingleton.elim _ _
  refine (Cert.ReferenceIdeal.Stats.rowHits_apply _ (sc m c) (scores_eq m c) _ b j (h b j)).trans ?_
  have e : V m c main_v2 (ix3 b 0 j) = (m ((c.tc : Thread nD τ).loc main_arg2) : Vec Ideal S2x6144 .i32) (ix2 b j) := by
    rw [V_main_v2]; exact mid_cast _ b j
  show _ = hit _ (BitVec.toNat (V m c main_v2 (ix3 b 0 j))) 6144
  rw [e]; rfl

/-- The scores at the columns' correspondences agree. -/
theorem colHits_eq (h : ∀ (b : Fin 2) (p : Fin 6144), ((m ((c.tc : Thread nD τ).loc main_arg3) : Vec Ideal S2x6144 .i32) (ix2 b p)).toNat < 6144) :
    colHits (scores (F := Ideal) (m ((c.tc : Thread nD τ).loc main_arg0)) (m ((c.tc : Thread nD τ).loc main_arg1))) (m ((c.tc : Thread nD τ).loc main_arg3)) = outColHit m c := by
  funext y
  obtain ⟨b, p, j, rfl⟩ : ∃ (b : Fin 2) (p : Fin 1) (j : Fin 6144), y = ix3 b p j := ⟨y 0, y 1, y 2, funext fun a => by fin_cases a <;> rfl⟩
  obtain rfl : p = 0 := Subsingleton.elim _ _
  refine (Cert.ReferenceIdeal.Stats.colHits_apply _ (sc m c) (scores_eq m c) _ b j (h b j)).trans ?_
  have e : V m c main_v3 (ix3 b 0 j) = (m ((c.tc : Thread nD τ).loc main_arg3) : Vec Ideal S2x6144 .i32) (ix2 b j) := by
    rw [V_main_v3]; exact mid_cast _ b j
  show _ = hit _ (BitVec.toNat (V m c main_v3 (ix3 b 0 j))) 6144
  rw [e]; rfl

end Cert.KernelIdeal.Step

end
-- ==== Proof.P2Arith.lean ====
module

public import Idealize.ShloMosaic.Lib.Pipeline.ValueKit
public import Idealize.ShloMosaic.Lib.Pipeline.Value
public import Idealize.ShloMosaic.Lib.IndicatorCount
public import Idealize.ShloMosaic.Lib.IdealHost
public import Idealize.ShloMosaic.Lib.WordCmp

/-! The second pass's scalars as functions of one pair's numbers, and the arithmetic of words and extended reals that both texts use. -/

@[expose] public section

set_option maxRecDepth 16384

noncomputable section

namespace Cert.Pass2

open Idealize.ShloMosaic

/-- The extended real that the word of one half denotes. -/
abbrev half : EReal := Ideal.ofBits FTy.f32 1056964608#32

/-- The extended real that the word of the number of places denotes. -/
abbrev places : EReal := Ideal.ofBits FTy.f32 1170210816#32

/-- Half the sum of the two pairs' numbers. -/
def mean2 (f : Fin 2 → EReal) : EReal := half * (f 0 + f 1)

/-- The word of one half. -/
theorem half_eq : half = (((1 : ℝ) / 2 : ℝ) : EReal) := by
  simp [half, Ideal.ofBits, Ideal.ieee, -EReal.coe_mul]; try norm_num

/-- The word of two. -/
theorem two_eq : Ideal.ofBits FTy.f32 1073741824#32 = ((2 : ℝ) : EReal) := by
  simp [Ideal.ofBits, Ideal.ieee, -EReal.coe_mul]; try norm_num

/-- The word of 6144. -/
theorem places_eq : places = ((6144 : ℝ) : EReal) := by
  simp [places, Ideal.ofBits, Ideal.ieee, -EReal.coe_mul]; try norm_num

/-- A sum of two divided by two is half the sum. -/
theorem mean2_eq (f : Fin 2 → EReal) : Ideal.div (∑ x, f x) (Ideal.ofBits FTy.f32 1073741824#32) = mean2 f := by
  rw [two_eq, Fin.sum_univ_two, mean2, half_eq, Ideal.div, if_neg (by exact_mod_cast (two_ne_zero : (2 : ℝ) ≠ 0)), mul_comm, ← EReal.coe_inv]
  norm_num

/-- How many of the places a mask holds at, as a word. -/
def count (f : Fin 6144 → BitVec 1) : BitVec 32 := Finset.fold IntOp.addi (0#32) (fun x => BitVec.setWidth 32 (f x)) Finset.univ

/-- A mask holding everywhere holds at 6144 places. -/
theorem count_all (f : Fin 6144 → BitVec 1) (h : ∀ x, f x = 1#1) : count f = 6144#32 := by
  rw [count, Idealize.ShloMosaic.IndicatorCount.fold_addi_setWidth_eq_card, Finset.filter_true_of_mem (fun x _ => h x), Finset.card_univ, Fintype.card_fin]

/-- A bit widened and converted as a signed word is the bit converted as an unsigned one. -/
theorem sitofp_bit (b : BitVec 1) : FloatOps.sitofp (F := Ideal) FTy.f32 (BitVec.setWidth 32 b) = FloatOps.uitofp (F := Ideal) FTy.f32 b := by
  show (((BitVec.setWidth 32 b).toInt : ℝ) : EReal) = ((b.toNat : ℝ) : EReal)
  rcases (show b = 0#1 ∨ b = 1#1 by revert b; decide) with rfl | rfl
  · rw [show (BitVec.setWidth 32 0#1).toInt = 0 by decide, show (0#1).toNat = 0 by decide]; norm_num
  · rw [show (BitVec.setWidth 32 1#1).toInt = 1 by decide, show (1#1).toNat = 1 by decide]; norm_num

/-- The number of places converted. -/
theorem sitofp_places : FloatOps.sitofp (F := Ideal) FTy.f32 (IntOp.maxsi 6144#32 1#32) = places := by
  rw [places_eq]
  show (((IntOp.maxsi 6144#32 1#32).toInt : ℝ) : EReal) = _
  rw [show (IntOp.maxsi 6144#32 1#32).toInt = 6144 by decide]; norm_num

/-- A widened bit is above zero as a signed word exactly where the bit is set. -/
theorem sgt_bit (b : BitVec 1) : IntOp.cmpi .sgt (BitVec.setWidth 32 b) 0#32 = b := by revert b; decide

/-- A place in range is not below zero. -/
theorem sge_place (x : BitVec 32) (h : x.toNat < 6144) : IntOp.cmpi .sge x 0#32 = 1#1 := by
  have e : (0 : ℤ) ≤ x.toInt := by rw [BitVec.toInt_eq_toNat_cond]; omega
  have e2 : (0#32).sle x = true := by simp only [BitVec.sle, decide_eq_true_eq]; exact e
  show BitVec.ofBool ((0#32).sle x) = 1#1
  rw [e2]; rfl

/-- A bit conjoined with a set bit. -/
theorem andi_one (b : BitVec 1) : IntOp.andi 1#1 b = b := by revert b; decide

/-- Whether a word is among those a function takes. -/
def among (A : Fin 6144 → BitVec 32) (w : BitVec 32) : BitVec 1 := BitVec.ofBool (decide (∃ q, A q = w))

/-- The largest of the 0/1 numbers that mark where a function takes a word is above zero exactly where it takes it somewhere. -/
theorem fold_among (A : Fin 6144 → BitVec 32) (w : BitVec 32) :
    BitVec.ofBool (decide ((0 : EReal) < Finset.fold max (Ideal.ofBits FTy.f32 4286578688#32)
      (fun x => Scalar.select (IntOp.cmpi .eq (A x) w) (1 : EReal) 0) Finset.univ)) = among A w := by
  unfold among
  congr 1
  rw [decide_eq_decide, Finset.lt_fold_max]
  have hb : Ideal.ofBits FTy.f32 4286578688#32 = (⊥ : EReal) := by simp [Ideal.ofBits, Ideal.ieee]
  rw [hb]
  constructor
  · rintro (h | ⟨x, _, h⟩)
    · exact absurd h not_lt_bot
    · refine ⟨x, ?_⟩
      by_contra hne
      have e : IntOp.cmpi .eq (A x) w = 0#1 := by
        show BitVec.ofBool (A x == w) = 0#1
        rw [beq_eq_false_iff_ne.mpr hne]; rfl
      rw [e] at h
      exact absurd h (lt_irrefl _)
  · rintro ⟨q, h⟩
    refine .inr ⟨q, Finset.mem_univ _, ?_⟩
    have e : IntOp.cmpi .eq (A q) w = 1#1 := by
      show BitVec.ofBool (A q == w) = 1#1
      rw [beq_iff_eq.mpr h]; rfl
    rw [e]
    exact zero_lt_one

/-- Two places packed into one word: the column's best row and the column against the row and the row's best column. Some column's packed
word is a row's exactly where the row's best column has the row as its best row. -/
theorem among_packed (best : Fin 6144 → BitVec 32) (hb : ∀ q, (best q).toNat < 6144) (j : Fin 6144) (c : BitVec 32) (hc : c.toNat < 6144) :
    among (fun q => IntOp.addi (IntOp.muli (best q) 8192#32) (BitVec.ofNat 32 q.val)) (IntOp.addi (IntOp.muli (BitVec.ofNat 32 j.val) 8192#32) c)
      = IntOp.cmpi .eq (best ⟨c.toNat, hc⟩) (BitVec.ofNat 32 j.val) := by
  have tn : ∀ (x y : BitVec 32), x.toNat < 6144 → y.toNat < 6144 → (IntOp.addi (IntOp.muli x 8192#32) y).toNat = x.toNat * 8192 + y.toNat := by
    intro x y hx hy
    show (x * 8192#32 + y).toNat = _
    rw [BitVec.toNat_add, BitVec.toNat_mul, show (8192#32).toNat = 8192 from rfl]
    omega
  have on : ∀ r : Fin 6144, (BitVec.ofNat 32 r.val).toNat = r.val := fun r => by rw [BitVec.toNat_ofNat]; omega
  show BitVec.ofBool _ = BitVec.ofBool (best ⟨c.toNat, hc⟩ == BitVec.ofNat 32 j.val)
  congr 1
  rw [Bool.eq_iff_iff, decide_eq_true_eq, beq_iff_eq]
  constructor
  · rintro ⟨q, h⟩
    have e := congrArg BitVec.toNat h
    rw [tn _ _ (hb q) (by rw [on]; exact q.isLt), tn _ _ (by rw [on]; exact j.isLt) hc, on, on] at e
    have hq := q.isLt
    have e1 : q.val = c.toNat := by omega
    have e2 : (best q).toNat = j.val := by omega
    have e3 : q = ⟨c.toNat, hc⟩ := Fin.ext e1
    rw [← e3]
    apply BitVec.eq_of_toNat_eq
    rw [e2, on]
  · intro h
    refine ⟨⟨c.toNat, hc⟩, ?_⟩
    show IntOp.addi (IntOp.muli (best ⟨c.toNat, hc⟩) 8192#32) (BitVec.ofNat 32 c.toNat) = _
    rw [h, BitVec.ofNat_toNat, BitVec.setWidth_eq]

/-- A pair's descriptor loss in one direction: minus the log-probabilities at the correspondences, summed. -/
def loss (top mass hit : Fin 6144 → EReal) : EReal := ∑ x, -(hit x - top x - Ideal.log (mass x))

/-- A pair's keypoint loss in one direction: the binary cross-entropy of the logits against a mask, summed. -/
def cross (logit : Fin 6144 → EReal) (f : Fin 6144 → BitVec 1) : EReal :=
  ∑ x, (max (logit x) 0 - logit x * FloatOps.uitofp (F := Ideal) FTy.f32 (f x) + Ideal.log1p (Ideal.exp (-FloatOps.absf (F := Ideal) (φ := .f32) (logit x))))

/-- Half the sum of two sums, each divided by the number of places. -/
def halves (a b : EReal) : EReal := half * (Ideal.div a places + Ideal.div b places)

/-- Of the places where the second mask holds, the part where the first does too. -/
def ratio (f g : Fin 6144 → BitVec 1) : EReal :=
  Ideal.div (FloatOps.sitofp (F := Ideal) FTy.f32 (count fun x => IntOp.andi (f x) (g x))) (FloatOps.sitofp (F := Ideal) FTy.f32 (IntOp.maxsi (count g) 1#32))

/-- The part of all places where a mask holds. -/
def part (f : Fin 6144 → BitVec 1) : EReal := Ideal.div (FloatOps.sitofp (F := Ideal) FTy.f32 (count f)) places

end Cert.Pass2

end
-- ==== Proof.P2Tile.lean ====
module

public import proofs.«01_k».proof.Proof.P2Arith
public import proofs.«01_k».proof.Proof.Gen.Kernel2Ideal.Frame

/-! The second pass's mutual matches at the extended reals: twelve tiles of 512 rows, each row asking whether some column's packed word is
its own. -/

@[expose] public section

set_option maxRecDepth 16384

noncomputable section

namespace Cert.Kernel2Ideal.Pass2

open Cert.Kernel2Ideal Cert.Kernel2Ideal.Gen Cert.Pass2
open Idealize.ShloMosaic

/-- A row of words repeated down the tile. -/
theorem down (A : IVec S6144 32) (p : Fin 512) (q : Fin 6144) :
    broadcastTo S512x6144 (shapeCast S1x6144 A shapeCasts_S6144_S1x6144) broadcasts_S1x6144_S512x6144 (ix2 p q) = A (ix1 q) := by
  pointwise

/-- A column of words repeated along the tile. -/
theorem along (B : IVec S512 32) (p : Fin 512) (q : Fin 6144) :
    broadcastTo S512x6144 (shapeCast S512x1 B shapeCasts_S512_S512x1) broadcasts_S512x1_S512x6144 (ix2 p q) = B (ix1 p) := by
  pointwise

/-- The largest entry of each row of a tile. -/
theorem rowMax (x : FVec Ideal S512x6144 .f32) (p : Fin 512) :
    multiReduction (F := Ideal) .maximumf [1] S512 x 0xFF800000#32 reduces_S512x6144_S512 (.inl rfl) rfl (ix1 p)
      = Finset.fold max (Ideal.ofBits FTy.f32 4286578688#32) (fun q => x (ix2 p q)) Finset.univ := by
  pointwise

/-- A tile's answers: for each of its rows, whether some column's word is the row's. -/
def tile (A : IVec S6144 32) (B : IVec S512 32) : IVec S512 32 :=
  extui 32 (cmpf (F := Ideal) .ogt (multiReduction (F := Ideal) .maximumf [1] S512
    (select (cmpi .eq (broadcastTo S512x6144 (shapeCast S1x6144 A shapeCasts_S6144_S1x6144) broadcasts_S1x6144_S512x6144)
        (broadcastTo S512x6144 (shapeCast S512x1 B shapeCasts_S512_S512x1) broadcasts_S512x1_S512x6144))
      (broadcast S512x6144 (Scalar.ofBits (F := Ideal) .f32 0x3F800000#32)) (broadcast S512x6144 (Scalar.ofBits (F := Ideal) .f32 0x00000000#32)))
    0xFF800000#32 reduces_S512x6144_S512 (.inl rfl) rfl) (broadcast S512 (Scalar.ofBits (F := Ideal) .f32 0x00000000#32))) natLt_1_32

/-- Where a row's largest entry is above zero, as a widened bit. -/
theorem above_apply (m : FVec Ideal S512 .f32) (p : Fin 512) (M : EReal) (h : m (ix1 p) = M) :
    extui 32 (cmpf (F := Ideal) .ogt m (broadcast S512 (Scalar.ofBits (F := Ideal) .f32 0x00000000#32))) natLt_1_32 (ix1 p)
      = BitVec.setWidth 32 (BitVec.ofBool (decide ((0 : EReal) < M))) := by
  subst h
  rw [← Ideal.ofBits_zero_f32]
  rfl

/-- The tile's marks: one where a column's word is a row's, zero elsewhere. -/
theorem marks_apply (A : IVec S6144 32) (B : IVec S512 32) (p : Fin 512) (q : Fin 6144) :
    select (cmpi .eq (broadcastTo S512x6144 (shapeCast S1x6144 A shapeCasts_S6144_S1x6144) broadcasts_S1x6144_S512x6144)
        (broadcastTo S512x6144 (shapeCast S512x1 B shapeCasts_S512_S512x1) broadcasts_S512x1_S512x6144))
      (broadcast S512x6144 (Scalar.ofBits (F := Ideal) .f32 0x3F800000#32)) (broadcast S512x6144 (Scalar.ofBits (F := Ideal) .f32 0x00000000#32)) (ix2 p q)
      = Scalar.select (IntOp.cmpi .eq (A (ix1 q)) (B (ix1 p))) (1 : EReal) 0 := by
  have e1 := down A p q
  have e2 := along B p q
  rw [← Ideal.ofBits_one_f32, ← Ideal.ofBits_zero_f32, ← e1, ← e2]
  rfl

/-- The largest mark of a row. -/
theorem rowMax_of (x : FVec Ideal S512x6144 .f32) (p : Fin 512) (g : Fin 6144 → EReal) (h : ∀ q, x (ix2 p q) = g q) :
    multiReduction (F := Ideal) .maximumf [1] S512 x 0xFF800000#32 reduces_S512x6144_S512 (.inl rfl) rfl (ix1 p)
      = Finset.fold max (Ideal.ofBits FTy.f32 4286578688#32) g Finset.univ :=
  (rowMax x p).trans (congrArg (fun f => Finset.fold max (Ideal.ofBits FTy.f32 4286578688#32) f Finset.univ) (funext h))

/-- What a tile answers of a row. -/
theorem tile_apply (A : IVec S6144 32) (B : IVec S512 32) (p : Fin 512) :
    tile A B (ix1 p) = BitVec.setWidth 32 (among (fun q => A (ix1 q)) (B (ix1 p))) :=
  (above_apply _ p _ (rowMax_of _ p _ (marks_apply A B p))).trans (congrArg (BitVec.setWidth 32) (fold_among (fun q => A (ix1 q)) (B (ix1 p))))

/-- Twelve tiles laid end to end, read at a place. -/
theorem ends (A0 A1 A2 A3 A4 A5 A6 A7 A8 A9 A10 A11 : IVec S512 32) (w : Fin 6144 → BitVec 32)
    (h0 : ∀ p : Fin 512, A0 (ix1 p) = w ⟨0 + p.val, by omega⟩) (h1 : ∀ p : Fin 512, A1 (ix1 p) = w ⟨512 + p.val, by omega⟩) (h2 : ∀ p : Fin 512, A2 (ix1 p) = w ⟨1024 + p.val, by omega⟩) (h3 : ∀ p : Fin 512, A3 (ix1 p) = w ⟨1536 + p.val, by omega⟩) (h4 : ∀ p : Fin 512, A4 (ix1 p) = w ⟨2048 + p.val, by omega⟩) (h5 : ∀ p : Fin 512, A5 (ix1 p) = w ⟨2560 + p.val, by omega⟩) (h6 : ∀ p : Fin 512, A6 (ix1 p) = w ⟨3072 + p.val, by omega⟩) (h7 : ∀ p : Fin 512, A7 (ix1 p) = w ⟨3584 + p.val, by omega⟩) (h8 : ∀ p : Fin 512, A8 (ix1 p) = w ⟨4096 + p.val, by omega⟩) (h9 : ∀ p : Fin 512, A9 (ix1 p) = w ⟨4608 + p.val, by omega⟩) (h10 : ∀ p : Fin 512, A10 (ix1 p) = w ⟨5120 + p.val, by omega⟩) (h11 : ∀ p : Fin 512, A11 (ix1 p) = w ⟨5632 + p.val, by omega⟩) (j : Fin 6144) :
    concatenate S6144 0 [⟨S512, A0⟩, ⟨S512, A1⟩, ⟨S512, A2⟩, ⟨S512, A3⟩, ⟨S512, A4⟩, ⟨S512, A5⟩, ⟨S512, A6⟩, ⟨S512, A7⟩, ⟨S512, A8⟩, ⟨S512, A9⟩, ⟨S512, A10⟩, ⟨S512, A11⟩] concatenates_S512_S512_S512_S512_S512_S512_S512_S512_S512_S512_S512_S512_S6144_d0 (ix1 j) = w j := by
  have hd : j.val / 512 < 12 := by omega
  have hm : j.val % 512 < 512 := Nat.mod_lt _ (by norm_num)
  have e : concatenate S6144 0 [⟨S512, A0⟩, ⟨S512, A1⟩, ⟨S512, A2⟩, ⟨S512, A3⟩, ⟨S512, A4⟩, ⟨S512, A5⟩, ⟨S512, A6⟩, ⟨S512, A7⟩, ⟨S512, A8⟩, ⟨S512, A9⟩, ⟨S512, A10⟩, ⟨S512, A11⟩] concatenates_S512_S512_S512_S512_S512_S512_S512_S512_S512_S512_S512_S512_S6144_d0 (ix1 j) = (![A0, A1, A2, A3, A4, A5, A6, A7, A8, A9, A10, A11] : Fin 12 → IVec S512 32) ⟨j.val / 512, hd⟩ (ix1 ⟨j.val % 512, hm⟩) :=
    concatenate_ofFn_apply (t := S6144) (s₁ := S512) 0 (![A0, A1, A2, A3, A4, A5, A6, A7, A8, A9, A10, A11] : Fin 12 → IVec S512 32)
      concatenates_S512_S512_S512_S512_S512_S512_S512_S512_S512_S512_S512_S512_S6144_d0 rfl 512 rfl (ix1 j) ⟨j.val / 512, hd⟩ rfl
      (ix1 ⟨j.val % 512, hm⟩) rfl (fun b hb => absurd (Subsingleton.elim (α := Fin 1) _ _) hb)
  rw [e]
  have all : ∀ (n : Fin 12) (p : Fin 512), (![A0, A1, A2, A3, A4, A5, A6, A7, A8, A9, A10, A11] : Fin 12 → IVec S512 32) n (ix1 p) = w ⟨512 * n.val + p.val, by omega⟩ := by
    intro n p
    match n with
    | ⟨0, _⟩ => exact h0 p
    | ⟨1, _⟩ => exact h1 p
    | ⟨2, _⟩ => exact h2 p
    | ⟨3, _⟩ => exact h3 p
    | ⟨4, _⟩ => exact h4 p
    | ⟨5, _⟩ => exact h5 p
    | ⟨6, _⟩ => exact h6 p
    | ⟨7, _⟩ => exact h7 p
    | ⟨8, _⟩ => exact h8 p
    | ⟨9, _⟩ => exact h9 p
    | ⟨10, _⟩ => exact h10 p
    | ⟨11, _⟩ => exact h11 p
  rw [all]
  congr 1
  exact Fin.ext (Nat.div_add_mod _ _)

/-- The rows' part from place `o`, read at a place. -/
theorem slice_apply (B : IVec S6144 32) (o : ℕ) (h : S6144.Slices ![o] S512) (p : Fin 512) (hp : o + p.val < 6144) :
    extractStridedSlice S512 ![o] B h (ix1 p) = B (ix1 ⟨o + p.val, hp⟩) := by
  pointwise

end Cert.Kernel2Ideal.Pass2

end
-- ==== Proof.P2Kernel.lean ====
module

public import proofs.«01_k».proof.Proof.P2Tile
public import proofs.«01_k».proof.Proof.Gen.Kernel2Ideal.Value

/-! The second pass's four scalars at the extended reals, as functions of the arguments' rows. -/

@[expose] public section

set_option maxRecDepth 16384

noncomputable section

namespace Cert.Kernel2Ideal.Pass2

open Cert.Kernel2Ideal Cert.Kernel2Ideal.Gen Cert.Pass2
open Idealize.ShloMosaic

/-- A pair's row of a stack of rows. -/
def row {α : Type} (x : S2x1x6144.Idx → α) (b : Fin 2) (j : Fin 6144) : α := x (ix3 b 0 j)

/-- The first pair's row as the kernel loads it. -/
theorem load0 (x : Vec Ideal S2x1x6144 .f32) (j : Fin 6144) : shapeCast S6144 (View.ld x r0_0) shapeCasts_S1x1x6144_S6144 (ix1 j) = row x 0 j := by
  pointwise [View.ld, row]

/-- The second pair's row as the kernel loads it. -/
theorem load1 (x : Vec Ideal S2x1x6144 .f32) (j : Fin 6144) : shapeCast S6144 (View.ld x r0_2) shapeCasts_S1x1x6144_S6144 (ix1 j) = row x 1 j := by
  pointwise [View.ld, row]

/-- The first pair's row of words as the kernel loads it. -/
theorem loadI0 (x : Vec Ideal S2x1x6144 .i32) (j : Fin 6144) : shapeCast S6144 (View.ld x r0_0) shapeCasts_S1x1x6144_S6144 (ix1 j) = row x 0 j := by
  pointwise [View.ld, row]

/-- The second pair's row of words as the kernel loads it. -/
theorem loadI1 (x : Vec Ideal S2x1x6144 .i32) (j : Fin 6144) : shapeCast S6144 (View.ld x r0_2) shapeCasts_S1x1x6144_S6144 (ix1 j) = row x 1 j := by
  pointwise [View.ld, row]

/-- A pair's descriptor loss. -/
theorem desc_apply (v2 v4 v8 v10 v12 v16 : FVec Ideal S6144 .f32) :
    k0_pay14 (F := Ideal) v2 v4 v8 v10 v12 v16
      = halves (loss (fun j => v2 (ix1 j)) (fun j => v4 (ix1 j)) fun j => v8 (ix1 j)) (loss (fun j => v10 (ix1 j)) (fun j => v12 (ix1 j)) fun j => v16 (ix1 j)) := by
  pointwise [k0_pay14]
  simp only [zero_sub]
  rfl

/-- The second pair's descriptor loss is the same text. -/
theorem desc1_eq : k0_pay118 (F := Ideal) = k0_pay14 (F := Ideal) := rfl

/-- A pair's keypoint loss. -/
theorem kp_apply (v22 v24 : FVec Ideal S6144 .f32) (v47 v48 : IVec S6144 1) :
    k0_pay42 (F := Ideal) v24 (k0_pay40 v22 v47) (k0_pay41 v48)
      = halves (cross (fun j => v22 (ix1 j)) fun j => v47 (ix1 j)) (cross (fun j => v24 (ix1 j)) fun j => v48 (ix1 j)) := by
  pointwise [k0_pay42, k0_pay40, k0_pay41]
  simp only [zero_sub, sitofp_bit]
  rfl

/-- The second pair's keypoint loss is the same. -/
theorem kp1_apply (v22 v24 : FVec Ideal S6144 .f32) (v47 v48 : IVec S6144 1) :
    k0_pay143 (F := Ideal) v24 v48 (k0_pay142 v22 v47)
      = halves (cross (fun j => v22 (ix1 j)) fun j => v47 (ix1 j)) (cross (fun j => v24 (ix1 j)) fun j => v48 (ix1 j)) := by
  pointwise [k0_pay143, k0_pay142]
  simp only [zero_sub, sitofp_bit]
  rfl

/-- A pair's recall. -/
theorem recall_apply (v47 : IVec S6144 1) : k0_pay39 (F := Ideal) v47 = part fun j => v47 (ix1 j) := by
  pointwise [k0_pay39]
  rfl

/-- The second pair's recall is the same text. -/
theorem recall1_eq : k0_pay141 (F := Ideal) = k0_pay39 (F := Ideal) := rfl

/-- A pair's precision from the tiles' answers laid end to end. -/
def precision (v47 : IVec S6144 1) (v213 : IVec S6144 32) : Ideal .f32 :=
  Scalar.divf (Scalar.sitofp (F := Ideal) .f32 (extractAt ![0, 0] (shapeCast S1x1 (multiReductionI .add [1] S1 (shapeCast S1x6144
      (extui 32 (andi v47 (cmpi .sgt v213 (broadcast S6144 0#32))) natLt_1_32) shapeCasts_S6144_S1x6144) 0#32 reduces_S1x6144_S1 rfl) shapeCasts_S1_S1x1) inpos_S1x1_p0_0))
    (Scalar.sitofp .f32 (Scalar.maxsi (extractAt ![0, 0] (shapeCast S1x1 (multiReductionI .add [1] S1 (shapeCast S1x6144
      (extui 32 (cmpi .sgt v213 (broadcast S6144 0#32)) natLt_1_32) shapeCasts_S6144_S1x6144) 0#32 reduces_S1x6144_S1 rfl) shapeCasts_S1_S1x1) inpos_S1x1_p0_0) 1#32))

/-- It is the part of the mutual places that are right. -/
theorem precision_apply (v47 : IVec S6144 1) (v213 : IVec S6144 32) (g : Fin 6144 → BitVec 1) (h : ∀ j, v213 (ix1 j) = BitVec.setWidth 32 (g j)) :
    precision v47 v213 = ratio (fun j => v47 (ix1 j)) g := by
  pointwise [precision]
  simp only [h, sgt_bit]
  rfl

/-- The columns' packed words. -/
theorem packedCols (c : IVec S6144 32) (q : Fin 6144) : k0_pay18 c (ix1 q) = IntOp.addi (IntOp.muli (c (ix1 q)) 8192#32) (BitVec.ofNat 32 q.val) := by
  pointwise [k0_pay18, k0_pay17]

/-- The rows' packed words. -/
theorem packedRows (r : IVec S6144 32) (p : Fin 6144) : k0_pay19 r (ix1 p) = IntOp.addi (IntOp.muli (BitVec.ofNat 32 p.val) 8192#32) (r (ix1 p)) := by
  pointwise [k0_pay19, k0_pay17]

/-- Whether a row's match is returned, as the packed words say it. -/
def returned (r c : Fin 6144 → BitVec 32) (p : Fin 6144) : BitVec 1 :=
  among (fun q => IntOp.addi (IntOp.muli (c q) 8192#32) (BitVec.ofNat 32 q.val)) (IntOp.addi (IntOp.muli (BitVec.ofNat 32 p.val) 8192#32) (r p))

/-- A tile of rows from place `o`. -/
theorem tile_rows (r c : IVec S6144 32) (o : ℕ) (h : S6144.Slices ![o] S512) (p : Fin 512) (hp : o + p.val < 6144) :
    tile (k0_pay18 c) (extractStridedSlice S512 ![o] (k0_pay19 r) h) (ix1 p)
      = BitVec.setWidth 32 (returned (fun j => r (ix1 j)) (fun j => c (ix1 j)) ⟨o + p.val, hp⟩) := by
  rw [tile_apply, slice_apply _ o h p hp, packedRows]
  simp only [packedCols]
  rfl

/-- The first pair's tile 0. -/
theorem tile0_0 (r c : IVec S6144 32) : k0_pay20 (F := Ideal) r c = tile (k0_pay18 c) (extractStridedSlice S512 ![0] (k0_pay19 r) slices_S6144_o0_S512) := rfl

/-- The second pair's tile 0. -/
theorem tile1_0 (r c : IVec S6144 32) : k0_pay125 (F := Ideal) (k0_pay124 (F := Ideal) r c) (Scalar.ofBits .f32 0x00000000#32) = tile (k0_pay18 c) (extractStridedSlice S512 ![0] (k0_pay19 r) slices_S6144_o0_S512) := rfl

/-- The first pair's tile 1. -/
theorem tile0_1 (r c : IVec S6144 32) : k0_pay22 (F := Ideal) (k0_pay18 c) (k0_pay21 r) = tile (k0_pay18 c) (extractStridedSlice S512 ![512] (k0_pay19 r) slices_S6144_o512_S512) := rfl

/-- The second pair's tile 1. -/
theorem tile1_1 (r c : IVec S6144 32) : k0_pay126 (F := Ideal) (k0_pay122 c) (k0_pay123 r) = tile (k0_pay18 c) (extractStridedSlice S512 ![512] (k0_pay19 r) slices_S6144_o512_S512) := rfl

/-- The first pair's tile 2. -/
theorem tile0_2 (r c : IVec S6144 32) : k0_pay23 (F := Ideal) (k0_pay18 c) (k0_pay19 r) = tile (k0_pay18 c) (extractStridedSlice S512 ![1024] (k0_pay19 r) slices_S6144_o1024_S512) := rfl

/-- The second pair's tile 2. -/
theorem tile1_2 (r c : IVec S6144 32) : k0_pay127 (F := Ideal) (k0_pay122 c) (k0_pay123 r) = tile (k0_pay18 c) (extractStridedSlice S512 ![1024] (k0_pay19 r) slices_S6144_o1024_S512) := rfl

/-- The first pair's tile 3. -/
theorem tile0_3 (r c : IVec S6144 32) : k0_pay24 (F := Ideal) (k0_pay18 c) (k0_pay19 r) = tile (k0_pay18 c) (extractStridedSlice S512 ![1536] (k0_pay19 r) slices_S6144_o1536_S512) := rfl

/-- The second pair's tile 3. -/
theorem tile1_3 (r c : IVec S6144 32) : k0_pay128 (F := Ideal) (k0_pay122 c) (k0_pay123 r) = tile (k0_pay18 c) (extractStridedSlice S512 ![1536] (k0_pay19 r) slices_S6144_o1536_S512) := rfl

/-- The first pair's tile 4. -/
theorem tile0_4 (r c : IVec S6144 32) : k0_pay28 (F := Ideal) (k0_pay25 (k0_pay18 c) (k0_pay19 r)) (k0_pay26 (F := Ideal)) (k0_pay27 (F := Ideal)) = tile (k0_pay18 c) (extractStridedSlice S512 ![2048] (k0_pay19 r) slices_S6144_o2048_S512) := rfl

/-- The second pair's tile 4. -/
theorem tile1_4 (r c : IVec S6144 32) : k0_pay130 (F := Ideal) (k0_pay129 (k0_pay122 c) (k0_pay123 r)) = tile (k0_pay18 c) (extractStridedSlice S512 ![2048] (k0_pay19 r) slices_S6144_o2048_S512) := rfl

/-- The first pair's tile 5. -/
theorem tile0_5 (r c : IVec S6144 32) : k0_pay29 (F := Ideal) (k0_pay18 c) (k0_pay19 r) = tile (k0_pay18 c) (extractStridedSlice S512 ![2560] (k0_pay19 r) slices_S6144_o2560_S512) := rfl

/-- The second pair's tile 5. -/
theorem tile1_5 (r c : IVec S6144 32) : k0_pay131 (F := Ideal) (k0_pay122 c) (k0_pay123 r) = tile (k0_pay18 c) (extractStridedSlice S512 ![2560] (k0_pay19 r) slices_S6144_o2560_S512) := rfl

/-- The first pair's tile 6. -/
theorem tile0_6 (r c : IVec S6144 32) : k0_pay30 (F := Ideal) (k0_pay18 c) (k0_pay19 r) = tile (k0_pay18 c) (extractStridedSlice S512 ![3072] (k0_pay19 r) slices_S6144_o3072_S512) := rfl

/-- The second pair's tile 6. -/
theorem tile1_6 (r c : IVec S6144 32) : k0_pay132 (F := Ideal) (k0_pay122 c) (k0_pay123 r) = tile (k0_pay18 c) (extractStridedSlice S512 ![3072] (k0_pay19 r) slices_S6144_o3072_S512) := rfl

/-- The first pair's tile 7. -/
theorem tile0_7 (r c : IVec S6144 32) : k0_pay31 (F := Ideal) (k0_pay18 c) (k0_pay19 r) = tile (k0_pay18 c) (extractStridedSlice S512 ![3584] (k0_pay19 r) slices_S6144_o3584_S512) := rfl

/-- The second pair's tile 7. -/
theorem tile1_7 (r c : IVec S6144 32) : k0_pay135 (F := Ideal) (k0_pay133 (F := Ideal) (k0_pay122 c) (k0_pay123 r)) (k0_pay134 (F := Ideal)) = tile (k0_pay18 c) (extractStridedSlice S512 ![3584] (k0_pay19 r) slices_S6144_o3584_S512) := rfl

/-- The first pair's tile 8. -/
theorem tile0_8 (r c : IVec S6144 32) : k0_pay34 (F := Ideal) (k0_pay32 (k0_pay19 r)) (k0_pay33 (k0_pay18 c)) = tile (k0_pay18 c) (extractStridedSlice S512 ![4096] (k0_pay19 r) slices_S6144_o4096_S512) := rfl

/-- The second pair's tile 8. -/
theorem tile1_8 (r c : IVec S6144 32) : k0_pay136 (F := Ideal) (k0_pay122 c) (k0_pay123 r) = tile (k0_pay18 c) (extractStridedSlice S512 ![4096] (k0_pay19 r) slices_S6144_o4096_S512) := rfl

/-- The first pair's tile 9. -/
theorem tile0_9 (r c : IVec S6144 32) : k0_pay35 (F := Ideal) (k0_pay18 c) (k0_pay19 r) = tile (k0_pay18 c) (extractStridedSlice S512 ![4608] (k0_pay19 r) slices_S6144_o4608_S512) := rfl

/-- The second pair's tile 9. -/
theorem tile1_9 (r c : IVec S6144 32) : k0_pay137 (F := Ideal) (k0_pay122 c) (k0_pay123 r) = tile (k0_pay18 c) (extractStridedSlice S512 ![4608] (k0_pay19 r) slices_S6144_o4608_S512) := rfl

/-- The first pair's tile 10. -/
theorem tile0_10 (r c : IVec S6144 32) : k0_pay36 (F := Ideal) (k0_pay18 c) (k0_pay19 r) = tile (k0_pay18 c) (extractStridedSlice S512 ![5120] (k0_pay19 r) slices_S6144_o5120_S512) := rfl

/-- The second pair's tile 10. -/
theorem tile1_10 (r c : IVec S6144 32) : k0_pay138 (F := Ideal) (k0_pay122 c) (k0_pay123 r) = tile (k0_pay18 c) (extractStridedSlice S512 ![5120] (k0_pay19 r) slices_S6144_o5120_S512) := rfl

/-- The first pair's precision is read from its tiles. -/
theorem prec0_eq (v47 : IVec S6144 1) (t0 t1 t2 t3 t4 t5 t6 t7 t8 t9 t10 : IVec S512 32) (r c : IVec S6144 32) :
    k0_pay38 (F := Ideal) v47 t0 t1 t2 t3 t4 t5 t6 t7 t8 t9 t10 (k0_pay37 (F := Ideal) (k0_pay18 c) (k0_pay19 r))
      = precision v47 (concatenate S6144 0 [⟨S512, t0⟩, ⟨S512, t1⟩, ⟨S512, t2⟩, ⟨S512, t3⟩, ⟨S512, t4⟩, ⟨S512, t5⟩, ⟨S512, t6⟩, ⟨S512, t7⟩, ⟨S512, t8⟩, ⟨S512, t9⟩, ⟨S512, t10⟩, ⟨S512, tile (k0_pay18 c) (extractStridedSlice S512 ![5632] (k0_pay19 r) slices_S6144_o5632_S512)⟩] concatenates_S512_S512_S512_S512_S512_S512_S512_S512_S512_S512_S512_S512_S6144_d0) := rfl

/-- The second pair's precision is read from its tiles. -/
theorem prec1_eq (v47 : IVec S6144 1) (t0 t1 t2 t3 t4 t5 t6 t7 t8 t9 t10 : IVec S512 32) (r c : IVec S6144 32) :
    k0_pay140 (F := Ideal) v47 t0 t1 t2 t3 t4 t5 t6 t7 t8 t9 t10 (k0_pay139 (k0_pay122 c) (k0_pay123 r)) (Scalar.ofBits .f32 0x3F800000#32)
      = precision v47 (concatenate S6144 0 [⟨S512, t0⟩, ⟨S512, t1⟩, ⟨S512, t2⟩, ⟨S512, t3⟩, ⟨S512, t4⟩, ⟨S512, t5⟩, ⟨S512, t6⟩, ⟨S512, t7⟩, ⟨S512, t8⟩, ⟨S512, t9⟩, ⟨S512, t10⟩, ⟨S512, tile (k0_pay18 c) (extractStridedSlice S512 ![5632] (k0_pay19 r) slices_S6144_o5632_S512)⟩] concatenates_S512_S512_S512_S512_S512_S512_S512_S512_S512_S512_S512_S512_S6144_d0) := rfl

/-- A pair's precision from its twelve tiles. -/
theorem prec_tiles (v47 : IVec S6144 1) (r c : IVec S6144 32) :
    precision v47 (concatenate S6144 0 [⟨S512, tile (k0_pay18 c) (extractStridedSlice S512 ![0] (k0_pay19 r) slices_S6144_o0_S512)⟩, ⟨S512, tile (k0_pay18 c) (extractStridedSlice S512 ![512] (k0_pay19 r) slices_S6144_o512_S512)⟩, ⟨S512, tile (k0_pay18 c) (extractStridedSlice S512 ![1024] (k0_pay19 r) slices_S6144_o1024_S512)⟩, ⟨S512, tile (k0_pay18 c) (extractStridedSlice S512 ![1536] (k0_pay19 r) slices_S6144_o1536_S512)⟩, ⟨S512, tile (k0_pay18 c) (extractStridedSlice S512 ![2048] (k0_pay19 r) slices_S6144_o2048_S512)⟩, ⟨S512, tile (k0_pay18 c) (extractStridedSlice S512 ![2560] (k0_pay19 r) slices_S6144_o2560_S512)⟩, ⟨S512, tile (k0_pay18 c) (extractStridedSlice S512 ![3072] (k0_pay19 r) slices_S6144_o3072_S512)⟩, ⟨S512, tile (k0_pay18 c) (extractStridedSlice S512 ![3584] (k0_pay19 r) slices_S6144_o3584_S512)⟩, ⟨S512, tile (k0_pay18 c) (extractStridedSlice S512 ![4096] (k0_pay19 r) slices_S6144_o4096_S512)⟩, ⟨S512, tile (k0_pay18 c) (extractStridedSlice S512 ![4608] (k0_pay19 r) slices_S6144_o4608_S512)⟩, ⟨S512, tile (k0_pay18 c) (extractStridedSlice S512 ![5120] (k0_pay19 r) slices_S6144_o5120_S512)⟩, ⟨S512, tile (k0_pay18 c) (extractStridedSlice S512 ![5632] (k0_pay19 r) slices_S6144_o5632_S512)⟩] concatenates_S512_S512_S512_S512_S512_S512_S512_S512_S512_S512_S512_S512_S6144_d0) = ratio (fun j => v47 (ix1 j)) (returned (fun j => r (ix1 j)) fun j => c (ix1 j)) :=
  precision_apply v47 _ _ fun j => ends _ _ _ _ _ _ _ _ _ _ _ _ (fun j => BitVec.setWidth 32 (returned (fun j => r (ix1 j)) (fun j => c (ix1 j)) j))
    (fun p => tile_rows r c 0 slices_S6144_o0_S512 p (by omega)) (fun p => tile_rows r c 512 slices_S6144_o512_S512 p (by omega)) (fun p => tile_rows r c 1024 slices_S6144_o1024_S512 p (by omega)) (fun p => tile_rows r c 1536 slices_S6144_o1536_S512 p (by omega)) (fun p => tile_rows r c 2048 slices_S6144_o2048_S512 p (by omega)) (fun p => tile_rows r c 2560 slices_S6144_o2560_S512 p (by omega)) (fun p => tile_rows r c 3072 slices_S6144_o3072_S512 p (by omega)) (fun p => tile_rows r c 3584 slices_S6144_o3584_S512 p (by omega)) (fun p => tile_rows r c 4096 slices_S6144_o4096_S512 p (by omega)) (fun p => tile_rows r c 4608 slices_S6144_o4608_S512 p (by omega)) (fun p => tile_rows r c 5120 slices_S6144_o5120_S512 p (by omega)) (fun p => tile_rows r c 5632 slices_S6144_o5632_S512 p (by omega)) j

/-- The first pair's precision. -/
theorem prec0_apply (v47 : IVec S6144 1) (r c : IVec S6144 32) :
    k0_pay38 (F := Ideal) v47 (k0_pay20 (F := Ideal) r c) (k0_pay22 (F := Ideal) (k0_pay18 c) (k0_pay21 r)) (k0_pay23 (F := Ideal) (k0_pay18 c) (k0_pay19 r)) (k0_pay24 (F := Ideal) (k0_pay18 c) (k0_pay19 r)) (k0_pay28 (F := Ideal) (k0_pay25 (k0_pay18 c) (k0_pay19 r)) (k0_pay26 (F := Ideal)) (k0_pay27 (F := Ideal))) (k0_pay29 (F := Ideal) (k0_pay18 c) (k0_pay19 r)) (k0_pay30 (F := Ideal) (k0_pay18 c) (k0_pay19 r)) (k0_pay31 (F := Ideal) (k0_pay18 c) (k0_pay19 r)) (k0_pay34 (F := Ideal) (k0_pay32 (k0_pay19 r)) (k0_pay33 (k0_pay18 c))) (k0_pay35 (F := Ideal) (k0_pay18 c) (k0_pay19 r)) (k0_pay36 (F := Ideal) (k0_pay18 c) (k0_pay19 r)) (k0_pay37 (F := Ideal) (k0_pay18 c) (k0_pay19 r))
      = ratio (fun j => v47 (ix1 j)) (returned (fun j => r (ix1 j)) fun j => c (ix1 j)) := by
  rw [prec0_eq, tile0_0, tile0_1, tile0_2, tile0_3, tile0_4, tile0_5, tile0_6, tile0_7, tile0_8, tile0_9, tile0_10]
  exact prec_tiles v47 r c

/-- The second pair's precision. -/
theorem prec1_apply (v47 : IVec S6144 1) (r c : IVec S6144 32) :
    k0_pay140 (F := Ideal) v47 (k0_pay125 (F := Ideal) (k0_pay124 (F := Ideal) r c) (Scalar.ofBits .f32 0x00000000#32)) (k0_pay126 (F := Ideal) (k0_pay122 c) (k0_pay123 r)) (k0_pay127 (F := Ideal) (k0_pay122 c) (k0_pay123 r)) (k0_pay128 (F := Ideal) (k0_pay122 c) (k0_pay123 r)) (k0_pay130 (F := Ideal) (k0_pay129 (k0_pay122 c) (k0_pay123 r))) (k0_pay131 (F := Ideal) (k0_pay122 c) (k0_pay123 r)) (k0_pay132 (F := Ideal) (k0_pay122 c) (k0_pay123 r)) (k0_pay135 (F := Ideal) (k0_pay133 (F := Ideal) (k0_pay122 c) (k0_pay123 r)) (k0_pay134 (F := Ideal))) (k0_pay136 (F := Ideal) (k0_pay122 c) (k0_pay123 r)) (k0_pay137 (F := Ideal) (k0_pay122 c) (k0_pay123 r)) (k0_pay138 (F := Ideal) (k0_pay122 c) (k0_pay123 r)) (k0_pay139 (k0_pay122 c) (k0_pay123 r)) (Scalar.ofBits .f32 0x3F800000#32)
      = ratio (fun j => v47 (ix1 j)) (returned (fun j => r (ix1 j)) fun j => c (ix1 j)) := by
  rw [prec1_eq, tile1_0, tile1_1, tile1_2, tile1_3, tile1_4, tile1_5, tile1_6, tile1_7, tile1_8, tile1_9, tile1_10]
  exact prec_tiles v47 r c

/-- Where a row of places is the row of given correspondences. -/
def right (p c : Fin 6144 → BitVec 32) (j : Fin 6144) : BitVec 1 := IntOp.cmpi .eq (p j) (c j)

/-- Half the sum of the pairs' losses, kept as one by one arrays. -/
theorem half_sum (f g : Ideal .f32) (y : S1x1.Idx) : k0_pay208 (F := Ideal) f g y = half * (f + g) := rfl

section Outs

open Cert.Kernel2Ideal.Value

variable (a0 a1 : Vec Ideal S2x1x6144 .f32) (a2 : Vec Ideal S2x1x6144 .i32) (a3 a4 a5 : Vec Ideal S2x1x6144 .f32) (a6 : Vec Ideal S2x1x6144 .i32) (a7 : Vec Ideal S2x1x6144 .f32) (a8 a9 : Vec Ideal S2x1x6144 .i32) (a10 a11 : Vec Ideal S2x1x6144 .f32)

/-- The kernel's descriptor loss. -/
theorem desc_out : G12 (F := Ideal) a0 a1 a2 a3 a4 a5 a6 a7 a8 a9 a10 a11
    = fun _ => mean2 fun b => halves (loss (row a0 b) (row a1 b) (row a3 b)) (loss (row a4 b) (row a5 b) (row a7 b)) := by
  funext y
  have e0 := desc_apply (k0_pay2 (View.ld a0 r0_0)) (k0_pay3 (View.ld a1 r0_0)) (k0_pay5 (View.ld a3 r0_0)) (k0_pay6 (View.ld a4 r0_0)) (k0_pay7 (View.ld a5 r0_0)) (k0_pay9 (View.ld a7 r0_0))
  have e1 := desc_apply (k0_pay106 (View.ld a0 r0_2)) (k0_pay107 (View.ld a1 r0_2)) (k0_pay109 (View.ld a3 r0_2)) (k0_pay110 (View.ld a4 r0_2)) (k0_pay111 (View.ld a5 r0_2)) (k0_pay113 (View.ld a7 r0_2))
  rw [show (fun j => k0_pay2 (F := Ideal) (View.ld a0 r0_0) (ix1 j)) = row a0 0 from funext fun j => load0 a0 j,
    show (fun j => k0_pay3 (F := Ideal) (View.ld a1 r0_0) (ix1 j)) = row a1 0 from funext fun j => load0 a1 j,
    show (fun j => k0_pay5 (F := Ideal) (View.ld a3 r0_0) (ix1 j)) = row a3 0 from funext fun j => load0 a3 j,
    show (fun j => k0_pay6 (F := Ideal) (View.ld a4 r0_0) (ix1 j)) = row a4 0 from funext fun j => load0 a4 j,
    show (fun j => k0_pay7 (F := Ideal) (View.ld a5 r0_0) (ix1 j)) = row a5 0 from funext fun j => load0 a5 j,
    show (fun j => k0_pay9 (F := Ideal) (View.ld a7 r0_0) (ix1 j)) = row a7 0 from funext fun j => load0 a7 j] at e0
  rw [show (fun j => k0_pay106 (F := Ideal) (View.ld a0 r0_2) (ix1 j)) = row a0 1 from funext fun j => load1 a0 j,
    show (fun j => k0_pay107 (F := Ideal) (View.ld a1 r0_2) (ix1 j)) = row a1 1 from funext fun j => load1 a1 j,
    show (fun j => k0_pay109 (F := Ideal) (View.ld a3 r0_2) (ix1 j)) = row a3 1 from funext fun j => load1 a3 j,
    show (fun j => k0_pay110 (F := Ideal) (View.ld a4 r0_2) (ix1 j)) = row a4 1 from funext fun j => load1 a4 j,
    show (fun j => k0_pay111 (F := Ideal) (View.ld a5 r0_2) (ix1 j)) = row a5 1 from funext fun j => load1 a5 j,
    show (fun j => k0_pay113 (F := Ideal) (View.ld a7 r0_2) (ix1 j)) = row a7 1 from funext fun j => load1 a7 j] at e1
  exact (half_sum _ _ y).trans (congrArg₂ (fun u v : EReal => half * (u + v)) e0 e1)

/-- The kernel's keypoint loss. -/
theorem kp_out : G13 (F := Ideal) a0 a1 a2 a3 a4 a5 a6 a7 a8 a9 a10 a11
    = fun _ => mean2 fun b => halves (cross (row a10 b) (right (row a2 b) (row a8 b))) (cross (row a11 b) (right (row a6 b) (row a9 b))) := by
  funext y
  have e0 := kp_apply (k0_pay12 (View.ld a10 r0_0)) (k0_pay13 (View.ld a11 r0_0)) (k0_pay15 (k0_pay4 (F := Ideal) (View.ld a2 r0_0)) (k0_pay10 (F := Ideal) (View.ld a8 r0_0)))
    (k0_pay16 (k0_pay8 (F := Ideal) (View.ld a6 r0_0)) (k0_pay11 (F := Ideal) (View.ld a9 r0_0)))
  have e1 := kp1_apply (k0_pay116 (View.ld a10 r0_2)) (k0_pay117 (View.ld a11 r0_2)) (k0_pay119 (k0_pay108 (F := Ideal) (View.ld a2 r0_2)) (k0_pay114 (F := Ideal) (View.ld a8 r0_2)))
    (k0_pay120 (k0_pay112 (F := Ideal) (View.ld a6 r0_2)) (k0_pay115 (F := Ideal) (View.ld a9 r0_2)))
  rw [show (fun j => k0_pay12 (F := Ideal) (View.ld a10 r0_0) (ix1 j)) = row a10 0 from funext fun j => load0 a10 j,
    show (fun j => k0_pay13 (F := Ideal) (View.ld a11 r0_0) (ix1 j)) = row a11 0 from funext fun j => load0 a11 j,
    show (fun j => k0_pay15 (k0_pay4 (F := Ideal) (View.ld a2 r0_0)) (k0_pay10 (F := Ideal) (View.ld a8 r0_0)) (ix1 j)) = right (row a2 0) (row a8 0) from
      funext fun j => congrArg₂ (IntOp.cmpi .eq) (loadI0 a2 j) (loadI0 a8 j),
    show (fun j => k0_pay16 (k0_pay8 (F := Ideal) (View.ld a6 r0_0)) (k0_pay11 (F := Ideal) (View.ld a9 r0_0)) (ix1 j)) = right (row a6 0) (row a9 0) from
      funext fun j => congrArg₂ (IntOp.cmpi .eq) (loadI0 a6 j) (loadI0 a9 j)] at e0
  rw [show (fun j => k0_pay116 (F := Ideal) (View.ld a10 r0_2) (ix1 j)) = row a10 1 from funext fun j => load1 a10 j,
    show (fun j => k0_pay117 (F := Ideal) (View.ld a11 r0_2) (ix1 j)) = row a11 1 from funext fun j => load1 a11 j,
    show (fun j => k0_pay119 (k0_pay108 (F := Ideal) (View.ld a2 r0_2)) (k0_pay114 (F := Ideal) (View.ld a8 r0_2)) (ix1 j)) = right (row a2 1) (row a8 1) from
      funext fun j => congrArg₂ (IntOp.cmpi .eq) (loadI1 a2 j) (loadI1 a8 j),
    show (fun j => k0_pay120 (k0_pay112 (F := Ideal) (View.ld a6 r0_2)) (k0_pay115 (F := Ideal) (View.ld a9 r0_2)) (ix1 j)) = right (row a6 1) (row a9 1) from
      funext fun j => congrArg₂ (IntOp.cmpi .eq) (loadI1 a6 j) (loadI1 a9 j)] at e1
  exact (half_sum _ _ y).trans (congrArg₂ (fun u v : EReal => half * (u + v)) e0 e1)

/-- The kernel's precision. -/
theorem precision_out : G14 (F := Ideal) a0 a1 a2 a3 a4 a5 a6 a7 a8 a9 a10 a11
    = fun _ => mean2 fun b => ratio (right (row a2 b) (row a8 b)) (returned (row a2 b) (row a6 b)) := by
  funext y
  have e0 := prec0_apply (k0_pay15 (k0_pay4 (F := Ideal) (View.ld a2 r0_0)) (k0_pay10 (F := Ideal) (View.ld a8 r0_0))) (k0_pay4 (F := Ideal) (View.ld a2 r0_0)) (k0_pay8 (F := Ideal) (View.ld a6 r0_0))
  have e1 := prec1_apply (k0_pay119 (k0_pay108 (F := Ideal) (View.ld a2 r0_2)) (k0_pay114 (F := Ideal) (View.ld a8 r0_2))) (k0_pay108 (F := Ideal) (View.ld a2 r0_2)) (k0_pay112 (F := Ideal) (View.ld a6 r0_2))
  rw [show (fun j => k0_pay15 (k0_pay4 (F := Ideal) (View.ld a2 r0_0)) (k0_pay10 (F := Ideal) (View.ld a8 r0_0)) (ix1 j)) = right (row a2 0) (row a8 0) from
      funext fun j => congrArg₂ (IntOp.cmpi .eq) (loadI0 a2 j) (loadI0 a8 j),
    show (fun j => k0_pay4 (F := Ideal) (View.ld a2 r0_0) (ix1 j)) = row a2 0 from funext fun j => loadI0 a2 j,
    show (fun j => k0_pay8 (F := Ideal) (View.ld a6 r0_0) (ix1 j)) = row a6 0 from funext fun j => loadI0 a6 j] at e0
  rw [show (fun j => k0_pay119 (k0_pay108 (F := Ideal) (View.ld a2 r0_2)) (k0_pay114 (F := Ideal) (View.ld a8 r0_2)) (ix1 j)) = right (row a2 1) (row a8 1) from
      funext fun j => congrArg₂ (IntOp.cmpi .eq) (loadI1 a2 j) (loadI1 a8 j),
    show (fun j => k0_pay108 (F := Ideal) (View.ld a2 r0_2) (ix1 j)) = row a2 1 from funext fun j => loadI1 a2 j,
    show (fun j => k0_pay112 (F := Ideal) (View.ld a6 r0_2) (ix1 j)) = row a6 1 from funext fun j => loadI1 a6 j] at e1
  exact (half_sum _ _ y).trans (congrArg₂ (fun u v : EReal => half * (u + v)) e0 e1)

/-- The kernel's recall. -/
theorem recall_out : G15 (F := Ideal) a0 a1 a2 a3 a4 a5 a6 a7 a8 a9 a10 a11 = fun _ => mean2 fun b => part (right (row a2 b) (row a8 b)) := by
  funext y
  have e0 := recall_apply (k0_pay15 (k0_pay4 (F := Ideal) (View.ld a2 r0_0)) (k0_pay10 (F := Ideal) (View.ld a8 r0_0)))
  have e1 := recall_apply (k0_pay119 (k0_pay108 (F := Ideal) (View.ld a2 r0_2)) (k0_pay114 (F := Ideal) (View.ld a8 r0_2)))
  rw [show (fun j => k0_pay15 (k0_pay4 (F := Ideal) (View.ld a2 r0_0)) (k0_pay10 (F := Ideal) (View.ld a8 r0_0)) (ix1 j)) = right (row a2 0) (row a8 0) from
      funext fun j => congrArg₂ (IntOp.cmpi .eq) (loadI0 a2 j) (loadI0 a8 j)] at e0
  rw [show (fun j => k0_pay119 (k0_pay108 (F := Ideal) (View.ld a2 r0_2)) (k0_pay114 (F := Ideal) (View.ld a8 r0_2)) (ix1 j)) = right (row a2 1) (row a8 1) from
      funext fun j => congrArg₂ (IntOp.cmpi .eq) (loadI1 a2 j) (loadI1 a8 j)] at e1
  exact (half_sum _ _ y).trans (congrArg₂ (fun u v : EReal => half * (u + v)) e0 e1)

end Outs

end Cert.Kernel2Ideal.Pass2

end
-- ==== Proof.P2Ref.lean ====
module

public import proofs.«01_k».proof.Proof.P2Arith
public import proofs.«01_k».proof.Proof.RefGather
public import proofs.«01_k».proof.Proof.Gen.Reference2Ideal.Run

/-! The reference of the second pass: its results at the extended reals, as functions of the arguments' rows. -/

@[expose] public section

set_option maxRecDepth 16384

noncomputable section

namespace Cert.Reference2Ideal.Pass2

open Cert.Reference2Ideal Cert.Reference2Ideal.Gen Cert.Pass2
open Idealize.ShloMosaic Idealize.ShloMosaic.StableHlo

/-- The reference's descriptor loss. -/
def desc (x0 x1 x3 x4 x5 x7 : Vec Ideal S2x1x6144 .f32) (x8 x9 : Vec Ideal S2x1x6144 .i32) : Vec Ideal S1x1 .f32 :=
  shapeCast _ (Host.divf (Host.reduceAdd (mulf (broadcastInDim S2 ![] bcast_S_S2 (constant (F := Ideal) S_ .f32 0x3F000000#32)) (addf (Host.divf (Host.reduceAdd (select (cmpi .sge (shapeCast _ (x8) shapeCasts_S2x1x6144_S2x6144) (broadcastInDim S2x6144 ![] bcast_S_S2x6144 (constantI S_ 32 0#32))) (Host.negf (subf (subf (shapeCast _ (x3) shapeCasts_S2x1x6144_S2x6144) (shapeCast _ (x0) shapeCasts_S2x1x6144_S2x6144)) (Host.log (shapeCast _ (x1) shapeCasts_S2x1x6144_S2x6144)))) (broadcastInDim S2x6144 ![1] bcast_S6144_S2x6144_1 (broadcastInDim S6144 ![] bcast_S_S6144 (id (constant (F := Ideal) S_ .f32 0x00000000#32))))) (constant (F := Ideal) S_ .f32 0x00000000#32) reducesTo_S2x6144_S2_d1 h_S_) (sitofp .f32 (maxsi (Host.reduce IntOp.addi (extui 32 (cmpi .sge (shapeCast _ (x8) shapeCasts_S2x1x6144_S2x6144) (broadcastInDim S2x6144 ![] bcast_S_S2x6144 (constantI S_ 32 0#32))) natLt_1_32) (constantI S_ 32 0#32) reducesTo_S2x6144_S2_d1 h_S_) (broadcastInDim S2 ![] bcast_S_S2 (constantI S_ 32 1#32))))) (Host.divf (Host.reduceAdd (select (cmpi .sge (shapeCast _ (x9) shapeCasts_S2x1x6144_S2x6144) (broadcastInDim S2x6144 ![] bcast_S_S2x6144 (constantI S_ 32 0#32))) (Host.negf (subf (subf (shapeCast _ (x7) shapeCasts_S2x1x6144_S2x6144) (shapeCast _ (x4) shapeCasts_S2x1x6144_S2x6144)) (Host.log (shapeCast _ (x5) shapeCasts_S2x1x6144_S2x6144)))) (broadcastInDim S2x6144 ![1] bcast_S6144_S2x6144_1 (broadcastInDim S6144 ![] bcast_S_S6144 (id (constant (F := Ideal) S_ .f32 0x00000000#32))))) (constant (F := Ideal) S_ .f32 0x00000000#32) reducesTo_S2x6144_S2_d1 h_S_) (sitofp .f32 (maxsi (Host.reduce IntOp.addi (extui 32 (cmpi .sge (shapeCast _ (x9) shapeCasts_S2x1x6144_S2x6144) (broadcastInDim S2x6144 ![] bcast_S_S2x6144 (constantI S_ 32 0#32))) natLt_1_32) (constantI S_ 32 0#32) reducesTo_S2x6144_S2_d1 h_S_) (broadcastInDim S2 ![] bcast_S_S2 (constantI S_ 32 1#32))))))) (constant (F := Ideal) S_ .f32 0x00000000#32) reducesTo_S2_S_d0 h_S_) (constant (F := Ideal) S_ .f32 0x40000000#32)) shapeCasts_S_S1x1

/-- Where the column that a row's best match names has the row as its own best match. -/
def returns (x2 x6 : Vec Ideal S2x1x6144 .i32) : IVec S2x6144 1 :=
  (cmpi .eq (Host.gather gather_S2x6144_S2x6144x1_S2x6144_n_1_0_0_1_2_11 (shapeCast _ (x6) shapeCasts_S2x1x6144_S2x6144) (broadcastInDim S2x6144x1 ![0, 1] bcast_S2x6144_S2x6144x1_0_1 (select (cmpi .slt (shapeCast _ (x2) shapeCasts_S2x1x6144_S2x6144) (broadcastInDim S2x6144 ![] bcast_S_S2x6144 (constantI S_ 32 0#32))) (addi (shapeCast _ (x2) shapeCasts_S2x1x6144_S2x6144) (broadcastInDim S2x6144 ![] bcast_S_S2x6144 (constantI S_ 32 6144#32))) (shapeCast _ (x2) shapeCasts_S2x1x6144_S2x6144)))) (broadcastInDim S2x6144 ![0, 1] bcast_S1x6144_S2x6144_0_1 (broadcastInDim S1x6144 ![1] bcast_S6144_S1x6144_1 (iotaInDim S6144 32 0))))

/-- Where a place is the given correspondence, the correspondence being given. -/
def good (x2 x8 : Vec Ideal S2x1x6144 .i32) : IVec S2x6144 1 :=
  (andi (cmpi .sge (shapeCast _ (x8) shapeCasts_S2x1x6144_S2x6144) (broadcastInDim S2x6144 ![] bcast_S_S2x6144 (constantI S_ 32 0#32))) (cmpi .eq (shapeCast _ (x2) shapeCasts_S2x1x6144_S2x6144) (shapeCast _ (x8) shapeCasts_S2x1x6144_S2x6144)))

/-- The reference's precision. -/
def prec (a b : IVec S2x6144 1) : Vec Ideal S1x1 .f32 :=
  shapeCast _ (Host.divf (Host.reduceAdd (Host.divf (sitofp (F := Ideal) .f32 (Host.reduce IntOp.addi (extui 32 (andi a b) natLt_1_32) (constantI S_ 32 0#32) reducesTo_S2x6144_S2_d1 h_S_)) (sitofp .f32 (maxsi (Host.reduce IntOp.addi (extui 32 b natLt_1_32) (constantI S_ 32 0#32) reducesTo_S2x6144_S2_d1 h_S_) (broadcastInDim S2 ![] bcast_S_S2 (constantI S_ 32 1#32))))) (constant (F := Ideal) S_ .f32 0x00000000#32) reducesTo_S2_S_d0 h_S_) (constant (F := Ideal) S_ .f32 0x40000000#32)) shapeCasts_S_S1x1

/-- The reference's recall. -/
def recall (a : IVec S2x6144 1) (x8 : Vec Ideal S2x1x6144 .i32) : Vec Ideal S1x1 .f32 :=
  shapeCast _ (Host.divf (Host.reduceAdd (Host.divf (sitofp (F := Ideal) .f32 (Host.reduce IntOp.addi (extui 32 a natLt_1_32) (constantI S_ 32 0#32) reducesTo_S2x6144_S2_d1 h_S_)) (sitofp .f32 (maxsi (Host.reduce IntOp.addi (extui 32 (cmpi .sge (shapeCast _ (x8) shapeCasts_S2x1x6144_S2x6144) (broadcastInDim S2x6144 ![] bcast_S_S2x6144 (constantI S_ 32 0#32))) natLt_1_32) (constantI S_ 32 0#32) reducesTo_S2x6144_S2_d1 h_S_) (broadcastInDim S2 ![] bcast_S_S2 (constantI S_ 32 1#32))))) (constant (F := Ideal) S_ .f32 0x00000000#32) reducesTo_S2_S_d0 h_S_) (constant (F := Ideal) S_ .f32 0x40000000#32)) shapeCasts_S_S1x1

/-- The reference's keypoint loss. -/
def kp (x10 x11 : Vec Ideal S2x1x6144 .f32) (a b : IVec S2x6144 1) : Vec Ideal S1x1 .f32 :=
 shapeCast _ (Host.divf (Host.reduceAdd (mulf (broadcastInDim S2 ![] bcast_S_S2 (constant (F := Ideal) S_ .f32 0x3F000000#32)) (addf (Host.divf (Host.reduceAdd (addf (subf (maximumf (shapeCast _ (x10) shapeCasts_S2x1x6144_S2x6144) (broadcastInDim S2x6144 ![] bcast_S_S2x6144 (constant (F := Ideal) S_ .f32 0x00000000#32))) (mulf (shapeCast _ (x10) shapeCasts_S2x1x6144_S2x6144) (uitofp .f32 a))) (Host.log1p (Host.exp (Host.negf (Host.absf (shapeCast _ (x10) shapeCasts_S2x1x6144_S2x6144)))))) (constant (F := Ideal) S_ .f32 0x00000000#32) reducesTo_S2x6144_S2_d1 h_S_) (broadcastInDim S2 ![] bcast_S_S2 (constant (F := Ideal) S_ .f32 0x45C00000#32))) (Host.divf (Host.reduceAdd (addf (subf (maximumf (shapeCast _ (x11) shapeCasts_S2x1x6144_S2x6144) (broadcastInDim S2x6144 ![] bcast_S_S2x6144 (constant (F := Ideal) S_ .f32 0x00000000#32))) (mulf (shapeCast _ (x11) shapeCasts_S2x1x6144_S2x6144) (uitofp .f32 b))) (Host.log1p (Host.exp (Host.negf (Host.absf (shapeCast _ (x11) shapeCasts_S2x1x6144_S2x6144)))))) (constant (F := Ideal) S_ .f32 0x00000000#32) reducesTo_S2x6144_S2_d1 h_S_) (broadcastInDim S2 ![] bcast_S_S2 (constant (F := Ideal) S_ .f32 0x45C00000#32))))) (constant (F := Ideal) S_ .f32 0x00000000#32) reducesTo_S2_S_d0 h_S_) (constant (F := Ideal) S_ .f32 0x40000000#32)) shapeCasts_S_S1x1

/-- The numbers a side's places are chosen by. -/
def scored (f g : IVec S2x6144 1) (x10 : Vec Ideal S2x1x6144 .f32) : Vec Ideal S2x6144 .f32 :=
  select (andi f g) (Host.divf (broadcastInDim S2x6144 ![] bcast_S_S2x6144 (constant (F := Ideal) S_ .f32 0x3F800000#32)) (addf (broadcastInDim S2x6144 ![] bcast_S_S2x6144 (constant (F := Ideal) S_ .f32 0x3F800000#32)) (Host.exp (Host.negf (shapeCast _ (x10) shapeCasts_S2x1x6144_S2x6144))))) (broadcastInDim S2x6144 ![] bcast_S_S2x6144 (id (constant (F := Ideal) S_ .f32 0x00000000#32)))

/-- The places of the 512 greatest numbers. -/
def greatest (x : Vec Ideal S2x6144 .f32) : IVec S2x512 32 :=
  (Host.topK S2x512 1 (FloatOps.cmpfTotal (F := Ideal) (φ := .f32) .gt) x sliceFits_S2x6144_S2x512).2

/-- The rows of places. -/
def rowsOf (i : IVec S2x512 32) : FVec Ideal S2x512 .f32 :=
  sitofp .f32 (fptosi 32 (Host.floor (sitofp (F := Ideal) .f32 (select (andi (cmpi .ne (signi i) (broadcastInDim S2x512 ![] bcast_S_S2x512 (signi (id (constantI S_ 32 96#32))))) (cmpi .ne (Host.remsi i (broadcastInDim S2x512 ![] bcast_S_S2x512 (id (constantI S_ 32 96#32)))) (broadcastInDim S2x512 ![] bcast_S_S2x512 (constantI S_ 32 0#32)))) (subi (Host.divsi i (broadcastInDim S2x512 ![] bcast_S_S2x512 (id (constantI S_ 32 96#32)))) (broadcastInDim S2x512 ![] bcast_S_S2x512 (constantI S_ 32 1#32))) (Host.divsi i (broadcastInDim S2x512 ![] bcast_S_S2x512 (id (constantI S_ 32 96#32)))))) : (⟨S2x512, .f32⟩ : BufTy).Contents (Elt Ideal)))

/-- The columns of places. -/
def colsOf (i : IVec S2x512 32) : FVec Ideal S2x512 .f32 :=
  sitofp .f32 (fptosi 32 (Host.floor (sitofp (F := Ideal) .f32 (select (andi (cmpi .ne (cmpi .slt (Host.remsi i (broadcastInDim S2x512 ![] bcast_S_S2x512 (select (cmpi .eq (id (constantI S_ 32 96#32)) (constantI S_ 32 0#32)) (constantI S_ 32 1#32) (id (constantI S_ 32 96#32))))) (broadcastInDim S2x512 ![] bcast_S_S2x512 (constantI S_ 32 0#32))) (broadcastInDim S2x512 ![] bcast_S_S2x512 (cmpi .slt (select (cmpi .eq (id (constantI S_ 32 96#32)) (constantI S_ 32 0#32)) (constantI S_ 32 1#32) (id (constantI S_ 32 96#32))) (constantI S_ 32 0#32)))) (cmpi .ne (Host.remsi i (broadcastInDim S2x512 ![] bcast_S_S2x512 (select (cmpi .eq (id (constantI S_ 32 96#32)) (constantI S_ 32 0#32)) (constantI S_ 32 1#32) (id (constantI S_ 32 96#32))))) (broadcastInDim S2x512 ![] bcast_S_S2x512 (constantI S_ 32 0#32)))) (addi (Host.remsi i (broadcastInDim S2x512 ![] bcast_S_S2x512 (select (cmpi .eq (id (constantI S_ 32 96#32)) (constantI S_ 32 0#32)) (constantI S_ 32 1#32) (id (constantI S_ 32 96#32))))) (broadcastInDim S2x512 ![] bcast_S_S2x512 (select (cmpi .eq (id (constantI S_ 32 96#32)) (constantI S_ 32 0#32)) (constantI S_ 32 1#32) (id (constantI S_ 32 96#32))))) (Host.remsi i (broadcastInDim S2x512 ![] bcast_S_S2x512 (select (cmpi .eq (id (constantI S_ 32 96#32)) (constantI S_ 32 0#32)) (constantI S_ 32 1#32) (id (constantI S_ 32 96#32))))))) : (⟨S2x512, .f32⟩ : BufTy).Contents (Elt Ideal)))

/-- The confidences of places. -/
def confOf (x1 x5 : Vec Ideal S2x1x6144 .f32) (i j : IVec S2x512 32) : Vec Ideal S2x2x512 .f32 :=
  mulf (Host.gather gather_S2x6144_S2x512x1_S2x2x512_0_1_n_n_1_2_21 (Host.divf (broadcastInDim S2x6144 ![] bcast_S_S2x6144 (constant (F := Ideal) S_ .f32 0x3F800000#32)) (shapeCast _ (x1) shapeCasts_S2x1x6144_S2x6144)) (broadcastInDim S2x512x1 ![0, 1] bcast_S2x512_S2x512x1_0_1 (select (cmpi .slt i (broadcastInDim S2x512 ![] bcast_S_S2x512 (constantI S_ 32 0#32))) (addi i (broadcastInDim S2x512 ![] bcast_S_S2x512 (constantI S_ 32 6144#32))) i))) (Host.gather gather_S2x6144_S2x512x1_S2x2x512_0_1_n_n_1_2_21 (Host.divf (broadcastInDim S2x6144 ![] bcast_S_S2x6144 (constant (F := Ideal) S_ .f32 0x3F800000#32)) (shapeCast _ (x5) shapeCasts_S2x1x6144_S2x6144)) (broadcastInDim S2x512x1 ![0, 1] bcast_S2x512_S2x512x1_0_1 (select (cmpi .slt j (broadcastInDim S2x512 ![] bcast_S_S2x512 (constantI S_ 32 0#32))) (addi j (broadcastInDim S2x512 ![] bcast_S_S2x512 (constantI S_ 32 6144#32))) j)))

open Cert.Reference2Ideal.Value in
/-- The reference runs: its nine results are the terms above of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v145) = desc (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9))
      ∧ r.2.mem ((c.tc : Thread nD τ).loc main_v148) = kp (m ((c.tc : Thread nD τ).loc main_arg10)) (m ((c.tc : Thread nD τ).loc main_arg11))
          (good (m ((c.tc : Thread nD τ).loc main_arg2)) (m ((c.tc : Thread nD τ).loc main_arg8))) (good (m ((c.tc : Thread nD τ).loc main_arg6)) (m ((c.tc : Thread nD τ).loc main_arg9)))
      ∧ r.2.mem ((c.tc : Thread nD τ).loc main_v151) = prec (good (m ((c.tc : Thread nD τ).loc main_arg2)) (m ((c.tc : Thread nD τ).loc main_arg8)))
          (returns (m ((c.tc : Thread nD τ).loc main_arg2)) (m ((c.tc : Thread nD τ).loc main_arg6)))
      ∧ r.2.mem ((c.tc : Thread nD τ).loc main_v154) = recall (good (m ((c.tc : Thread nD τ).loc main_arg2)) (m ((c.tc : Thread nD τ).loc main_arg8))) (m ((c.tc : Thread nD τ).loc main_arg8))
      ∧ r.2.mem ((c.tc : Thread nD τ).loc main_v161) = rowsOf (greatest (scored (good (m ((c.tc : Thread nD τ).loc main_arg2)) (m ((c.tc : Thread nD τ).loc main_arg8))) (good (m ((c.tc : Thread nD τ).loc main_arg6)) (m ((c.tc : Thread nD τ).loc main_arg9))) (m ((c.tc : Thread nD τ).loc main_arg10))))
      ∧ r.2.mem ((c.tc : Thread nD τ).loc main_v164) = colsOf (greatest (scored (good (m ((c.tc : Thread nD τ).loc main_arg2)) (m ((c.tc : Thread nD τ).loc main_arg8))) (good (m ((c.tc : Thread nD τ).loc main_arg6)) (m ((c.tc : Thread nD τ).loc main_arg9))) (m ((c.tc : Thread nD τ).loc main_arg10))))
      ∧ r.2.mem ((c.tc : Thread nD τ).loc main_v171) = rowsOf (greatest (scored (good (m ((c.tc : Thread nD τ).loc main_arg2)) (m ((c.tc : Thread nD τ).loc main_arg8))) (good (m ((c.tc : Thread nD τ).loc main_arg6)) (m ((c.tc : Thread nD τ).loc main_arg9))) (m ((c.tc : Thread nD τ).loc main_arg11))))
      ∧ r.2.mem ((c.tc : Thread nD τ).loc main_v174) = colsOf (greatest (scored (good (m ((c.tc : Thread nD τ).loc main_arg2)) (m ((c.tc : Thread nD τ).loc main_arg8))) (good (m ((c.tc : Thread nD τ).loc main_arg6)) (m ((c.tc : Thread nD τ).loc main_arg9))) (m ((c.tc : Thread nD τ).loc main_arg11))))
      ∧ r.2.mem ((c.tc : Thread nD τ).loc main_v142) = confOf (m ((c.tc : Thread nD τ).loc main_arg1)) (m ((c.tc : Thread nD τ).loc main_arg5)) (greatest (scored (good (m ((c.tc : Thread nD τ).loc main_arg2)) (m ((c.tc : Thread nD τ).loc main_arg8))) (good (m ((c.tc : Thread nD τ).loc main_arg6)) (m ((c.tc : Thread nD τ).loc main_arg9))) (m ((c.tc : Thread nD τ).loc main_arg10)))) (greatest (scored (good (m ((c.tc : Thread nD τ).loc main_arg2)) (m ((c.tc : Thread nD τ).loc main_arg8))) (good (m ((c.tc : Thread nD τ).loc main_arg6)) (m ((c.tc : Thread nD τ).loc main_arg9))) (m ((c.tc : Thread nD τ).loc main_arg11))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  unfold desc kp prec recall returns rowsOf colsOf confOf greatest scored good
  exact Cert.Reference2Ideal.Value.run (F := Ideal) m ρ

/-- A pair's row of a stack of rows. -/
def row {α : Type} (x : S2x1x6144.Idx → α) (b : Fin 2) (j : Fin 6144) : α := x (ix3 b 0 j)

/-- Where a row of places is the row of given correspondences. -/
def right (p c : Fin 6144 → BitVec 32) (j : Fin 6144) : BitVec 1 := IntOp.cmpi .eq (p j) (c j)

/-- The mask of given correspondences holds everywhere when they are in range. -/
theorem good_apply (p c : Vec Ideal S2x1x6144 .i32) (hc : ∀ b j, (row c b j).toNat < 6144) (b : Fin 2) (j : Fin 6144) :
    good p c (ix2 b j) = right (row p b) (row c b) j := by
  pointwise [good]
  rw [sge_place (c (ix3 b 0 j)) (hc b j), andi_one]
  rfl

/-- A stack of rows without its unit axis. -/
theorem flat {α : Type} (x : S2x1x6144.Idx → α) (b : Fin 2) (j : Fin 6144) : shapeCast S2x6144 x shapeCasts_S2x1x6144_S2x6144 (ix2 b j) = x (ix3 b 0 j) := by
  pointwise

/-- A gather of one place of each pair's row. -/
theorem gather_place {α : Type} (x : S2x6144.Idx → α) (idx : IVec S2x6144x1 32) (b : Fin 2) (j : Fin 6144) (hp : (idx (ix3 b j 0)).toNat < 6144) :
    Host.gather gather_S2x6144_S2x6144x1_S2x6144_n_1_0_0_1_2_11 x idx (ix2 b j) = x (ix2 b ⟨(idx (ix3 b j 0)).toNat, hp⟩) := by
  have tn : (idx (ix3 b j 0)).toInt.toNat = (idx (ix3 b j 0)).toNat := by
    rw [BitVec.toInt_eq_toNat_cond]; omega
  unfold Host.gather
  congr 1
  funext a
  refine Fin.ext ?_
  have m1 : gather_S2x6144_S2x6144x1_S2x6144_n_1_0_0_1_2_11.startIndexMap = [1] := rfl
  have m2 : gather_S2x6144_S2x6144x1_S2x6144_n_1_0_0_1_2_11.operandBatchingDims = [0] := rfl
  have m3 : gather_S2x6144_S2x6144x1_S2x6144_n_1_0_0_1_2_11.collapsedSliceDims = [1] := rfl
  have hsi : ∀ k, k.val = 0 → GatherDims.siIdx gather_S2x6144_S2x6144x1_S2x6144_n_1_0_0_1_2_11 (ix2 b j) k = ix3 b j 0 := by
    intro k hk; funext c; refine Fin.ext ?_
    match c with
    | ⟨0, _⟩ => rfl
    | ⟨1, _⟩ => rfl
    | ⟨2, _⟩ => exact hk
  show GatherDims.start gather_S2x6144_S2x6144x1_S2x6144_n_1_0_0_1_2_11 (ix2 b j) idx a + GatherDims.batchCoord gather_S2x6144_S2x6144x1_S2x6144_n_1_0_0_1_2_11 (ix2 b j) a + GatherDims.offCoord gather_S2x6144_S2x6144x1_S2x6144_n_1_0_0_1_2_11 (ix2 b j) a = _
  have h3 : a = 0 ∨ a = 1 := by
    match a with
    | ⟨0, _⟩ => exact .inl rfl
    | ⟨1, _⟩ => exact .inr rfl
  rw [GatherDims.offCoord_eq_zero _ _ _ (fun h => by
    have := (GatherDims.mem_sKept _ _).mp h
    rw [m2, m3] at this
    rcases h3 with rfl | rfl
    · exact this.2 (by decide)
    · exact this.1 (by decide))]
  rcases h3 with rfl | rfl
  · rw [GatherDims.start_batching _ _ _ _ (show (0 : Fin 2) ∈ gather_S2x6144_S2x6144x1_S2x6144_n_1_0_0_1_2_11.operandBatchingDims from by rw [m2]; decide)]
    unfold GatherDims.batchCoord
    rw [dif_pos (show (0 : Fin 2) ∈ gather_S2x6144_S2x6144x1_S2x6144_n_1_0_0_1_2_11.operandBatchingDims from by rw [m2]; decide)]
    simp only [Nat.zero_add, Nat.add_zero]
    rfl
  · rw [GatherDims.batchCoord_eq_zero _ _ _ (show (1 : Fin 2) ∉ gather_S2x6144_S2x6144x1_S2x6144_n_1_0_0_1_2_11.operandBatchingDims from by rw [m2]; decide)]
    unfold GatherDims.start
    rw [dif_pos (show (1 : Fin 2) ∈ gather_S2x6144_S2x6144x1_S2x6144_n_1_0_0_1_2_11.startIndexMap from by rw [m1]; decide)]
    simp only [Nat.add_zero]
    refine (congrArg (fun z => min (idx z).toInt.toNat 6143) (hsi _ rfl)).trans ?_
    show min (idx (ix3 b j 0)).toInt.toNat 6143 = (idx (ix3 b j 0)).toNat
    rw [tn]; omega

/-- The wrapped places a gather reads. -/
theorem wrapped_apply (x2 : Vec Ideal S2x1x6144 .i32) (b : Fin 2) (j : Fin 6144) (h : (row x2 b j).toNat < 6144) :
    (broadcastInDim S2x6144x1 ![0, 1] bcast_S2x6144_S2x6144x1_0_1 (select (cmpi .slt (shapeCast _ (x2) shapeCasts_S2x1x6144_S2x6144) (broadcastInDim S2x6144 ![] bcast_S_S2x6144 (constantI S_ 32 0#32))) (addi (shapeCast _ (x2) shapeCasts_S2x1x6144_S2x6144) (broadcastInDim S2x6144 ![] bcast_S_S2x6144 (constantI S_ 32 6144#32))) (shapeCast _ (x2) shapeCasts_S2x1x6144_S2x6144))) (ix3 b j 0) = row x2 b j := by
  pointwise
  exact Cert.ReferenceIdeal.Stats.wrap_word _ h

/-- Whether a row's match is returned, read at a place. -/
theorem returns_apply (x2 x6 : Vec Ideal S2x1x6144 .i32) (b : Fin 2) (j : Fin 6144) (h : (row x2 b j).toNat < 6144) :
    returns x2 x6 (ix2 b j) = IntOp.cmpi .eq (row x6 b ⟨(row x2 b j).toNat, h⟩) (BitVec.ofNat 32 j.val) := by
  have e := wrapped_apply x2 b j h
  unfold returns
  generalize (broadcastInDim S2x6144x1 ![0, 1] bcast_S2x6144_S2x6144x1_0_1 (select (cmpi .slt (shapeCast _ (x2) shapeCasts_S2x1x6144_S2x6144) (broadcastInDim S2x6144 ![] bcast_S_S2x6144 (constantI S_ 32 0#32))) (addi (shapeCast _ (x2) shapeCasts_S2x1x6144_S2x6144) (broadcastInDim S2x6144 ![] bcast_S_S2x6144 (constantI S_ 32 6144#32))) (shapeCast _ (x2) shapeCasts_S2x1x6144_S2x6144))) = idx at e ⊢
  have g := gather_place (shapeCast S2x6144 x6 shapeCasts_S2x1x6144_S2x6144) idx b j (by rw [e]; exact h)
  generalize Host.gather gather_S2x6144_S2x6144x1_S2x6144_n_1_0_0_1_2_11 (shapeCast S2x6144 x6 shapeCasts_S2x1x6144_S2x6144) idx = w at g ⊢
  pointwise
  rw [g, flat]
  have ee : (⟨(idx (ix3 b j 0)).toNat, by rw [e]; exact h⟩ : Fin 6144) = ⟨(row x2 b j).toNat, h⟩ := Fin.ext (congrArg BitVec.toNat e)
  rw [ee]
  rfl

section Results

variable (x0 x1 : Vec Ideal S2x1x6144 .f32) (x2 : Vec Ideal S2x1x6144 .i32) (x3 x4 x5 : Vec Ideal S2x1x6144 .f32) (x6 : Vec Ideal S2x1x6144 .i32)
  (x7 : Vec Ideal S2x1x6144 .f32) (x8 x9 : Vec Ideal S2x1x6144 .i32) (x10 x11 : Vec Ideal S2x1x6144 .f32)

/-- The one index of a one by one array. -/
theorem one_idx (y : S1x1.Idx) : y = ix2 0 0 := by
  funext a
  match a with
  | ⟨0, _⟩ => exact Subsingleton.elim (α := Fin 1) _ _
  | ⟨1, _⟩ => exact Subsingleton.elim (α := Fin 1) _ _

/-- The number of given correspondences when all are in range. -/
theorem given_count (c : Vec Ideal S2x1x6144 .i32) (hc : ∀ b j, (row c b j).toNat < 6144) (b : Fin 2) :
    Finset.fold IntOp.addi (0#32) (fun j : Fin 6144 => BitVec.setWidth 32 (IntOp.cmpi .sge (c (ix3 b 0 j)) 0#32)) Finset.univ = 6144#32 :=
  count_all (fun j => IntOp.cmpi .sge (c (ix3 b 0 j)) 0#32) fun j => sge_place _ (hc b j)

/-- The descriptor loss. -/
theorem desc_eq (h8 : ∀ b j, (row x8 b j).toNat < 6144) (h9 : ∀ b j, (row x9 b j).toNat < 6144) :
    desc x0 x1 x3 x4 x5 x7 x8 x9 = fun _ => mean2 fun b => halves (loss (row x0 b) (row x1 b) (row x3 b)) (loss (row x4 b) (row x5 b) (row x7 b)) := by
  funext y
  rw [one_idx y, ← mean2_eq]
  pointwise [desc]
  simp only [given_count x8 h8, given_count x9 h9, sitofp_places]
  have e8 : ∀ b j, IntOp.cmpi .sge (x8 (ix3 b 0 j)) 0#32 = 1#1 := fun b j => sge_place _ (h8 b j)
  have e9 : ∀ b j, IntOp.cmpi .sge (x9 (ix3 b 0 j)) 0#32 = 1#1 := fun b j => sge_place _ (h9 b j)
  simp only [e8, e9, WordCmp.select_one]
  rfl

/-- The keypoint loss. -/
theorem kp_eq (a b : IVec S2x6144 1) (f g : Fin 2 → Fin 6144 → BitVec 1) (ha : ∀ p j, a (ix2 p j) = f p j) (hb : ∀ p j, b (ix2 p j) = g p j) :
    kp x10 x11 a b = fun _ => mean2 fun p => halves (cross (row x10 p) (f p)) (cross (row x11 p) (g p)) := by
  funext y
  rw [one_idx y, ← mean2_eq]
  pointwise [kp]
  simp only [ha, hb]
  rfl

/-- The precision. -/
theorem prec_eq (a b : IVec S2x6144 1) (f g : Fin 2 → Fin 6144 → BitVec 1) (ha : ∀ p j, a (ix2 p j) = f p j) (hb : ∀ p j, b (ix2 p j) = g p j) :
    prec a b = fun _ => mean2 fun p => ratio (f p) (g p) := by
  funext y
  rw [one_idx y, ← mean2_eq]
  pointwise [prec]
  simp only [ha, hb]
  rfl

/-- The recall. -/
theorem recall_eq (a : IVec S2x6144 1) (f : Fin 2 → Fin 6144 → BitVec 1) (ha : ∀ p j, a (ix2 p j) = f p j) (h8 : ∀ b j, (row x8 b j).toNat < 6144) :
    recall a x8 = fun _ => mean2 fun p => part (f p) := by
  funext y
  rw [one_idx y, ← mean2_eq]
  pointwise [recall]
  simp only [given_count x8 h8, sitofp_places, ha]
  rfl

end Results

end Cert.Reference2Ideal.Pass2

end
-- ==== Proof.P3Rank.lean ====
module

public import proofs.«01_k».proof.Proof.P2Arith
public import Idealize.ShloMosaic.Lib.SortPrefix
public import Idealize.ShloMosaic.Lib.PlanTiles.StableSort
public import Idealize.ShloMosaic.Lib.WordArith

/-! The order of the largest numbers of a row: how many places come before a place, the place of each rank, the stable sort by the numbers
alone, and sums that have one term. -/

@[expose] public section

set_option maxRecDepth 16384

noncomputable section

namespace Cert.Pass2

open Idealize.ShloMosaic

/-- Whether a place comes before another: its number is larger, or the numbers are equal and it stands first. -/
def ahead (p : Fin 6144 → EReal) (q i : Fin 6144) : Bool := decide (p i < p q) || (decide (p q = p i) && decide (q < i))

/-- Coming before is a strict total order. -/
theorem ahead_total (p : Fin 6144 → EReal) : StrictTotalBefore (ahead p) :=
  StrictTotalBefore.of_key_then_position (fun a b : EReal => decide (b < a)) p (fun a => by simp)
    (fun a b c h h' => by simp only [decide_eq_true_eq] at *; exact lt_trans h' h)
    (fun a b => by
      simp only [decide_eq_true_eq]
      rcases lt_trichotomy a b with h | h | h
      · exact .inr (.inr h)
      · exact .inr (.inl h)
      · exact .inl h)

/-- The number of places that come before a place. -/
def rank (p : Fin 6144 → EReal) (i : Fin 6144) : ℕ := (Finset.univ.filter fun q => ahead p q i = true).card

/-- A rank is below the number of places. -/
theorem rank_lt (p : Fin 6144 → EReal) (i : Fin 6144) : rank p i < 6144 := by
  have h : (Finset.univ.filter fun q => ahead p q i = true) ⊂ Finset.univ := by
    refine (Finset.ssubset_univ_iff).mpr fun e => ?_
    have hi := Finset.mem_univ i
    rw [← e, Finset.mem_filter, (ahead_total p).irrefl i] at hi
    exact absurd hi.2 (by decide)
  have := Finset.card_lt_card h
  rwa [Finset.card_univ, Fintype.card_fin] at this

/-- A place that comes before another has the smaller rank. -/
theorem rank_mono (p : Fin 6144 → EReal) (i j : Fin 6144) (h : ahead p i j = true) : rank p i < rank p j := by
  refine Finset.card_lt_card (Finset.ssubset_iff_of_subset (fun q hq => ?_) |>.mpr ⟨i, ?_, ?_⟩)
  · rw [Finset.mem_filter] at hq ⊢
    exact ⟨hq.1, (ahead_total p).trans q i j hq.2 h⟩
  · exact Finset.mem_filter.mpr ⟨Finset.mem_univ _, h⟩
  · rw [Finset.mem_filter, (ahead_total p).irrefl i]
    rintro ⟨-, h⟩
    exact absurd h (by decide)

/-- Different places have different ranks. -/
theorem rank_inj (p : Fin 6144 → EReal) (i j : Fin 6144) (h : rank p i = rank p j) : i = j := by
  by_contra hne
  rcases (ahead_total p).total i j hne with h' | h' <;> have := rank_mono p _ _ h' <;> omega

/-- The place of each rank. -/
def place (p : Fin 6144 → EReal) : Fin 6144 ≃ Fin 6144 :=
  (Equiv.ofBijective (fun i => (⟨rank p i, rank_lt p i⟩ : Fin 6144))
    (Finite.injective_iff_bijective.mp fun i j h => rank_inj p i j (congrArg Fin.val h))).symm

/-- The rank of a rank's place. -/
theorem rank_place (p : Fin 6144 → EReal) (k : Fin 6144) : rank p (place p k) = k.val :=
  congrArg Fin.val ((Equiv.ofBijective (fun i => (⟨rank p i, rank_lt p i⟩ : Fin 6144))
    (Finite.injective_iff_bijective.mp fun i j h => rank_inj p i j (congrArg Fin.val h))).apply_symm_apply k)

/-- A place has a rank exactly where it is that rank's place. -/
theorem rank_eq (p : Fin 6144 → EReal) (q k : Fin 6144) : rank p q = k.val ↔ q = place p k :=
  ⟨fun h => rank_inj p _ _ (h.trans (rank_place p k).symm), fun h => h ▸ rank_place p k⟩

/-- The stable sort of the places by their numbers alone, largest first, puts at each rank that rank's place. -/
theorem sorted_place (p : Fin 6144 → EReal) (before : Fin 6144 → Fin 6144 → Bool) (hb : ∀ q i, before q i = decide (p i < p q)) (k : Fin 6144) :
    sortedFrom before k = place p k := by
  have hG : before = fun x y => decide ((fun a => (Finset.univ.filter fun q => p q < p a).card) y < (fun a => (Finset.univ.filter fun q => p q < p a).card) x) := by
    funext x y
    rw [hb, decide_eq_decide]
    have mono : ∀ a b, p a ≤ p b → (Finset.univ.filter fun q => p q < p a).card ≤ (Finset.univ.filter fun q => p q < p b).card :=
      fun a b h => Finset.card_le_card fun q hq => by
        rw [Finset.mem_filter] at hq ⊢
        exact ⟨hq.1, lt_of_lt_of_le hq.2 h⟩
    constructor
    · intro h
      refine Finset.card_lt_card (Finset.ssubset_iff_of_subset (fun q hq => ?_) |>.mpr ⟨y, ?_, ?_⟩)
      · rw [Finset.mem_filter] at hq ⊢
        exact ⟨hq.1, lt_trans hq.2 h⟩
      · exact Finset.mem_filter.mpr ⟨Finset.mem_univ _, h⟩
      · rw [Finset.mem_filter]
        rintro ⟨-, h⟩
        exact absurd h (lt_irrefl _)
    · intro h
      by_contra hn
      exact absurd (mono x y (not_lt.mp hn)) (not_le.mpr h)
  have hs : sortPositions 6144 before = sortPositions 6144 (ahead p) := by
    refine (ahead_total p).eq_stableSort_of_sorted (perm_sortPositions 6144 before) ?_
    have hl := PlanTiles.pairwise_stableSort_lex (fun a => (Finset.univ.filter fun q => p q < p a).card) (· < ·) (List.finRange 6144) (List.pairwise_lt_finRange 6144)
    rw [← hG] at hl
    refine hl.imp fun {a b} h => ?_
    have key : ∀ x y, decide (p y < p x) = decide ((Finset.univ.filter fun q => p q < p y).card < (Finset.univ.filter fun q => p q < p x).card) :=
      fun x y => by rw [← hb]; exact congrFun (congrFun hG x) y
    simp only [decide_eq_decide] at key
    simp only [ahead, Bool.or_eq_false_iff, Bool.and_eq_false_iff, decide_eq_false_iff_not]
    rcases h with h | ⟨h, h'⟩
    · have := (key a b).mpr h
      exact ⟨lt_asymm this, .inl (fun e => absurd (e ▸ this) (lt_irrefl _))⟩
    · exact ⟨fun hc => absurd ((key b a).mp hc) (by dsimp only at h; omega), .inr (lt_asymm h')⟩
  have e : sortedFrom before k = sortedFrom (ahead p) k := by
    simp only [sortedFrom, List.get_eq_getElem, Fin.val_cast]
    simp only [hs]
  rw [e]
  refine (ahead_total p).sortedFrom_eq_of_prefix (k := 6144) (le_refl _) (place p) (place p).injective (fun i j h => ?_) (fun i q h => ?_) k
  · by_contra hc
    have := rank_mono p _ _ (Bool.eq_true_of_not_eq_false hc)
    rw [rank_place, rank_place] at this
    exact absurd this (by have : i.val < j.val := h; omega)
  · exact absurd ((place p).apply_symm_apply q) (h _)

/-- A sum of words with one term that may differ from zero. -/
theorem fold_one (g : Fin 6144 → BitVec 32) (a : Fin 6144) (h : ∀ q, q ≠ a → g q = 0#32) :
    Finset.fold IntOp.addi (0#32) g Finset.univ = g a := by
  have hs : ∀ S : Finset (Fin 6144), a ∉ S → Finset.fold IntOp.addi (0#32) g S = 0#32 := by
    intro S
    induction S using Finset.induction_on with
    | empty => intro _; rfl
    | insert x S hx ih =>
      intro ha
      rw [Finset.fold_insert hx, ih (fun h => ha (Finset.mem_insert_of_mem h)), h x (fun e => ha (e ▸ Finset.mem_insert_self _ _))]
      rfl
  rw [← Finset.insert_erase (Finset.mem_univ a), Finset.fold_insert (Finset.notMem_erase a _), hs _ (Finset.notMem_erase a _)]
  show g a + 0#32 = g a
  simp

/-- A sum with one term that may differ from zero. -/
theorem sum_one (g : Fin 6144 → EReal) (a : Fin 6144) (h : ∀ q, q ≠ a → g q = 0) : ∑ q, g q = g a :=
  Finset.sum_eq_single a (fun q _ hq => h q hq) (fun ha => absurd (Finset.mem_univ a) ha)

/-- The word of a place. -/
theorem toNat_place (n : ℕ) (h : n < 6144) : (BitVec.ofNat 32 n).toNat = n := by
  rw [BitVec.toNat_ofNat]; omega

/-- Two places' words are equal exactly where the places are. -/
theorem eq_word (a b : ℕ) (ha : a < 6144) (hb : b < 6144) : IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_eq]
  constructor
  · intro h
    have := congrArg BitVec.toNat h
    rwa [toNat_place a ha, toNat_place b hb] at this
  · rintro rfl; rfl

/-- One place's word is below another's exactly where the place is. -/
theorem slt_word (a b : ℕ) (ha : a < 6144) (hb : b < 6144) : IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt, WordArith.toInt_ofNat_small a (by omega), WordArith.toInt_ofNat_small b (by omega), decide_eq_decide]
  exact Int.ofNat_lt

/-- The words that are summed for the place of a rank: the place's word where the place has the rank, zero elsewhere. -/
theorem pick_word (p : Fin 6144 → EReal) (k : Fin 6144) :
    Finset.fold IntOp.addi (0#32) (fun q : Fin 6144 => Scalar.select (IntOp.cmpi .eq (BitVec.ofNat 32 (rank p q)) (BitVec.ofNat 32 k.val)) (BitVec.ofNat 32 q.val) 0#32) Finset.univ
      = BitVec.ofNat 32 (place p k).val := by
  rw [fold_one _ (place p k)]
  · rw [rank_place, eq_word _ _ k.isLt k.isLt]; simp [Scalar.select]
  · intro q hq
    rw [eq_word _ _ (rank_lt p q) k.isLt, decide_eq_false (fun h => hq ((rank_eq p q k).mp h))]
    simp [Scalar.select]

/-- The numbers that are summed to read a row at a place: the row's number at the place, zero elsewhere. -/
theorem pick_num (s : Fin 6144 → EReal) (a : Fin 6144) :
    ∑ q : Fin 6144, Scalar.select (IntOp.cmpi .eq (BitVec.ofNat 32 a.val) (BitVec.ofNat 32 q.val)) (s q) (0 : EReal) = s a := by
  rw [sum_one _ a]
  · rw [eq_word _ _ a.isLt a.isLt]; simp [Scalar.select]
  · intro q hq
    rw [eq_word _ _ a.isLt q.isLt, decide_eq_false (fun h => hq (Fin.ext h.symm))]
    simp [Scalar.select]

/-- The row of a flat place, as a number. -/
def rowOf (n : ℕ) : EReal := (((n / 96 : ℕ) : ℝ) : EReal)

/-- The column of a flat place, as a number. -/
def colOf (n : ℕ) : EReal := (((n % 96 : ℕ) : ℝ) : EReal)

/-- One of the first 512 ranks, as a rank of a place. -/
def up (k : Fin 512) : Fin 6144 := ⟨k.val, by omega⟩

/-- The number a place is chosen by: the logistic of its score where the two sides' matches are right, zero elsewhere. -/
def prob (l : Fin 6144 → EReal) (f g : Fin 6144 → BitVec 1) (j : Fin 6144) : EReal := Scalar.select (IntOp.andi (f j) (g j)) (Ideal.logistic (l j)) 0

/-- One over a place's sum. -/
def sim (x : Fin 6144 → EReal) (j : Fin 6144) : EReal := Ideal.div (Ideal.ofBits FTy.f32 1065353216#32) (x j)

/-- The word of 96. -/
theorem width_eq : Ideal.ofBits FTy.f32 1119879168#32 = ((96 : ℝ) : EReal) := by
  simp [Ideal.ofBits, Ideal.ieee, -EReal.coe_mul]; try norm_num

/-- A place's word converted. -/
theorem sitofp_word (n : ℕ) (h : n < 6144) : FloatOps.sitofp (F := Ideal) FTy.f32 (BitVec.ofNat 32 n) = ((n : ℝ) : EReal) := by
  show (((BitVec.ofNat 32 n).toInt : ℝ) : EReal) = _
  rw [WordArith.toInt_ofNat_small n (by omega)]
  norm_num

/-- The floor of a place over the width is the place's row. -/
theorem floor_row (n : ℕ) : Ideal.liftRound Int.floor (Ideal.div ((n : ℝ) : EReal) (Ideal.ofBits FTy.f32 1119879168#32)) = rowOf n := by
  rw [width_eq, Ideal.div_coe (by norm_num), ← EReal.coe_mul]
  show (((⌊(n : ℝ) * (1 / 96)⌋ : ℤ) : ℝ) : EReal) = _
  have e : ⌊(n : ℝ) * (1 / 96)⌋ = ((n / 96 : ℕ) : ℤ) := by
    rw [Int.floor_eq_iff]
    have := Nat.div_add_mod n 96
    have h : ((96 * (n / 96) + n % 96 : ℕ) : ℝ) = (n : ℝ) := by rw [this]
    have h' : ((n % 96 : ℕ) : ℝ) < 96 := by exact_mod_cast Nat.mod_lt n (by norm_num)
    have h0 : (0 : ℝ) ≤ ((n % 96 : ℕ) : ℝ) := by positivity
    push_cast at h
    rw [Int.cast_natCast]
    constructor <;> linarith
  rw [e, rowOf]
  rfl

/-- A place less its row's start is its column. -/
theorem sub_col (n : ℕ) : ((n : ℝ) : EReal) - rowOf n * Ideal.ofBits FTy.f32 1119879168#32 = colOf n := by
  rw [width_eq, rowOf, colOf, ← EReal.coe_mul, ← EReal.coe_sub]
  congr 1
  have := Nat.div_add_mod n 96
  have h : ((96 * (n / 96) + n % 96 : ℕ) : ℝ) = (n : ℝ) := by rw [this]
  push_cast at h ⊢
  linarith

/-- A whole number below 6144 converted, floored, made a word and converted back is itself. -/
theorem round_word (n : ℕ) (h : n < 6144) :
    FloatOps.sitofp (F := Ideal) FTy.f32 (Ideal.fptosi 32 (Ideal.liftRound Int.floor (FloatOps.sitofp (F := Ideal) FTy.f32 (BitVec.ofNat 32 n)))) = ((n : ℝ) : EReal) := by
  rw [sitofp_word n h]
  have e : Ideal.liftRound Int.floor ((n : ℝ) : EReal) = ((n : ℝ) : EReal) := by
    show (((⌊(n : ℝ)⌋ : ℤ) : ℝ) : EReal) = _
    rw [Int.floor_natCast]; norm_num
  have e2 : Ideal.fptosi 32 ((n : ℝ) : EReal) = BitVec.ofNat 32 n := by
    rw [Ideal.fptosi, Ideal.toIntClamped_coe, if_pos (by positivity), Int.floor_natCast]
    have : max (-(2 ^ (32 - 1) : ℕ) : ℤ) (min (((2 ^ (32 - 1) : ℕ) : ℤ) - 1) (n : ℤ)) = (n : ℤ) := by omega
    rw [this]
    exact BitVec.ofInt_natCast 32 n
  rw [e, e2, sitofp_word n h]

/-- A place's word over the width's, as signed words. -/
theorem div_word (n : ℕ) (h : n < 6144) : IntOp.divsi .host (BitVec.ofNat 32 n) 96#32 = BitVec.ofNat 32 (n / 96) := by
  have hm : (BitVec.ofNat 32 n).msb = false := by rw [BitVec.msb_eq_false_iff_two_mul_lt, toNat_place n h]; omega
  have hc : ¬ IntOp.SDivCorner (BitVec.ofNat 32 n) 96#32 := by
    intro hc
    rcases hc with hc | ⟨-, hc⟩ <;> exact absurd hc (by decide)
  rw [IntOp.divsi, if_neg hc, BitVec.sdiv_eq, hm, show (96#32).msb = false by decide]
  refine BitVec.eq_of_toNat_eq ?_
  show ((BitVec.ofNat 32 n) / 96#32).toNat = _
  rw [BitVec.toNat_udiv, toNat_place n h, toNat_place (n / 96) (by omega)]
  rfl

/-- A place's word modulo the width's, as signed words. -/
theorem rem_word (n : ℕ) (h : n < 6144) : IntOp.remsi .host (BitVec.ofNat 32 n) 96#32 = BitVec.ofNat 32 (n % 96) := by
  have hm : (BitVec.ofNat 32 n).msb = false := by rw [BitVec.msb_eq_false_iff_two_mul_lt, toNat_place n h]; omega
  have hc : ¬ IntOp.SDivCorner (BitVec.ofNat 32 n) 96#32 := by
    intro hc
    rcases hc with hc | ⟨-, hc⟩ <;> exact absurd hc (by decide)
  rw [IntOp.remsi, if_neg hc, BitVec.srem_eq, hm, show (96#32).msb = false by decide]
  refine BitVec.eq_of_toNat_eq ?_
  show ((BitVec.ofNat 32 n) % 96#32).toNat = _
  rw [BitVec.toNat_umod, toNat_place n h, toNat_place (n % 96) (by omega)]
  rfl

/-- The sign of a place's word. -/
def signWord (w : BitVec 32) : BitVec 32 := if w = 0 then 0 else if w.msb then -1 else 1

/-- The rounding-down correction of a place's quotient is not made: either the place is zero and leaves nothing, or it has the width's sign. -/
theorem div_fix (n : ℕ) (h : n < 6144) :
    IntOp.andi (IntOp.cmpi .ne (signWord (BitVec.ofNat 32 n)) (signWord 96#32)) (IntOp.cmpi .ne (BitVec.ofNat 32 (n % 96)) 0#32) = 0#1 := by
  have hm : (BitVec.ofNat 32 n).msb = false := by rw [BitVec.msb_eq_false_iff_two_mul_lt, toNat_place n h]; omega
  by_cases h0 : n = 0
  · subst h0; decide
  · have : signWord (BitVec.ofNat 32 n) = 1#32 := by
      rw [signWord, if_neg, hm]; · rfl
      intro hz
      have := congrArg BitVec.toNat hz
      rw [toNat_place n h] at this
      exact h0 this
    rw [this]
    generalize IntOp.cmpi .ne (BitVec.ofNat 32 (n % 96)) 0#32 = b
    revert b; decide

/-- The sign correction of a place's remainder is not made: neither the remainder nor the width is below zero. -/
theorem rem_fix (n : ℕ) (h : n < 6144) :
    IntOp.andi (IntOp.cmpi .ne (IntOp.cmpi .slt (BitVec.ofNat 32 n) 0#32) (IntOp.cmpi .slt 96#32 0#32)) (IntOp.cmpi .ne (BitVec.ofNat 32 n) 0#32) = 0#1 := by
  have e : IntOp.cmpi .slt (BitVec.ofNat 32 n) 0#32 = 0#1 := by
    rw [show (0#32) = BitVec.ofNat 32 0 from rfl, slt_word n 0 h (by omega), decide_eq_false (by omega)]; rfl
  rw [e, show IntOp.cmpi .slt 96#32 0#32 = 0#1 by decide]
  generalize IntOp.cmpi .ne (BitVec.ofNat 32 n) 0#32 = b
  revert b; decide

end Cert.Pass2

end
-- ==== Proof.P3Pick.lean ====
module

public import proofs.«01_k».proof.Proof.P2Kernel
public import proofs.«01_k».proof.Proof.P3Rank

/-! The second pass's choice of places: twelve tiles that count, for each place, the places before it, and the sums that read the place of each
rank and a row at a place. -/

@[expose] public section

set_option maxRecDepth 16384

noncomputable section

namespace Cert.Kernel2Ideal.Pass2

open Cert.Kernel2Ideal Cert.Kernel2Ideal.Gen Cert.Pass2
open Idealize.ShloMosaic

/-- A tile of the places from `o`: for each, the number of places before it. -/
def rankTile (p : FVec Ideal S6144 .f32) (o : ℕ) (h : S6144.Slices ![o] S512) : IVec S512 32 :=
  multiReductionI .add [1] S512 (extui 32 (ori
    (cmpf (F := Ideal) .ogt (broadcastTo S512x6144 (shapeCast S1x6144 p shapeCasts_S6144_S1x6144) broadcasts_S1x6144_S512x6144)
      (broadcastTo S512x6144 (shapeCast S512x1 (extractStridedSlice S512 ![o] p h) shapeCasts_S512_S512x1) broadcasts_S512x1_S512x6144))
    (andi (cmpf (F := Ideal) .oeq (broadcastTo S512x6144 (shapeCast S1x6144 p shapeCasts_S6144_S1x6144) broadcasts_S1x6144_S512x6144)
        (broadcastTo S512x6144 (shapeCast S512x1 (extractStridedSlice S512 ![o] p h) shapeCasts_S512_S512x1) broadcasts_S512x1_S512x6144))
      (cmpi .slt (iota .tc S512x6144 32 [1] iota_S512x6144_d1_w32)
        (addi (broadcast S512x6144 (BitVec.ofNat 32 o)) (iota .tc S512x6144 32 [0] iota_S512x6144_d0_w32))))) natLt_1_32) 0#32 reduces_S512x6144_S512 rfl

/-- The numbers of places before each place, the tiles laid end to end. -/
def ranks (p : FVec Ideal S6144 .f32) : IVec S6144 32 :=
  concatenate S6144 0 [⟨S512, rankTile p 0 slices_S6144_o0_S512⟩, ⟨S512, rankTile p 512 slices_S6144_o512_S512⟩, ⟨S512, rankTile p 1024 slices_S6144_o1024_S512⟩, ⟨S512, rankTile p 1536 slices_S6144_o1536_S512⟩, ⟨S512, rankTile p 2048 slices_S6144_o2048_S512⟩, ⟨S512, rankTile p 2560 slices_S6144_o2560_S512⟩, ⟨S512, rankTile p 3072 slices_S6144_o3072_S512⟩, ⟨S512, rankTile p 3584 slices_S6144_o3584_S512⟩, ⟨S512, rankTile p 4096 slices_S6144_o4096_S512⟩, ⟨S512, rankTile p 4608 slices_S6144_o4608_S512⟩, ⟨S512, rankTile p 5120 slices_S6144_o5120_S512⟩, ⟨S512, rankTile p 5632 slices_S6144_o5632_S512⟩] concatenates_S512_S512_S512_S512_S512_S512_S512_S512_S512_S512_S512_S512_S6144_d0

/-- The place of each of the first 512 ranks, as the sum of the words of the places that have it. -/
def picks (r : IVec S6144 32) : IVec S512 32 :=
  multiReductionI .add [1] S512 (select (cmpi .eq (broadcastTo S512x6144 (shapeCast S1x6144 r shapeCasts_S6144_S1x6144) broadcasts_S1x6144_S512x6144)
    (iota .tc S512x6144 32 [0] iota_S512x6144_d0_w32)) (iota .tc S512x6144 32 [1] iota_S512x6144_d1_w32) (broadcast S512x6144 0#32)) 0#32 reduces_S512x6144_S512 rfl

/-- A row of numbers repeated down the tile. -/
theorem downF (A : FVec Ideal S6144 .f32) (k : Fin 512) (q : Fin 6144) :
    broadcastTo S512x6144 (shapeCast S1x6144 A shapeCasts_S6144_S1x6144) broadcasts_S1x6144_S512x6144 (ix2 k q) = A (ix1 q) := by
  pointwise

/-- A column of numbers repeated along the tile. -/
theorem alongF (B : FVec Ideal S512 .f32) (k : Fin 512) (q : Fin 6144) :
    broadcastTo S512x6144 (shapeCast S512x1 B shapeCasts_S512_S512x1) broadcasts_S512x1_S512x6144 (ix2 k q) = B (ix1 k) := by
  pointwise

/-- The numbers from place `o`, read at a place. -/
theorem sliceF (B : FVec Ideal S6144 .f32) (o : ℕ) (h : S6144.Slices ![o] S512) (k : Fin 512) (hk : o + k.val < 6144) :
    extractStridedSlice S512 ![o] B h (ix1 k) = B (ix1 ⟨o + k.val, hk⟩) := by
  pointwise

/-- How many of a row's marks are set. -/
theorem rowCount (x : IVec S512x6144 1) (k : Fin 512) :
    multiReductionI .add [1] S512 (extui 32 x natLt_1_32) 0#32 reduces_S512x6144_S512 rfl (ix1 k)
      = Finset.fold IntOp.addi (0#32) (fun q : Fin 6144 => BitVec.setWidth 32 (x (ix2 k q))) Finset.univ := by
  pointwise

/-- The sum of a row of words. -/
theorem rowSumI (x : IVec S512x6144 32) (k : Fin 512) :
    multiReductionI .add [1] S512 x 0#32 reduces_S512x6144_S512 rfl (ix1 k)
      = Finset.fold IntOp.addi (0#32) (fun q : Fin 6144 => x (ix2 k q)) Finset.univ := by
  pointwise

/-- The sum of a row of numbers. -/
theorem rowSumF (x : FVec Ideal S512x6144 .f32) (k : Fin 512) :
    multiReduction (F := Ideal) .add [1] S512 x 0x00000000#32 reduces_S512x6144_S512 (.inl rfl) rfl (ix1 k) = ∑ q : Fin 6144, x (ix2 k q) := by
  pointwise

/-- The column of a tile's entry, as a word. -/
theorem iota1 (k : Fin 512) (q : Fin 6144) : iota .tc S512x6144 32 [1] iota_S512x6144_d1_w32 (ix2 k q) = BitVec.ofNat 32 q.val := by
  pointwise

/-- The row of a tile's entry, as a word. -/
theorem iota0 (k : Fin 512) (q : Fin 6144) : iota .tc S512x6144 32 [0] iota_S512x6144_d0_w32 (ix2 k q) = BitVec.ofNat 32 k.val := by
  pointwise

/-- The bits that say which of two numbers comes before are its order. -/
theorem ahead_bits (p : Fin 6144 → EReal) (q i : Fin 6144) :
    IntOp.ori (Ideal.cmp .ogt (p q) (p i)) (IntOp.andi (Ideal.cmp .oeq (p q) (p i)) (IntOp.cmpi .slt (BitVec.ofNat 32 q.val) (BitVec.ofNat 32 i.val)))
      = BitVec.ofBool (ahead p q i) := by
  rw [slt_word _ _ q.isLt i.isLt]
  show IntOp.ori (BitVec.ofBool (decide (p i < p q))) (IntOp.andi (BitVec.ofBool (decide (p q = p i))) (BitVec.ofBool (decide (q.val < i.val)))) = _
  rw [WordArith.andi_ofBool, WordArith.ori_ofBool]
  rfl

/-- A tile's numbers of places before. -/
theorem rankTile_apply (p : FVec Ideal S6144 .f32) (o : ℕ) (h : S6144.Slices ![o] S512) (k : Fin 512) (hk : o + k.val < 6144) :
    rankTile p o h (ix1 k) = BitVec.ofNat 32 (rank (fun j => p (ix1 j)) ⟨o + k.val, hk⟩) := by
  refine (rowCount _ k).trans ?_
  rw [IndicatorCount.fold_addi_setWidth_eq_card]
  refine congrArg (fun S : Finset (Fin 6144) => BitVec.ofNat 32 S.card) (Finset.filter_congr fun q _ => ?_)
  have e1 := downF p k q
  have e2 := (alongF (extractStridedSlice S512 ![o] p h) k q).trans (sliceF p o h k hk)
  have e3 := iota1 k q
  have e4 : IntOp.addi (BitVec.ofNat 32 o) (iota .tc S512x6144 32 [0] iota_S512x6144_d0_w32 (ix2 k q)) = BitVec.ofNat 32 (o + k.val) := by
    rw [iota0]; exact (BitVec.ofNat_add o k.val).symm
  have e := ahead_bits (fun j => p (ix1 j)) q ⟨o + k.val, hk⟩
  dsimp only at e
  rw [← e1, ← e2, ← e3, ← e4] at e
  refine (iff_of_eq (congrArg (· = 1#1) e)).trans ?_
  generalize ahead (fun j => p (ix1 j)) q ⟨o + k.val, hk⟩ = b
  cases b <;> decide

/-- The numbers of places before each place. -/
theorem ranks_apply (p : FVec Ideal S6144 .f32) (j : Fin 6144) : ranks p (ix1 j) = BitVec.ofNat 32 (rank (fun j => p (ix1 j)) j) :=
  ends _ _ _ _ _ _ _ _ _ _ _ _ (fun j => BitVec.ofNat 32 (rank (fun j => p (ix1 j)) j))
    (fun k => rankTile_apply p 0 _ k (by omega))
    (fun k => rankTile_apply p 512 _ k (by omega))
    (fun k => rankTile_apply p 1024 _ k (by omega))
    (fun k => rankTile_apply p 1536 _ k (by omega))
    (fun k => rankTile_apply p 2048 _ k (by omega))
    (fun k => rankTile_apply p 2560 _ k (by omega))
    (fun k => rankTile_apply p 3072 _ k (by omega))
    (fun k => rankTile_apply p 3584 _ k (by omega))
    (fun k => rankTile_apply p 4096 _ k (by omega))
    (fun k => rankTile_apply p 4608 _ k (by omega))
    (fun k => rankTile_apply p 5120 _ k (by omega))
    (fun k => rankTile_apply p 5632 _ k (by omega)) j

/-- The place of each of the first 512 ranks. -/
theorem picks_apply (p : FVec Ideal S6144 .f32) (k : Fin 512) :
    picks (ranks p) (ix1 k) = BitVec.ofNat 32 (place (fun j => p (ix1 j)) (up k)).val := by
  refine (rowSumI _ k).trans (Eq.trans ?_ (pick_word (fun j => p (ix1 j)) (up k)))
  refine congrArg (fun f => Finset.fold IntOp.addi (0#32) f Finset.univ) (funext fun q => ?_)
  have e1 := (down (ranks p) k q).trans (ranks_apply p q)
  have e2 := iota0 k q
  have e3 := iota1 k q
  show _ = Scalar.select (IntOp.cmpi .eq (BitVec.ofNat 32 (rank (fun j => p (ix1 j)) q)) (BitVec.ofNat 32 k.val)) (BitVec.ofNat 32 q.val) 0#32
  rw [← e1, ← e2, ← e3]
  rfl

/-- The rows of flat places. -/
def rowsV (i : IVec S512 32) : FVec Ideal S512 .f32 := floor (divf (sitofp (F := Ideal) .f32 i) (broadcast S512 (Scalar.ofBits (F := Ideal) .f32 0x42C00000#32)))

/-- The columns of flat places. -/
def colsV (i : IVec S512 32) : FVec Ideal S512 .f32 := subf (sitofp (F := Ideal) .f32 i) (mulf (rowsV i) (broadcast S512 (Scalar.ofBits (F := Ideal) .f32 0x42C00000#32)))

/-- A row of numbers read at places, as the sums that have one term. -/
def readV (i : IVec S512 32) (s : FVec Ideal S6144 .f32) : FVec Ideal S512 .f32 :=
  multiReduction (F := Ideal) .add [1] S512 (select (cmpi .eq (broadcastTo S512x6144 (shapeCast S512x1 i shapeCasts_S512_S512x1) broadcasts_S512x1_S512x6144) (iota .tc S512x6144 32 [1] iota_S512x6144_d1_w32))
    (broadcastTo S512x6144 (shapeCast S1x6144 (shapeCast S1x6144 s shapeCasts_S6144_S1x6144) shapeCasts_S1x6144_S1x6144) broadcasts_S1x6144_S512x6144)
    (broadcast S512x6144 (Scalar.ofBits (F := Ideal) .f32 0x00000000#32))) 0x00000000#32 reduces_S512x6144_S512 (.inl rfl) rfl

/-- The row of a place. -/
theorem rowsV_apply (i : IVec S512 32) (k : Fin 512) (n : ℕ) (hn : n < 6144) (h : i (ix1 k) = BitVec.ofNat 32 n) : rowsV i (ix1 k) = rowOf n := by
  rw [← floor_row n, ← sitofp_word n hn, ← h]
  rfl

/-- The column of a place. -/
theorem colsV_apply (i : IVec S512 32) (k : Fin 512) (n : ℕ) (hn : n < 6144) (h : i (ix1 k) = BitVec.ofNat 32 n) : colsV i (ix1 k) = colOf n := by
  rw [← sub_col n, ← rowsV_apply i k n hn h, ← sitofp_word n hn, ← h]
  rfl

/-- A row of numbers repeated down the tile, once more recast. -/
theorem downG (A : FVec Ideal S6144 .f32) (k : Fin 512) (q : Fin 6144) :
    broadcastTo S512x6144 (shapeCast S1x6144 (shapeCast S1x6144 A shapeCasts_S6144_S1x6144) shapeCasts_S1x6144_S1x6144) broadcasts_S1x6144_S512x6144 (ix2 k q) = A (ix1 q) := by
  pointwise

/-- A row of numbers read at a place. -/
theorem readV_apply (i : IVec S512 32) (s : FVec Ideal S6144 .f32) (k : Fin 512) (a : Fin 6144) (h : i (ix1 k) = BitVec.ofNat 32 a.val) : readV i s (ix1 k) = s (ix1 a) := by
  refine (rowSumF _ k).trans (Eq.trans ?_ (pick_num (fun j => s (ix1 j)) a))
  refine Finset.sum_congr rfl fun q _ => ?_
  have e1 := downG s k q
  have e2 := (along i k q).trans h
  have e3 := iota1 k q
  dsimp only
  rw [← e1, ← e2, ← e3, ← Ideal.ofBits_zero_f32]
  rfl

/-- A line as an array of one row. -/
theorem line2 (v : FVec Ideal S512 .f32) (k : Fin 512) : shapeCast S1x512 v shapeCasts_S512_S1x512 (ix2 0 k) = v (ix1 k) := by
  pointwise

/-- A line as an array of one row in one plane. -/
theorem line3 (v : FVec Ideal S512 .f32) (k : Fin 512) : shapeCast S1x1x512 v shapeCasts_S512_S1x1x512 (ix3 0 0 k) = v (ix1 k) := by
  pointwise

/-- Off the last write, what the earlier ones leave. -/
theorem skip {S : Shape} (r : Rect S) (w : r.shape.Idx → Elt Ideal .f32) (L : List (View.Piece (Elt Ideal) S .f32)) (y : S.Idx) (h : y ∉ r.set) :
    View.canon (⟨r, w⟩ :: L) y = View.canon L y := View.canon_cons_of_not_mem ⟨r, w⟩ L h

/-- The first row is not in the second's part. -/
theorem off_3 (k : Fin 512) : (ix2 0 k : S2x512.Idx) ∉ r0_3.set := fun h =>
  absurd (show (1 : ℕ) ≤ 0 from (Rect.mem_set_unit.mp h 0).1) (by decide)

/-- A first plane's line is not in the second plane's second line's part. -/
theorem off_8 (c : Fin 2) (k : Fin 512) : (ix3 0 c k : S2x2x512.Idx) ∉ r0_8.set := fun h =>
  absurd (show (1 : ℕ) ≤ 0 from (Rect.mem_set_unit.mp h 0).1) (by decide)

/-- The second plane's first line is not in its second line's part. -/
theorem off_8' (k : Fin 512) : (ix3 1 0 k : S2x2x512.Idx) ∉ r0_8.set := fun h =>
  absurd (show (1 : ℕ) ≤ 0 from (Rect.mem_set_unit.mp h 1).1) (by decide)

/-- A first plane's line is not in the second plane's first line's part. -/
theorem off_7 (c : Fin 2) (k : Fin 512) : (ix3 0 c k : S2x2x512.Idx) ∉ r0_7.set := fun h =>
  absurd (show (1 : ℕ) ≤ 0 from (Rect.mem_set_unit.mp h 0).1) (by decide)

/-- The first plane's first line is not in its second line's part. -/
theorem off_6 (k : Fin 512) : (ix3 0 0 k : S2x2x512.Idx) ∉ r0_6.set := fun h =>
  absurd (show (1 : ℕ) ≤ 0 from (Rect.mem_set_unit.mp h 1).1) (by decide)

/-- The two rows written, the first read. -/
theorem canon2_0 (A B : FVec Ideal S1x512 .f32) (k : Fin 512) :
    View.canon (Val := Elt Ideal) (s := S2x512) (e := .f32) [⟨r0_3, A⟩, ⟨r0_1, B⟩] (ix2 0 k) = B (ix2 0 k) := by
  rw [skip _ _ _ _ (off_3 k)]
  have e : (ix2 0 k : S2x512.Idx) = r0_1.emb (ix2 0 k) := by
    funext a; refine Fin.ext ?_; rw [Rect.emb_apply]
    match a with
    | ⟨0, _⟩ => rfl
    | ⟨1, _⟩ => show k.val = 0 + 1 * k.val; omega
  rw [e]
  exact View.canon_cons_emb _ _ _ _

/-- The two rows written, the second read. -/
theorem canon2_1 (A B : FVec Ideal S1x512 .f32) (k : Fin 512) :
    View.canon (Val := Elt Ideal) (s := S2x512) (e := .f32) [⟨r0_3, A⟩, ⟨r0_1, B⟩] (ix2 1 k) = A (ix2 0 k) := by
  have e : (ix2 1 k : S2x512.Idx) = r0_3.emb (ix2 0 k) := by
    funext a; refine Fin.ext ?_; rw [Rect.emb_apply]
    match a with
    | ⟨0, _⟩ => rfl
    | ⟨1, _⟩ => show k.val = 0 + 1 * k.val; omega
  rw [e]
  exact View.canon_cons_emb _ _ _ _

section Four

variable (A B C D : FVec Ideal S1x1x512 .f32) (k : Fin 512)

/-- The four lines written, line (0, 0) read. -/
theorem canon4_00 : View.canon (Val := Elt Ideal) (s := S2x2x512) (e := .f32) [⟨r0_8, A⟩, ⟨r0_7, B⟩, ⟨r0_6, C⟩, ⟨r0_5, D⟩] (ix3 0 0 k) = D (ix3 0 0 k) := by
  rw [skip _ _ _ _ (off_8 0 k)]
  rw [skip _ _ _ _ (off_7 0 k)]
  rw [skip _ _ _ _ (off_6 k)]
  have e : (ix3 0 0 k : S2x2x512.Idx) = r0_5.emb (ix3 0 0 k) := by
    funext a; refine Fin.ext ?_; rw [Rect.emb_apply]
    match a with
    | ⟨0, _⟩ => rfl
    | ⟨1, _⟩ => rfl
    | ⟨2, _⟩ => show k.val = 0 + 1 * k.val; omega
  rw [e]
  exact View.canon_cons_emb _ _ _ _

/-- The four lines written, line (0, 1) read. -/
theorem canon4_01 : View.canon (Val := Elt Ideal) (s := S2x2x512) (e := .f32) [⟨r0_8, A⟩, ⟨r0_7, B⟩, ⟨r0_6, C⟩, ⟨r0_5, D⟩] (ix3 0 1 k) = C (ix3 0 0 k) := by
  rw [skip _ _ _ _ (off_8 1 k)]
  rw [skip _ _ _ _ (off_7 1 k)]
  have e : (ix3 0 1 k : S2x2x512.Idx) = r0_6.emb (ix3 0 0 k) := by
    funext a; refine Fin.ext ?_; rw [Rect.emb_apply]
    match a with
    | ⟨0, _⟩ => rfl
    | ⟨1, _⟩ => rfl
    | ⟨2, _⟩ => show k.val = 0 + 1 * k.val; omega
  rw [e]
  exact View.canon_cons_emb _ _ _ _

/-- The four lines written, line (1, 0) read. -/
theorem canon4_10 : View.canon (Val := Elt Ideal) (s := S2x2x512) (e := .f32) [⟨r0_8, A⟩, ⟨r0_7, B⟩, ⟨r0_6, C⟩, ⟨r0_5, D⟩] (ix3 1 0 k) = B (ix3 0 0 k) := by
  rw [skip _ _ _ _ (off_8' k)]
  have e : (ix3 1 0 k : S2x2x512.Idx) = r0_7.emb (ix3 0 0 k) := by
    funext a; refine Fin.ext ?_; rw [Rect.emb_apply]
    match a with
    | ⟨0, _⟩ => rfl
    | ⟨1, _⟩ => rfl
    | ⟨2, _⟩ => show k.val = 0 + 1 * k.val; omega
  rw [e]
  exact View.canon_cons_emb _ _ _ _

/-- The four lines written, line (1, 1) read. -/
theorem canon4_11 : View.canon (Val := Elt Ideal) (s := S2x2x512) (e := .f32) [⟨r0_8, A⟩, ⟨r0_7, B⟩, ⟨r0_6, C⟩, ⟨r0_5, D⟩] (ix3 1 1 k) = A (ix3 0 0 k) := by
  have e : (ix3 1 1 k : S2x2x512.Idx) = r0_8.emb (ix3 0 0 k) := by
    funext a; refine Fin.ext ?_; rw [Rect.emb_apply]
    match a with
    | ⟨0, _⟩ => rfl
    | ⟨1, _⟩ => rfl
    | ⟨2, _⟩ => show k.val = 0 + 1 * k.val; omega
  rw [e]
  exact View.canon_cons_emb _ _ _ _

end Four

section Frame

variable (a0 a1 : Vec Ideal S2x1x6144 .f32) (a2 : Vec Ideal S2x1x6144 .i32) (a3 a4 a5 : Vec Ideal S2x1x6144 .f32) (a6 : Vec Ideal S2x1x6144 .i32)
  (a7 : Vec Ideal S2x1x6144 .f32) (a8 a9 : Vec Ideal S2x1x6144 .i32) (a10 a11 : Vec Ideal S2x1x6144 .f32)

/-- The first pair's first places are these. -/
theorem picks00 : k0_pay242 (F := Ideal) a0 a1 a2 a3 a4 a5 a6 a7 a8 a9 a10 a11 = picks (ranks (k0_pay240 (F := Ideal) a0 a1 a2 a3 a4 a5 a6 a7 a8 a9 a10 a11)) := rfl

/-- The first pair's second places are these. -/
theorem picks01 : k0_pay259 (F := Ideal) a0 a1 a2 a3 a4 a5 a6 a7 a8 a9 a10 a11 = picks (ranks (k0_pay241 (F := Ideal) a0 a1 a2 a3 a4 a5 a6 a7 a8 a9 a10 a11)) := rfl

/-- The second pair's first places are these. -/
theorem picks10 : k0_pay276 (F := Ideal) a0 a1 a2 a3 a4 a5 a6 a7 a8 a9 a10 a11 = picks (ranks (k0_pay273 (F := Ideal) a0 a1 a2 a3 a4 a5 a6 a7 a8 a9 a10 a11)) := rfl

/-- The second pair's second places are these. -/
theorem picks11 : k0_pay291 (F := Ideal) a0 a1 a2 a3 a4 a5 a6 a7 a8 a9 a10 a11 = picks (ranks (k0_pay274 (F := Ideal) a0 a1 a2 a3 a4 a5 a6 a7 a8 a9 a10 a11)) := rfl

end Frame

end Cert.Kernel2Ideal.Pass2

end
-- ==== Proof.P3Out.lean ====
module

public import proofs.«01_k».proof.Proof.P3Pick

/-! The second pass's chosen points and their confidences at the extended reals, as functions of the arguments' rows. -/

@[expose] public section

set_option maxRecDepth 16384

noncomputable section

namespace Cert.Kernel2Ideal.Pass2

open Cert.Kernel2Ideal Cert.Kernel2Ideal.Gen Cert.Pass2
open Idealize.ShloMosaic

/-- Numbers for the two pairs and the first 512 ranks, as an array. -/
def grid (f : Fin 2 → Fin 512 → EReal) : Vec Ideal S2x512 .f32 := fun y => f (y 0) (y 1)

/-- Numbers for two pairs against two pairs and the first 512 ranks, as an array. -/
def cube (f : Fin 2 → Fin 2 → Fin 512 → EReal) : Vec Ideal S2x2x512 .f32 := fun y => f (y 0) (y 1) (y 2)

/-- An index of a pair and a rank. -/
theorem grid_idx (y : S2x512.Idx) : ∃ (b : Fin 2) (k : Fin 512), y = ix2 b k :=
  ⟨y 0, y 1, funext fun a => match a with
    | ⟨0, _⟩ => rfl
    | ⟨1, _⟩ => rfl⟩

/-- An index of two pairs and a rank. -/
theorem cube_idx (y : S2x2x512.Idx) : ∃ (b c : Fin 2) (k : Fin 512), y = ix3 b c k :=
  ⟨y 0, y 1, y 2, funext fun a => match a with
    | ⟨0, _⟩ => rfl
    | ⟨1, _⟩ => rfl
    | ⟨2, _⟩ => rfl⟩

/-- An array that has a pair's and a rank's number at each index. -/
theorem grid_ext (x : Vec Ideal S2x512 .f32) (f : Fin 2 → Fin 512 → EReal) (h : ∀ b k, x (ix2 b k) = f b k) : x = grid f := by
  funext y
  obtain ⟨b, k, rfl⟩ := grid_idx y
  exact h b k

/-- An array that has two pairs' and a rank's number at each index. -/
theorem cube_ext (x : Vec Ideal S2x2x512 .f32) (f : Fin 2 → Fin 2 → Fin 512 → EReal) (h : ∀ b c k, x (ix3 b c k) = f b c k) : x = cube f := by
  funext y
  obtain ⟨b, c, k, rfl⟩ := cube_idx y
  exact h b c k

/-- The number a place is chosen by, as the kernel's text says it. -/
theorem prob_apply (l : FVec Ideal S6144 .f32) (f g : IVec S6144 1) (j : Fin 6144) :
    k0_pay46 (F := Ideal) l f g (ix1 j) = prob (fun j => l (ix1 j)) (fun j => f (ix1 j)) (fun j => g (ix1 j)) j := by
  unfold prob
  rw [← Ideal.ofBits_zero_f32]
  rfl

section Outs

open Cert.Kernel2Ideal.Value

variable (a0 a1 : Vec Ideal S2x1x6144 .f32) (a2 : Vec Ideal S2x1x6144 .i32) (a3 a4 a5 : Vec Ideal S2x1x6144 .f32) (a6 : Vec Ideal S2x1x6144 .i32)
  (a7 : Vec Ideal S2x1x6144 .f32) (a8 a9 : Vec Ideal S2x1x6144 .i32) (a10 a11 : Vec Ideal S2x1x6144 .f32)

/-- The numbers that a pair's places are chosen by, given its row of scores. -/
def chance (x2 x6 x8 x9 : Vec Ideal S2x1x6144 .i32) (l : Vec Ideal S2x1x6144 .f32) (b : Fin 2) : Fin 6144 → EReal :=
  prob (row l b) (right (row x2 b) (row x8 b)) (right (row x6 b) (row x9 b))

/-- The place of a pair's rank. -/
def chosen (x2 x6 x8 x9 : Vec Ideal S2x1x6144 .i32) (l : Vec Ideal S2x1x6144 .f32) (b : Fin 2) (k : Fin 512) : Fin 6144 :=
  place (chance x2 x6 x8 x9 l b) (up k)

/-- Pair 0, side 0: the place of each rank. -/
theorem word00 (k : Fin 512) : k0_pay242 (F := Ideal) a0 a1 a2 a3 a4 a5 a6 a7 a8 a9 a10 a11 (ix1 k) = BitVec.ofNat 32 (chosen a2 a6 a8 a9 a10 0 k).val := by
  have e : (fun j => k0_pay240 (F := Ideal) a0 a1 a2 a3 a4 a5 a6 a7 a8 a9 a10 a11 (ix1 j)) = chance a2 a6 a8 a9 a10 0 := by
    have e := fun j => prob_apply (k0_pay12 (F := Ideal) (View.ld a10 r0_0)) (k0_pay15 (k0_pay4 (F := Ideal) (View.ld a2 r0_0)) (k0_pay10 (F := Ideal) (View.ld a8 r0_0))) (k0_pay16 (k0_pay8 (F := Ideal) (View.ld a6 r0_0)) (k0_pay11 (F := Ideal) (View.ld a9 r0_0))) j
    rw [show (fun j => (k0_pay12 (F := Ideal) (View.ld a10 r0_0)) (ix1 j)) = row a10 0 from funext fun j => load0 a10 j,
      show (fun j => (k0_pay15 (k0_pay4 (F := Ideal) (View.ld a2 r0_0)) (k0_pay10 (F := Ideal) (View.ld a8 r0_0))) (ix1 j)) = right (row a2 0) (row a8 0) from funext fun j => congrArg₂ (IntOp.cmpi .eq) (loadI0 a2 j) (loadI0 a8 j),
      show (fun j => (k0_pay16 (k0_pay8 (F := Ideal) (View.ld a6 r0_0)) (k0_pay11 (F := Ideal) (View.ld a9 r0_0))) (ix1 j)) = right (row a6 0) (row a9 0) from funext fun j => congrArg₂ (IntOp.cmpi .eq) (loadI0 a6 j) (loadI0 a9 j)] at e
    exact funext e
  rw [picks00, picks_apply, e]
  rfl

/-- Pair 0, side 1: the place of each rank. -/
theorem word01 (k : Fin 512) : k0_pay259 (F := Ideal) a0 a1 a2 a3 a4 a5 a6 a7 a8 a9 a10 a11 (ix1 k) = BitVec.ofNat 32 (chosen a2 a6 a8 a9 a11 0 k).val := by
  have e : (fun j => k0_pay241 (F := Ideal) a0 a1 a2 a3 a4 a5 a6 a7 a8 a9 a10 a11 (ix1 j)) = chance a2 a6 a8 a9 a11 0 := by
    have e := fun j => prob_apply (k0_pay13 (F := Ideal) (View.ld a11 r0_0)) (k0_pay15 (k0_pay4 (F := Ideal) (View.ld a2 r0_0)) (k0_pay10 (F := Ideal) (View.ld a8 r0_0))) (k0_pay16 (k0_pay8 (F := Ideal) (View.ld a6 r0_0)) (k0_pay11 (F := Ideal) (View.ld a9 r0_0))) j
    rw [show (fun j => (k0_pay13 (F := Ideal) (View.ld a11 r0_0)) (ix1 j)) = row a11 0 from funext fun j => load0 a11 j,
      show (fun j => (k0_pay15 (k0_pay4 (F := Ideal) (View.ld a2 r0_0)) (k0_pay10 (F := Ideal) (View.ld a8 r0_0))) (ix1 j)) = right (row a2 0) (row a8 0) from funext fun j => congrArg₂ (IntOp.cmpi .eq) (loadI0 a2 j) (loadI0 a8 j),
      show (fun j => (k0_pay16 (k0_pay8 (F := Ideal) (View.ld a6 r0_0)) (k0_pay11 (F := Ideal) (View.ld a9 r0_0))) (ix1 j)) = right (row a6 0) (row a9 0) from funext fun j => congrArg₂ (IntOp.cmpi .eq) (loadI0 a6 j) (loadI0 a9 j)] at e
    exact funext e
  rw [picks01, picks_apply, e]
  rfl

/-- Pair 1, side 0: the place of each rank. -/
theorem word10 (k : Fin 512) : k0_pay276 (F := Ideal) a0 a1 a2 a3 a4 a5 a6 a7 a8 a9 a10 a11 (ix1 k) = BitVec.ofNat 32 (chosen a2 a6 a8 a9 a10 1 k).val := by
  have e : (fun j => k0_pay273 (F := Ideal) a0 a1 a2 a3 a4 a5 a6 a7 a8 a9 a10 a11 (ix1 j)) = chance a2 a6 a8 a9 a10 1 := by
    have e := fun j => prob_apply (k0_pay116 (F := Ideal) (View.ld a10 r0_2)) (k0_pay119 (k0_pay108 (F := Ideal) (View.ld a2 r0_2)) (k0_pay114 (F := Ideal) (View.ld a8 r0_2))) (k0_pay120 (k0_pay112 (F := Ideal) (View.ld a6 r0_2)) (k0_pay115 (F := Ideal) (View.ld a9 r0_2))) j
    rw [show (fun j => (k0_pay116 (F := Ideal) (View.ld a10 r0_2)) (ix1 j)) = row a10 1 from funext fun j => load1 a10 j,
      show (fun j => (k0_pay119 (k0_pay108 (F := Ideal) (View.ld a2 r0_2)) (k0_pay114 (F := Ideal) (View.ld a8 r0_2))) (ix1 j)) = right (row a2 1) (row a8 1) from funext fun j => congrArg₂ (IntOp.cmpi .eq) (loadI1 a2 j) (loadI1 a8 j),
      show (fun j => (k0_pay120 (k0_pay112 (F := Ideal) (View.ld a6 r0_2)) (k0_pay115 (F := Ideal) (View.ld a9 r0_2))) (ix1 j)) = right (row a6 1) (row a9 1) from funext fun j => congrArg₂ (IntOp.cmpi .eq) (loadI1 a6 j) (loadI1 a9 j)] at e
    exact funext e
  rw [picks10, picks_apply, e]
  rfl

/-- Pair 1, side 1: the place of each rank. -/
theorem word11 (k : Fin 512) : k0_pay291 (F := Ideal) a0 a1 a2 a3 a4 a5 a6 a7 a8 a9 a10 a11 (ix1 k) = BitVec.ofNat 32 (chosen a2 a6 a8 a9 a11 1 k).val := by
  have e : (fun j => k0_pay274 (F := Ideal) a0 a1 a2 a3 a4 a5 a6 a7 a8 a9 a10 a11 (ix1 j)) = chance a2 a6 a8 a9 a11 1 := by
    have e := fun j => prob_apply (k0_pay117 (F := Ideal) (View.ld a11 r0_2)) (k0_pay119 (k0_pay108 (F := Ideal) (View.ld a2 r0_2)) (k0_pay114 (F := Ideal) (View.ld a8 r0_2))) (k0_pay120 (k0_pay112 (F := Ideal) (View.ld a6 r0_2)) (k0_pay115 (F := Ideal) (View.ld a9 r0_2))) j
    rw [show (fun j => (k0_pay117 (F := Ideal) (View.ld a11 r0_2)) (ix1 j)) = row a11 1 from funext fun j => load1 a11 j,
      show (fun j => (k0_pay119 (k0_pay108 (F := Ideal) (View.ld a2 r0_2)) (k0_pay114 (F := Ideal) (View.ld a8 r0_2))) (ix1 j)) = right (row a2 1) (row a8 1) from funext fun j => congrArg₂ (IntOp.cmpi .eq) (loadI1 a2 j) (loadI1 a8 j),
      show (fun j => (k0_pay120 (k0_pay112 (F := Ideal) (View.ld a6 r0_2)) (k0_pay115 (F := Ideal) (View.ld a9 r0_2))) (ix1 j)) = right (row a6 1) (row a9 1) from funext fun j => congrArg₂ (IntOp.cmpi .eq) (loadI1 a6 j) (loadI1 a9 j)] at e
    exact funext e
  rw [picks11, picks_apply, e]
  rfl

/-- The rows of side 0's chosen places. -/
theorem out16 : G16 (F := Ideal) a0 a1 a2 a3 a4 a5 a6 a7 a8 a9 a10 a11 = grid fun b k => rowOf (chosen a2 a6 a8 a9 a10 b k).val := by
  funext y
  obtain ⟨b, k, rfl⟩ := grid_idx y
  match b with
  | ⟨0, _⟩ => exact (canon2_0 _ _ k).trans ((line2 (rowsV (k0_pay242 (F := Ideal) a0 a1 a2 a3 a4 a5 a6 a7 a8 a9 a10 a11)) k).trans (rowsV_apply _ k _ (Fin.isLt _) (word00 a0 a1 a2 a3 a4 a5 a6 a7 a8 a9 a10 a11 k)))
  | ⟨1, _⟩ => exact (canon2_1 _ _ k).trans ((line2 (rowsV (k0_pay276 (F := Ideal) a0 a1 a2 a3 a4 a5 a6 a7 a8 a9 a10 a11)) k).trans (rowsV_apply _ k _ (Fin.isLt _) (word10 a0 a1 a2 a3 a4 a5 a6 a7 a8 a9 a10 a11 k)))

/-- The cols of side 0's chosen places. -/
theorem out17 : G17 (F := Ideal) a0 a1 a2 a3 a4 a5 a6 a7 a8 a9 a10 a11 = grid fun b k => colOf (chosen a2 a6 a8 a9 a10 b k).val := by
  funext y
  obtain ⟨b, k, rfl⟩ := grid_idx y
  match b with
  | ⟨0, _⟩ => exact (canon2_0 _ _ k).trans ((line2 (colsV (k0_pay242 (F := Ideal) a0 a1 a2 a3 a4 a5 a6 a7 a8 a9 a10 a11)) k).trans (colsV_apply _ k _ (Fin.isLt _) (word00 a0 a1 a2 a3 a4 a5 a6 a7 a8 a9 a10 a11 k)))
  | ⟨1, _⟩ => exact (canon2_1 _ _ k).trans ((line2 (colsV (k0_pay276 (F := Ideal) a0 a1 a2 a3 a4 a5 a6 a7 a8 a9 a10 a11)) k).trans (colsV_apply _ k _ (Fin.isLt _) (word10 a0 a1 a2 a3 a4 a5 a6 a7 a8 a9 a10 a11 k)))

/-- The rows of side 1's chosen places. -/
theorem out18 : G18 (F := Ideal) a0 a1 a2 a3 a4 a5 a6 a7 a8 a9 a10 a11 = grid fun b k => rowOf (chosen a2 a6 a8 a9 a11 b k).val := by
  funext y
  obtain ⟨b, k, rfl⟩ := grid_idx y
  match b with
  | ⟨0, _⟩ => exact (canon2_0 _ _ k).trans ((line2 (rowsV (k0_pay259 (F := Ideal) a0 a1 a2 a3 a4 a5 a6 a7 a8 a9 a10 a11)) k).trans (rowsV_apply _ k _ (Fin.isLt _) (word01 a0 a1 a2 a3 a4 a5 a6 a7 a8 a9 a10 a11 k)))
  | ⟨1, _⟩ => exact (canon2_1 _ _ k).trans ((line2 (rowsV (k0_pay291 (F := Ideal) a0 a1 a2 a3 a4 a5 a6 a7 a8 a9 a10 a11)) k).trans (rowsV_apply _ k _ (Fin.isLt _) (word11 a0 a1 a2 a3 a4 a5 a6 a7 a8 a9 a10 a11 k)))

/-- The cols of side 1's chosen places. -/
theorem out19 : G19 (F := Ideal) a0 a1 a2 a3 a4 a5 a6 a7 a8 a9 a10 a11 = grid fun b k => colOf (chosen a2 a6 a8 a9 a11 b k).val := by
  funext y
  obtain ⟨b, k, rfl⟩ := grid_idx y
  match b with
  | ⟨0, _⟩ => exact (canon2_0 _ _ k).trans ((line2 (colsV (k0_pay259 (F := Ideal) a0 a1 a2 a3 a4 a5 a6 a7 a8 a9 a10 a11)) k).trans (colsV_apply _ k _ (Fin.isLt _) (word01 a0 a1 a2 a3 a4 a5 a6 a7 a8 a9 a10 a11 k)))
  | ⟨1, _⟩ => exact (canon2_1 _ _ k).trans ((line2 (colsV (k0_pay291 (F := Ideal) a0 a1 a2 a3 a4 a5 a6 a7 a8 a9 a10 a11)) k).trans (colsV_apply _ k _ (Fin.isLt _) (word11 a0 a1 a2 a3 a4 a5 a6 a7 a8 a9 a10 a11 k)))

/-- Pair 0, side 0: a place's one over its sum. -/
theorem sim00 (j : Fin 6144) : k0_pay238 (F := Ideal) a0 a1 a2 a3 a4 a5 a6 a7 a8 a9 a10 a11 (ix1 j) = sim (row a1 0) j :=
  congrArg (Ideal.div (Ideal.ofBits FTy.f32 1065353216#32)) (load0 a1 j)

/-- Pair 0, side 1: a place's one over its sum. -/
theorem sim01 (j : Fin 6144) : k0_pay239 (F := Ideal) a0 a1 a2 a3 a4 a5 a6 a7 a8 a9 a10 a11 (ix1 j) = sim (row a5 0) j :=
  congrArg (Ideal.div (Ideal.ofBits FTy.f32 1065353216#32)) (load0 a5 j)

/-- Pair 1, side 0: a place's one over its sum. -/
theorem sim10 (j : Fin 6144) : k0_pay271 (F := Ideal) a0 a1 a2 a3 a4 a5 a6 a7 a8 a9 a10 a11 (ix1 j) = sim (row a1 1) j :=
  congrArg (Ideal.div (Ideal.ofBits FTy.f32 1065353216#32)) (load1 a1 j)

/-- Pair 1, side 1: a place's one over its sum. -/
theorem sim11 (j : Fin 6144) : k0_pay272 (F := Ideal) a0 a1 a2 a3 a4 a5 a6 a7 a8 a9 a10 a11 (ix1 j) = sim (row a5 1) j :=
  congrArg (Ideal.div (Ideal.ofBits FTy.f32 1065353216#32)) (load1 a5 j)

/-- The confidences of the chosen places. -/
theorem out20 : G20 (F := Ideal) a0 a1 a2 a3 a4 a5 a6 a7 a8 a9 a10 a11 = cube fun b c k => sim (row a1 b) (chosen a2 a6 a8 a9 a10 c k) * sim (row a5 b) (chosen a2 a6 a8 a9 a11 c k) := by
  funext y
  obtain ⟨b, c, k, rfl⟩ := cube_idx y
  match b, c with
  | ⟨0, _⟩, ⟨0, _⟩ =>
    exact (canon4_00 _ _ _ _ k).trans ((line3 (mulf (readV (k0_pay242 (F := Ideal) a0 a1 a2 a3 a4 a5 a6 a7 a8 a9 a10 a11) (k0_pay238 (F := Ideal) a0 a1 a2 a3 a4 a5 a6 a7 a8 a9 a10 a11)) (readV (k0_pay259 (F := Ideal) a0 a1 a2 a3 a4 a5 a6 a7 a8 a9 a10 a11) (k0_pay239 (F := Ideal) a0 a1 a2 a3 a4 a5 a6 a7 a8 a9 a10 a11))) k).trans
      (congrArg₂ (fun u v : EReal => u * v) ((readV_apply _ _ k _ (word00 a0 a1 a2 a3 a4 a5 a6 a7 a8 a9 a10 a11 k)).trans (sim00 a0 a1 a2 a3 a4 a5 a6 a7 a8 a9 a10 a11 _)) ((readV_apply _ _ k _ (word01 a0 a1 a2 a3 a4 a5 a6 a7 a8 a9 a10 a11 k)).trans (sim01 a0 a1 a2 a3 a4 a5 a6 a7 a8 a9 a10 a11 _))))
  | ⟨0, _⟩, ⟨1, _⟩ =>
    exact (canon4_01 _ _ _ _ k).trans ((line3 (mulf (readV (k0_pay276 (F := Ideal) a0 a1 a2 a3 a4 a5 a6 a7 a8 a9 a10 a11) (k0_pay238 (F := Ideal) a0 a1 a2 a3 a4 a5 a6 a7 a8 a9 a10 a11)) (readV (k0_pay291 (F := Ideal) a0 a1 a2 a3 a4 a5 a6 a7 a8 a9 a10 a11) (k0_pay239 (F := Ideal) a0 a1 a2 a3 a4 a5 a6 a7 a8 a9 a10 a11))) k).trans
      (congrArg₂ (fun u v : EReal => u * v) ((readV_apply _ _ k _ (word10 a0 a1 a2 a3 a4 a5 a6 a7 a8 a9 a10 a11 k)).trans (sim00 a0 a1 a2 a3 a4 a5 a6 a7 a8 a9 a10 a11 _)) ((readV_apply _ _ k _ (word11 a0 a1 a2 a3 a4 a5 a6 a7 a8 a9 a10 a11 k)).trans (sim01 a0 a1 a2 a3 a4 a5 a6 a7 a8 a9 a10 a11 _))))
  | ⟨1, _⟩, ⟨0, _⟩ =>
    exact (canon4_10 _ _ _ _ k).trans ((line3 (mulf (readV (k0_pay242 (F := Ideal) a0 a1 a2 a3 a4 a5 a6 a7 a8 a9 a10 a11) (k0_pay271 (F := Ideal) a0 a1 a2 a3 a4 a5 a6 a7 a8 a9 a10 a11)) (readV (k0_pay259 (F := Ideal) a0 a1 a2 a3 a4 a5 a6 a7 a8 a9 a10 a11) (k0_pay272 (F := Ideal) a0 a1 a2 a3 a4 a5 a6 a7 a8 a9 a10 a11))) k).trans
      (congrArg₂ (fun u v : EReal => u * v) ((readV_apply _ _ k _ (word00 a0 a1 a2 a3 a4 a5 a6 a7 a8 a9 a10 a11 k)).trans (sim10 a0 a1 a2 a3 a4 a5 a6 a7 a8 a9 a10 a11 _)) ((readV_apply _ _ k _ (word01 a0 a1 a2 a3 a4 a5 a6 a7 a8 a9 a10 a11 k)).trans (sim11 a0 a1 a2 a3 a4 a5 a6 a7 a8 a9 a10 a11 _))))
  | ⟨1, _⟩, ⟨1, _⟩ =>
    exact (canon4_11 _ _ _ _ k).trans ((line3 (mulf (readV (k0_pay276 (F := Ideal) a0 a1 a2 a3 a4 a5 a6 a7 a8 a9 a10 a11) (k0_pay271 (F := Ideal) a0 a1 a2 a3 a4 a5 a6 a7 a8 a9 a10 a11)) (readV (k0_pay291 (F := Ideal) a0 a1 a2 a3 a4 a5 a6 a7 a8 a9 a10 a11) (k0_pay272 (F := Ideal) a0 a1 a2 a3 a4 a5 a6 a7 a8 a9 a10 a11))) k).trans
      (congrArg₂ (fun u v : EReal => u * v) ((readV_apply _ _ k _ (word10 a0 a1 a2 a3 a4 a5 a6 a7 a8 a9 a10 a11 k)).trans (sim10 a0 a1 a2 a3 a4 a5 a6 a7 a8 a9 a10 a11 _)) ((readV_apply _ _ k _ (word11 a0 a1 a2 a3 a4 a5 a6 a7 a8 a9 a10 a11 k)).trans (sim11 a0 a1 a2 a3 a4 a5 a6 a7 a8 a9 a10 a11 _))))

end Outs

end Cert.Kernel2Ideal.Pass2

end
-- ==== Proof.P3Ref.lean ====
module

public import proofs.«01_k».proof.Proof.P2Ref
public import proofs.«01_k».proof.Proof.P3Rank

/-! The reference of the second pass: its chosen points and their confidences at the extended reals, as functions of the arguments' rows. -/

@[expose] public section

set_option maxRecDepth 16384

noncomputable section

namespace Cert.Reference2Ideal.Pass2

open Cert.Reference2Ideal Cert.Reference2Ideal.Gen Cert.Pass2
open Idealize.ShloMosaic Idealize.ShloMosaic.StableHlo

/-- An index of a pair and a place, moved along the places. -/
theorem along_ix (b : Fin 2) (j q : Fin 6144) : Shape.Idx.along (s := S2x6144) (ix2 b j) 1 q = ix2 b q := by
  funext a
  match a with
  | ⟨0, _⟩ => rfl
  | ⟨1, _⟩ => rfl

/-- The first 512 places of a row. -/
theorem slice_apply {α : Type} (x : S2x6144.Idx → α) (b : Fin 2) (k : Fin 512) :
    extractStridedSlice S2x512 (fun _ => 0) x sliceFits_S2x6144_S2x512 (ix2 b k) = x (ix2 b (up k)) := by
  unfold extractStridedSlice
  congr 1
  funext a
  match a with
  | ⟨0, _⟩ => exact Fin.ext (Nat.zero_add _)
  | ⟨1, _⟩ => exact Fin.ext (Nat.zero_add _)

/-- The places of the greatest numbers, in order, equal numbers by place. -/
theorem greatest_apply (x : Vec Ideal S2x6144 .f32) (b : Fin 2) (k : Fin 512) :
    greatest x (ix2 b k) = BitVec.ofNat 32 (place (fun j => x (ix2 b j)) (up k)).val := by
  have e := sorted_place (fun j => x (ix2 b j)) (fun q i => FloatOps.cmpfTotal (F := Ideal) (φ := .f32) .gt (x (ix2 b q)) (x (ix2 b i)) == 1#1) (fun q i => by
    show (BitVec.ofBool (decide (x (ix2 b i) < x (ix2 b q))) == 1#1) = _
    cases decide (x (ix2 b i) < x (ix2 b q)) <;> rfl) (up k)
  have c : ∀ (h : 1 < S2x6144.rank) q, Shape.Idx.along (s := S2x6144) (ix2 b (up k)) ⟨1, h⟩ q = ix2 b q := fun _ q => along_ix b (up k) q
  unfold greatest Host.topK Host.sort2
  dsimp only
  rw [dif_pos (show 1 < S2x6144.rank from by decide), slice_apply]
  dsimp only
  rw [dif_pos (show 1 < 2 from by decide)]
  simp only [c]
  exact congrArg (fun z : Fin 6144 => BitVec.ofNat 32 z.val) e

/-- The number a place is chosen by. -/
theorem scored_apply (f g : IVec S2x6144 1) (x : Vec Ideal S2x1x6144 .f32) (b : Fin 2) (j : Fin 6144) :
    scored f g x (ix2 b j) = prob (row x b) (fun j => f (ix2 b j)) (fun j => g (ix2 b j)) j := by
  unfold scored prob
  pointwise
  rw [← Ideal.ofBits_zero_f32]
  rfl

/-- The row of a place. -/
theorem rowsOf_apply (i : IVec S2x512 32) (b : Fin 2) (k : Fin 512) (n : ℕ) (hn : n < 6144) (h : i (ix2 b k) = BitVec.ofNat 32 n) :
    rowsOf i (ix2 b k) = rowOf n := by
  unfold rowsOf
  pointwise
  rw [h]
  rw [show id (constantI S_ 32 96#32) ix0 = 96#32 from rfl, div_word n hn, rem_word n hn]
  have e := div_fix n hn
  unfold signWord at e
  rw [e]
  exact round_word (n / 96) (by omega)

/-- The column of a place. -/
theorem colsOf_apply (i : IVec S2x512 32) (b : Fin 2) (k : Fin 512) (n : ℕ) (hn : n < 6144) (h : i (ix2 b k) = BitVec.ofNat 32 n) :
    colsOf i (ix2 b k) = colOf n := by
  unfold colsOf
  pointwise
  rw [h]
  rw [show Scalar.select (IntOp.cmpi CmpIPredicate.eq (id (constantI S_ 32 96#32) ix0) 0#32) (1#32) (id (constantI S_ 32 96#32) ix0) = 96#32 from rfl, rem_word n hn,
    rem_fix (n % 96) (by omega)]
  exact round_word (n % 96) (by omega)

/-- A pair's number at another pair's place. -/
theorem gather_across {α : Type} (x : S2x6144.Idx → α) (idx : IVec S2x512x1 32) (b c : Fin 2) (k : Fin 512) (hp : (idx (ix3 c k 0)).toNat < 6144) :
    Host.gather gather_S2x6144_S2x512x1_S2x2x512_0_1_n_n_1_2_21 x idx (ix3 b c k) = x (ix2 b ⟨(idx (ix3 c k 0)).toNat, hp⟩) := by
  have tn : (idx (ix3 c k 0)).toInt.toNat = (idx (ix3 c k 0)).toNat := by
    rw [BitVec.toInt_eq_toNat_cond]; omega
  unfold Host.gather
  congr 1
  funext a
  refine Fin.ext ?_
  have m1 : gather_S2x6144_S2x512x1_S2x2x512_0_1_n_n_1_2_21.startIndexMap = [1] := rfl
  have m2 : gather_S2x6144_S2x512x1_S2x2x512_0_1_n_n_1_2_21.operandBatchingDims = [] := rfl
  have m3 : gather_S2x6144_S2x512x1_S2x2x512_0_1_n_n_1_2_21.collapsedSliceDims = [1] := rfl
  have hsi : ∀ q, q.val = 0 → GatherDims.siIdx gather_S2x6144_S2x512x1_S2x2x512_0_1_n_n_1_2_21 (ix3 b c k) q = ix3 c k 0 := by
    intro q hq; funext d; refine Fin.ext ?_
    match d with
    | ⟨0, _⟩ => rfl
    | ⟨1, _⟩ => rfl
    | ⟨2, _⟩ => exact hq
  show GatherDims.start gather_S2x6144_S2x512x1_S2x2x512_0_1_n_n_1_2_21 (ix3 b c k) idx a + GatherDims.batchCoord gather_S2x6144_S2x512x1_S2x2x512_0_1_n_n_1_2_21 (ix3 b c k) a + GatherDims.offCoord gather_S2x6144_S2x512x1_S2x2x512_0_1_n_n_1_2_21 (ix3 b c k) a = _
  rw [GatherDims.batchCoord_eq_zero _ _ _ (show a ∉ gather_S2x6144_S2x512x1_S2x2x512_0_1_n_n_1_2_21.operandBatchingDims from by rw [m2]; exact List.not_mem_nil)]
  have h3 : a = 0 ∨ a = 1 := by
    match a with
    | ⟨0, _⟩ => exact .inl rfl
    | ⟨1, _⟩ => exact .inr rfl
  rcases h3 with rfl | rfl
  · unfold GatherDims.start GatherDims.offCoord
    rw [dif_neg (show (0 : Fin 2) ∉ gather_S2x6144_S2x512x1_S2x2x512_0_1_n_n_1_2_21.startIndexMap from by rw [m1]; decide),
      dif_pos (show (0 : Fin 2) ∈ gather_S2x6144_S2x512x1_S2x2x512_0_1_n_n_1_2_21.sKept from (GatherDims.mem_sKept _ _).mpr ⟨by rw [m3]; decide, by rw [m2]; exact List.not_mem_nil⟩)]
    simp only [Nat.zero_add, Nat.add_zero]
    rfl
  · rw [GatherDims.offCoord_eq_zero _ _ _ (fun h => by
      have := (GatherDims.mem_sKept _ _).mp h
      rw [m3] at this
      exact this.1 (by decide))]
    unfold GatherDims.start
    rw [dif_pos (show (1 : Fin 2) ∈ gather_S2x6144_S2x512x1_S2x2x512_0_1_n_n_1_2_21.startIndexMap from by rw [m1]; decide)]
    simp only [Nat.add_zero]
    refine (congrArg (fun z => min (idx z).toInt.toNat 6143) (hsi _ rfl)).trans ?_
    show min (idx (ix3 c k 0)).toInt.toNat 6143 = (idx (ix3 c k 0)).toNat
    rw [tn]; omega

/-- A pair's number at another pair's place, the place given as a word. -/
theorem gather_at {α : Type} (x : S2x6144.Idx → α) (idx : IVec S2x512x1 32) (b c : Fin 2) (k : Fin 512) (p : Fin 6144) (h : idx (ix3 c k 0) = BitVec.ofNat 32 p.val) :
    Host.gather gather_S2x6144_S2x512x1_S2x2x512_0_1_n_n_1_2_21 x idx (ix3 b c k) = x (ix2 b p) := by
  have n : (idx (ix3 c k 0)).toNat = p.val := (congrArg BitVec.toNat h).trans (toNat_place p.val p.isLt)
  exact (gather_across x idx b c k (n ▸ p.isLt)).trans (congrArg (fun q => x (ix2 b q)) (Fin.ext n))

/-- The confidence of two places. -/
theorem confOf_apply (x1 x5 : Vec Ideal S2x1x6144 .f32) (i j : IVec S2x512 32) (b c : Fin 2) (k : Fin 512) (p q : Fin 6144)
    (hi : i (ix2 c k) = BitVec.ofNat 32 p.val) (hj : j (ix2 c k) = BitVec.ofNat 32 q.val) :
    confOf x1 x5 i j (ix3 b c k) = sim (row x1 b) p * sim (row x5 b) q := by
  have w : ∀ (i : IVec S2x512 32) (p : Fin 6144), i (ix2 c k) = BitVec.ofNat 32 p.val →
      (broadcastInDim S2x512x1 ![0, 1] bcast_S2x512_S2x512x1_0_1 (select (cmpi .slt i (broadcastInDim S2x512 ![] bcast_S_S2x512 (constantI S_ 32 0#32))) (addi i (broadcastInDim S2x512 ![] bcast_S_S2x512 (constantI S_ 32 6144#32))) i)) (ix3 c k 0) = BitVec.ofNat 32 p.val := by
    intro i p h
    pointwise
    rw [h]
    exact Cert.ReferenceIdeal.Stats.wrap_word _ (by rw [toNat_place p.val p.isLt]; exact p.isLt)
  have g : ∀ (x : Vec Ideal S2x1x6144 .f32) (i : IVec S2x512 32) (p : Fin 6144), i (ix2 c k) = BitVec.ofNat 32 p.val →
      Host.gather gather_S2x6144_S2x512x1_S2x2x512_0_1_n_n_1_2_21 (Host.divf (broadcastInDim S2x6144 ![] bcast_S_S2x6144 (constant (F := Ideal) S_ .f32 0x3F800000#32)) (shapeCast _ (x) shapeCasts_S2x1x6144_S2x6144)) (broadcastInDim S2x512x1 ![0, 1] bcast_S2x512_S2x512x1_0_1 (select (cmpi .slt i (broadcastInDim S2x512 ![] bcast_S_S2x512 (constantI S_ 32 0#32))) (addi i (broadcastInDim S2x512 ![] bcast_S_S2x512 (constantI S_ 32 6144#32))) i)) (ix3 b c k) = sim (row x b) p := by
    intro x i p h
    rw [gather_at _ _ b c k p (w i p h)]
    unfold sim
    pointwise
    rfl
  unfold confOf
  exact congrArg₂ (fun u v : EReal => u * v) (g x1 i p hi) (g x5 j q hj)

end Cert.Reference2Ideal.Pass2

end
-- ==== Proof.P2Agree.lean ====
module

public import proofs.«01_k».proof.Proof.P2Kernel
public import proofs.«01_k».proof.Proof.P2Ref
public import proofs.«01_k».proof.Proof.P3Out
public import proofs.«01_k».proof.Proof.P3Ref
public import proofs.«01_k».proof.Proof.Gen.Pre_places_in_range
public import Idealize.ShloMosaic.Lib.ReduceAll

/-! The second pass's results and its reference's, at the extended reals, are the same functions of the arguments when the places and the
correspondences are in range. -/

@[expose] public section

set_option maxRecDepth 16384

noncomputable section

namespace Cert.Kernel2Ideal.Pass2

open Cert.Kernel2Ideal Cert.Kernel2Ideal.Gen Cert.Pass2
open Idealize.ShloMosaic Idealize.ShloMosaic.StableHlo
open Idealize.SL.Sem

/-- A word at least zero and below 6144, as the precondition's two bits say it. -/
theorem word_range (x : BitVec 32) (ha : IntOp.cmpi .sge x 0#32 = 1#1) (hb : IntOp.cmpi .slt x 6144#32 = 1#1) : x.toNat < 6144 := by
  have k : IntOp.andi (IntOp.cmpi .sge x 0#32) (IntOp.cmpi .slt x (BitVec.ofNat 32 6144)) = 1#1 := IntOp.andi_eq_one.mpr ⟨ha, hb⟩
  rw [WordCmp.andi_sge_zero_slt_ofNat (by norm_num)] at k
  by_contra hc
  rw [decide_eq_false hc] at k
  exact absurd k (by decide)

/-- What the precondition says of the places and the correspondences. -/
theorem in_range (a0 a1 : Vec Ideal S2x1x6144 .f32) (a2 : Vec Ideal S2x1x6144 .i32) (a3 a4 a5 : Vec Ideal S2x1x6144 .f32) (a6 : Vec Ideal S2x1x6144 .i32)
    (a7 : Vec Ideal S2x1x6144 .f32) (a8 a9 : Vec Ideal S2x1x6144 .i32) (a10 a11 : Vec Ideal S2x1x6144 .f32)
    (h : Cert.Pre_places_in_range.fn (F := Ideal) a0 a1 a2 a3 a4 a5 a6 a7 a8 a9 a10 a11 = fun _ => 1#1) (b : Fin 2) (j : Fin 6144) :
    (a2 (ix3 b 0 j)).toNat < 6144 ∧ (a6 (ix3 b 0 j)).toNat < 6144 ∧ (a8 (ix3 b 0 j)).toNat < 6144 ∧ (a9 (ix3 b 0 j)).toNat < 6144 := by
  haveI : Subsingleton Cert.Pre_places_in_range.S_.Idx := ⟨fun x y => funext fun k => k.elim0⟩
  unfold Cert.Pre_places_in_range.fn Cert.Pre_places_in_range.fn_part1 at h
  dsimp only at h
  have e := Host.reduce_andi_all _ _ _ _ (fun k => k.elim0) (congrFun h fun k => k.elim0) (ix3 b 0 j)
  obtain ⟨e, p8⟩ := IntOp.andi_eq_one.mp e
  obtain ⟨e, p7⟩ := IntOp.andi_eq_one.mp e
  obtain ⟨e, p6⟩ := IntOp.andi_eq_one.mp e
  obtain ⟨e, p5⟩ := IntOp.andi_eq_one.mp e
  obtain ⟨e, p4⟩ := IntOp.andi_eq_one.mp e
  obtain ⟨e, p3⟩ := IntOp.andi_eq_one.mp e
  obtain ⟨p1, p2⟩ := IntOp.andi_eq_one.mp e
  exact ⟨word_range _ p1 p2, word_range _ p3 p4, word_range _ p5 p6, word_range _ p7 p8⟩

/-- A match is returned, as the packed words say it, exactly where the reference's gathered place is the row's. -/
theorem returned_eq (x2 x6 : Vec Ideal S2x1x6144 .i32) (h2 : ∀ b j, (row x2 b j).toNat < 6144) (h6 : ∀ b j, (row x6 b j).toNat < 6144) (b : Fin 2) (j : Fin 6144) :
    Cert.Reference2Ideal.Pass2.returns x2 x6 (ix2 b j) = returned (row x2 b) (row x6 b) j :=
  (Cert.Reference2Ideal.Pass2.returns_apply x2 x6 b j (h2 b j)).trans (among_packed (row x6 b) (h6 b) j (row x2 b j) (h2 b j)).symm

/-- The reference's chosen places are the kernel's. -/
theorem greatest_eq (x2 x6 x8 x9 : Vec Ideal S2x1x6144 .i32) (l : Vec Ideal S2x1x6144 .f32)
    (h8 : ∀ b j, (row x8 b j).toNat < 6144) (h9 : ∀ b j, (row x9 b j).toNat < 6144) (b : Fin 2) (k : Fin 512) :
    Cert.Reference2Ideal.Pass2.greatest (Cert.Reference2Ideal.Pass2.scored (Cert.Reference2Ideal.Pass2.good x2 x8) (Cert.Reference2Ideal.Pass2.good x6 x9) l) (ix2 b k)
      = BitVec.ofNat 32 (chosen x2 x6 x8 x9 l b k).val := by
  rw [Cert.Reference2Ideal.Pass2.greatest_apply,
    show (fun j => Cert.Reference2Ideal.Pass2.scored (Cert.Reference2Ideal.Pass2.good x2 x8) (Cert.Reference2Ideal.Pass2.good x6 x9) l (ix2 b j)) = chance x2 x6 x8 x9 l b from funext fun j => by
      rw [Cert.Reference2Ideal.Pass2.scored_apply, show (fun j => Cert.Reference2Ideal.Pass2.good x2 x8 (ix2 b j)) = right (row x2 b) (row x8 b) from funext fun j => Cert.Reference2Ideal.Pass2.good_apply x2 x8 h8 b j,
        show (fun j => Cert.Reference2Ideal.Pass2.good x6 x9 (ix2 b j)) = right (row x6 b) (row x9 b) from funext fun j => Cert.Reference2Ideal.Pass2.good_apply x6 x9 h9 b j]
      rfl]
  rfl

variable (m : (ℓ : Loc nD τ sig) → Buf (Elt Ideal) ℓ) (c : Dev nD)

/-- The descriptor loss. -/
def outDesc : Vec Ideal S1x1 .f32 := fun _ => mean2 fun b => halves (loss (row (m ((c.tc : Thread nD τ).loc main_arg0)) b) (row (m ((c.tc : Thread nD τ).loc main_arg1)) b) (row (m ((c.tc : Thread nD τ).loc main_arg3)) b)) (loss (row (m ((c.tc : Thread nD τ).loc main_arg4)) b) (row (m ((c.tc : Thread nD τ).loc main_arg5)) b) (row (m ((c.tc : Thread nD τ).loc main_arg7)) b))

/-- The keypoint loss. -/
def outKp : Vec Ideal S1x1 .f32 := fun _ => mean2 fun b => halves (cross (row (m ((c.tc : Thread nD τ).loc main_arg10)) b) (right (row (m ((c.tc : Thread nD τ).loc main_arg2)) b) (row (m ((c.tc : Thread nD τ).loc main_arg8)) b))) (cross (row (m ((c.tc : Thread nD τ).loc main_arg11)) b) (right (row (m ((c.tc : Thread nD τ).loc main_arg6)) b) (row (m ((c.tc : Thread nD τ).loc main_arg9)) b)))

/-- The precision. -/
def outPrecision : Vec Ideal S1x1 .f32 := fun _ => mean2 fun b => ratio (right (row (m ((c.tc : Thread nD τ).loc main_arg2)) b) (row (m ((c.tc : Thread nD τ).loc main_arg8)) b)) (returned (row (m ((c.tc : Thread nD τ).loc main_arg2)) b) (row (m ((c.tc : Thread nD τ).loc main_arg6)) b))

/-- The recall. -/
def outRecall : Vec Ideal S1x1 .f32 := fun _ => mean2 fun b => part (right (row (m ((c.tc : Thread nD τ).loc main_arg2)) b) (row (m ((c.tc : Thread nD τ).loc main_arg8)) b))

/-- The rows of the first side's chosen places. -/
def outRows0 : Vec Ideal S2x512 .f32 := grid fun b k => rowOf (chosen (m ((c.tc : Thread nD τ).loc main_arg2)) (m ((c.tc : Thread nD τ).loc main_arg6)) (m ((c.tc : Thread nD τ).loc main_arg8)) (m ((c.tc : Thread nD τ).loc main_arg9)) (m ((c.tc : Thread nD τ).loc main_arg10)) b k).val

/-- The columns of the first side's chosen places. -/
def outCols0 : Vec Ideal S2x512 .f32 := grid fun b k => colOf (chosen (m ((c.tc : Thread nD τ).loc main_arg2)) (m ((c.tc : Thread nD τ).loc main_arg6)) (m ((c.tc : Thread nD τ).loc main_arg8)) (m ((c.tc : Thread nD τ).loc main_arg9)) (m ((c.tc : Thread nD τ).loc main_arg10)) b k).val

/-- The rows of the second side's chosen places. -/
def outRows1 : Vec Ideal S2x512 .f32 := grid fun b k => rowOf (chosen (m ((c.tc : Thread nD τ).loc main_arg2)) (m ((c.tc : Thread nD τ).loc main_arg6)) (m ((c.tc : Thread nD τ).loc main_arg8)) (m ((c.tc : Thread nD τ).loc main_arg9)) (m ((c.tc : Thread nD τ).loc main_arg11)) b k).val

/-- The columns of the second side's chosen places. -/
def outCols1 : Vec Ideal S2x512 .f32 := grid fun b k => colOf (chosen (m ((c.tc : Thread nD τ).loc main_arg2)) (m ((c.tc : Thread nD τ).loc main_arg6)) (m ((c.tc : Thread nD τ).loc main_arg8)) (m ((c.tc : Thread nD τ).loc main_arg9)) (m ((c.tc : Thread nD τ).loc main_arg11)) b k).val

/-- The confidences. -/
def outConf : Vec Ideal S2x2x512 .f32 := cube fun b d k => sim (row (m ((c.tc : Thread nD τ).loc main_arg1)) b) (chosen (m ((c.tc : Thread nD τ).loc main_arg2)) (m ((c.tc : Thread nD τ).loc main_arg6)) (m ((c.tc : Thread nD τ).loc main_arg8)) (m ((c.tc : Thread nD τ).loc main_arg9)) (m ((c.tc : Thread nD τ).loc main_arg10)) d k) * sim (row (m ((c.tc : Thread nD τ).loc main_arg5)) b) (chosen (m ((c.tc : Thread nD τ).loc main_arg2)) (m ((c.tc : Thread nD τ).loc main_arg6)) (m ((c.tc : Thread nD τ).loc main_arg8)) (m ((c.tc : Thread nD τ).loc main_arg9)) (m ((c.tc : Thread nD τ).loc main_arg11)) d k)

/-- The kernel of the second pass runs: its nine results are these, and its arguments are as they were. -/
theorem results (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = outDesc m c
      ∧ r.2.mem ((c.tc : Thread nD τ).loc main_v0_1) = outKp m c
      ∧ r.2.mem ((c.tc : Thread nD τ).loc main_v0_2) = outPrecision m c
      ∧ r.2.mem ((c.tc : Thread nD τ).loc main_v0_3) = outRecall m c
      ∧ r.2.mem ((c.tc : Thread nD τ).loc main_v0_4) = outRows0 m c
      ∧ r.2.mem ((c.tc : Thread nD τ).loc main_v0_5) = outCols0 m c
      ∧ r.2.mem ((c.tc : Thread nD τ).loc main_v0_6) = outRows1 m c
      ∧ r.2.mem ((c.tc : Thread nD τ).loc main_v0_7) = outCols1 m c
      ∧ r.2.mem ((c.tc : Thread nD τ).loc main_v0_8) = outConf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_) (Cert.Kernel2Ideal.Value.run m g)
  obtain ⟨h0, h1, h2, h3, h4, h5, h6, h7, h8, ha⟩ := h c
  exact ⟨h0.trans (desc_out _ _ _ _ _ _ _ _ _ _ _ _), h1.trans (kp_out _ _ _ _ _ _ _ _ _ _ _ _), h2.trans (precision_out _ _ _ _ _ _ _ _ _ _ _ _), h3.trans (recall_out _ _ _ _ _ _ _ _ _ _ _ _),
    h4.trans (out16 _ _ _ _ _ _ _ _ _ _ _ _), h5.trans (out17 _ _ _ _ _ _ _ _ _ _ _ _), h6.trans (out18 _ _ _ _ _ _ _ _ _ _ _ _), h7.trans (out19 _ _ _ _ _ _ _ _ _ _ _ _), h8.trans (out20 _ _ _ _ _ _ _ _ _ _ _ _), ha⟩

end Cert.Kernel2Ideal.Pass2

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_places_in_range
public import proofs.«01_k».proof.Proof.KFrame
public import proofs.«01_k».proof.Proof.Value
public import proofs.«01_k».proof.Proof.P2Agree
public import Idealize.ShloMosaic.Adequacy
public import Idealize.ShloMosaic.Init

@[expose] public section

noncomputable section

namespace Cert.Proof

open Idealize.ShloMosaic Idealize.SL.Sem Cert.Kernel

/-- The kernel runs, and leaves its arguments and the semaphores as they were. -/
theorem frame_p : Cert.quiescent_Kernel := fun m g _ => Cert.Kernel.Step.quiescent m g

/-- Its idealization runs likewise. -/
theorem frame_pi : Cert.quiescent_KernelIdeal := fun m g _ => Cert.KernelIdeal.Step.quiescent m g

/-- The reference runs likewise; it has no semaphore. -/
theorem frame_ri : Cert.quiescent_ReferenceIdeal := fun m g _ =>
  (θ_run Cert.ReferenceIdeal.defs _ _).mono (fun r h => ⟨fun c => (h c).2.2.2.2.2.2.2.2,
    sem_eq_zero_of_no_sems (by decide) r.2⟩) (Cert.ReferenceIdeal.Stats.run m g)

open Cert.KernelIdeal.Step in
/-- The kernel's eight results are the reference's, as extended reals, when the correspondences are in range. -/
theorem agree : Cert.algebraic_KernelIdeal_ReferenceIdeal_pre_in_range := fun m g m' g' hpre hargs => by
  refine ⟨outTop m, outMass m, outPlace m, outHit m, outColTop m, outColMass m, outColPlace m, outColHit m, results m g, ?_⟩
  refine (θ_run Cert.ReferenceIdeal.defs _ _).mono (fun r h c => ?_) (Cert.ReferenceIdeal.Stats.run m' g')
  obtain ⟨e0, e1, e2, e3⟩ := hargs c
  have hr := in_range _ _ _ _ (hpre c)
  obtain ⟨h0, h1, h2, h3, h4, h5, h6, h7, ha⟩ := h c
  rw [e0, e1] at h0 h1 h2 h3 h4 h5 h6 h7
  rw [e2] at h3
  rw [e3] at h7
  exact ⟨h0.trans (rowTops_eq m c), h1.trans (rowMasses_eq m c), h2.trans (rowPlaces_eq m c), h3.trans (rowHits_eq m c fun b p => (hr b p).1),
    h4.trans (colTops_eq m c), h5.trans (colMasses_eq m c), h6.trans (colPlaces_eq m c), h7.trans (colHits_eq m c fun b p => (hr b p).2), ha⟩

/-- The second pass runs, and leaves its arguments and the semaphores as they were. -/
theorem frame_p2 : Cert.quiescent_Kernel2 := fun m g _ => Cert.Kernel2.Gen.frame m g

/-- Its idealization runs likewise. -/
theorem frame_pi2 : Cert.quiescent_Kernel2Ideal := fun m g _ => Cert.Kernel2Ideal.Gen.frame m g

/-- Its reference runs likewise; it has no semaphore. -/
theorem frame_ri2 : Cert.quiescent_Reference2Ideal := fun m g _ =>
  (θ_run Cert.Reference2Ideal.defs _ _).mono (fun r h => ⟨fun c => (h c).2.2.2.2.2.2.2.2.2, sem_eq_zero_of_no_sems (by decide) r.2⟩) (Cert.Reference2Ideal.Pass2.run m g)

open Cert.Kernel2Ideal.Pass2 in
/-- The second pass's nine results are the reference's, as extended reals, when the places and the correspondences are in range. -/
theorem agree2 : Cert.algebraic_Kernel2Ideal_Reference2Ideal_pre_places_in_range := fun m g m' g' hpre hargs => by
  refine ⟨outDesc m, outKp m, outPrecision m, outRecall m, outRows0 m, outCols0 m, outRows1 m, outCols1 m, outConf m, results m g, ?_⟩
  refine (θ_run Cert.Reference2Ideal.defs _ _).mono (fun r h c => ?_) (Cert.Reference2Ideal.Pass2.run m' g')
  obtain ⟨e0, e1, e2, e3, e4, e5, e6, e7, e8, e9, e10, e11⟩ := hargs c
  have hr := in_range _ _ _ _ _ _ _ _ _ _ _ _ (hpre c)
  obtain ⟨h0, h1, h2, h3, h4, h5, h6, h7, h8, ha⟩ := h c
  rw [e0, e1, e3, e4, e5, e7, e8, e9] at h0
  rw [e2, e6, e8, e9, e10, e11] at h1
  rw [e2, e6, e8] at h2
  rw [e2, e8] at h3
  rw [e2, e6, e8, e9, e10] at h4 h5
  rw [e2, e6, e8, e9, e11] at h6 h7
  rw [e1, e2, e5, e6, e8, e9, e10, e11] at h8
  have g2 := fun b j => (hr b j).1
  have g6 := fun b j => (hr b j).2.1
  have g8 := fun b j => (hr b j).2.2.1
  have g9 := fun b j => (hr b j).2.2.2
  have c10 := greatest_eq (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) g8 g9
  have c11 := greatest_eq (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg11)) g8 g9
  exact ⟨h0.trans (Cert.Reference2Ideal.Pass2.desc_eq _ _ _ _ _ _ _ _ g8 g9),
    h1.trans (Cert.Reference2Ideal.Pass2.kp_eq _ _ _ _ _ _ (Cert.Reference2Ideal.Pass2.good_apply _ _ g8) (Cert.Reference2Ideal.Pass2.good_apply _ _ g9)),
    h2.trans (Cert.Reference2Ideal.Pass2.prec_eq _ _ _ _ (Cert.Reference2Ideal.Pass2.good_apply _ _ g8) (returned_eq _ _ g2 g6)),
    h3.trans (Cert.Reference2Ideal.Pass2.recall_eq _ _ _ (Cert.Reference2Ideal.Pass2.good_apply _ _ g8) g8),
    h4.trans (grid_ext _ _ fun b k => Cert.Reference2Ideal.Pass2.rowsOf_apply _ b k _ (Fin.isLt _) (c10 b k)),
    h5.trans (grid_ext _ _ fun b k => Cert.Reference2Ideal.Pass2.colsOf_apply _ b k _ (Fin.isLt _) (c10 b k)),
    h6.trans (grid_ext _ _ fun b k => Cert.Reference2Ideal.Pass2.rowsOf_apply _ b k _ (Fin.isLt _) (c11 b k)),
    h7.trans (grid_ext _ _ fun b k => Cert.Reference2Ideal.Pass2.colsOf_apply _ b k _ (Fin.isLt _) (c11 b k)),
    h8.trans (cube_ext _ _ fun b d k => Cert.Reference2Ideal.Pass2.confOf_apply _ _ _ _ b d k _ _ (c10 d k) (c11 d k)), ha⟩

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Pre_in_range.Gen.facts, Cert.Pre_places_in_range.Gen.facts,
  frame_p, frame_pi, fun m g _ => frame_pi m g trivial, frame_ri, fun m g _ => frame_ri m g trivial,
  frame_p2, frame_pi2, fun m g _ => frame_pi2 m g trivial, frame_ri2, fun m g _ => frame_ri2 m g trivial,
  trivial, agree, trivial, agree2⟩

end Cert.Proof

end
